-- ==== Defs.lean ====
def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_DWDown (m : (ℓ : Loc Cert.DWDown.nD Cert.DWDown.τ Cert.DWDown.sig) → Buf (Elt Bits) ℓ) : Prop :=
  True

def Pre_DWDownIdeal (m : (ℓ : Loc Cert.DWDownIdeal.nD Cert.DWDownIdeal.τ Cert.DWDownIdeal.sig) → Buf (Elt Ideal) ℓ) : Prop :=
  True

def Pre_DWDownRefIdeal (m : (ℓ : Loc Cert.DWDownRefIdeal.nD Cert.DWDownRefIdeal.τ Cert.DWDownRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActIdeal_dact_finite [hPre_dact_finite : Cert.Pre_dact_finite.Facts] (m : (ℓ : Loc Cert.DActIdeal.nD Cert.DActIdeal.τ Cert.DActIdeal.sig) → Buf (Elt Ideal) ℓ) : Prop :=
  ∀ c : Dev Cert.DActIdeal.nD,
    (Cert.Pre_dact_finite.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).1 = (fun _ => 1#1)
    ∧ (Cert.Pre_dact_finite.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).2.1 = (fun _ => 1#1)
    ∧ (Cert.Pre_dact_finite.fn (F := Ideal) (m ((c.tc : Thread Cert.DActIdeal.nD Cert.DActIdeal.τ).loc Cert.DActIdeal.main_arg0)) (m ((c.tc : Thread Cert.DActIdeal.nD Cert.DActIdeal.τ).loc Cert.DActIdeal.main_arg1)) (m ((c.tc : Thread Cert.DActIdeal.nD Cert.DActIdeal.τ).loc Cert.DActIdeal.main_arg2)) (m ((c.tc : Thread Cert.DActIdeal.nD Cert.DActIdeal.τ).loc Cert.DActIdeal.main_arg3))).2.2 = (fun _ => 1#1)

def Pre_DActRefIdeal (m : (ℓ : Loc Cert.DActRefIdeal.nD Cert.DActRefIdeal.τ Cert.DActRefIdeal.sig) → Buf (Elt Ideal) ℓ) : Prop :=
  True

def Pre_DActRefIdeal_dact_finite [hPre_dact_finite : Cert.Pre_dact_finite.Facts] (m : (ℓ : Loc Cert.DActRefIdeal.nD Cert.DActRefIdeal.τ Cert.DActRefIdeal.sig) → Buf (Elt Ideal) ℓ) : Prop :=
  ∀ c : Dev Cert.DActRefIdeal.nD,
    (Cert.Pre_dact_finite.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).1 = (fun _ => 1#1)
    ∧ (Cert.Pre_dact_finite.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).2.1 = (fun _ => 1#1)
    ∧ (Cert.Pre_dact_finite.fn (F := Ideal) (m ((c.tc : Thread Cert.DActRefIdeal.nD Cert.DActRefIdeal.τ).loc Cert.DActRefIdeal.main_arg0)) (m ((c.tc : Thread Cert.DActRefIdeal.nD Cert.DActRefIdeal.τ).loc Cert.DActRefIdeal.main_arg1)) (m ((c.tc : Thread Cert.DActRefIdeal.nD Cert.DActRefIdeal.τ).loc Cert.DActRefIdeal.main_arg2)) (m ((c.tc : Thread Cert.DActRefIdeal.nD Cert.DActRefIdeal.τ).loc Cert.DActRefIdeal.main_arg3))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXRefIdeal (m : (ℓ : Loc Cert.DXRefIdeal.nD Cert.DXRefIdeal.τ Cert.DXRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_AdamFF (m : (ℓ : Loc Cert.AdamFF.nD Cert.AdamFF.τ Cert.AdamFF.sig) → Buf (Elt Bits) ℓ) : Prop :=
  True

def Pre_AdamFFIdeal (m : (ℓ : Loc Cert.AdamFFIdeal.nD Cert.AdamFFIdeal.τ Cert.AdamFFIdeal.sig) → Buf (Elt Ideal) ℓ) : Prop :=
  True

def Pre_AdamFFRefIdeal (m : (ℓ : Loc Cert.AdamFFRefIdeal.nD Cert.AdamFFRefIdeal.τ Cert.AdamFFRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_LN1 (m : (ℓ : Loc Cert.LN1.nD Cert.LN1.τ Cert.LN1.sig) → Buf (Elt Bits) ℓ) : Prop :=
  True

def Pre_LN1Ideal (m : (ℓ : Loc Cert.LN1Ideal.nD Cert.LN1Ideal.τ Cert.LN1Ideal.sig) → Buf (Elt Ideal) ℓ) : Prop :=
  True

def Pre_LN1RefIdeal (m : (ℓ : Loc Cert.LN1RefIdeal.nD Cert.LN1RefIdeal.τ Cert.LN1RefIdeal.sig) → Buf (Elt Ideal) ℓ) : Prop :=
  True

def Pre_LN1Bwd (m : (ℓ : Loc Cert.LN1Bwd.nD Cert.LN1Bwd.τ Cert.LN1Bwd.sig) → Buf (Elt Bits) ℓ) : Prop :=
  True

def Pre_LN1BwdIdeal (m : (ℓ : Loc Cert.LN1BwdIdeal.nD Cert.LN1BwdIdeal.τ Cert.LN1BwdIdeal.sig) → Buf (Elt Ideal) ℓ) : Prop :=
  True

def Pre_LN1BwdIdeal_ln1_bwd_finite [hPre_ln1_bwd_finite : Cert.Pre_ln1_bwd_finite.Facts] (m : (ℓ : Loc Cert.LN1BwdIdeal.nD Cert.LN1BwdIdeal.τ Cert.LN1BwdIdeal.sig) → Buf (Elt Ideal) ℓ) : Prop :=
  ∀ c : Dev Cert.LN1BwdIdeal.nD,
    (Cert.Pre_ln1_bwd_finite.fn (F := Ideal) (m ((c.tc : Thread Cert.LN1BwdIdeal.nD Cert.LN1BwdIdeal.τ).loc Cert.LN1BwdIdeal.main_arg0)) (m ((c.tc : Thread Cert.LN1BwdIdeal.nD Cert.LN1BwdIdeal.τ).loc Cert.LN1BwdIdeal.main_arg1)) (m ((c.tc : Thread Cert.LN1BwdIdeal.nD Cert.LN1BwdIdeal.τ).loc Cert.LN1BwdIdeal.main_arg2))).1 = (fun _ => 1#1)
    ∧ (Cert.Pre_ln1_bwd_finite.fn (F := Ideal) (m ((c.tc : Thread Cert.LN1BwdIdeal.nD Cert.LN1BwdIdeal.τ).loc Cert.LN1BwdIdeal.main_arg0)) (m ((c.tc : Thread Cert.LN1BwdIdeal.nD Cert.LN1BwdIdeal.τ).loc Cert.LN1BwdIdeal.main_arg1)) (m ((c.tc : Thread Cert.LN1BwdIdeal.nD Cert.LN1BwdIdeal.τ).loc Cert.LN1BwdIdeal.main_arg2))).2 = (fun _ => 1#1)

def Pre_LN1BwdRefIdeal (m : (ℓ : Loc Cert.LN1BwdRefIdeal.nD Cert.LN1BwdRefIdeal.τ Cert.LN1BwdRefIdeal.sig) → Buf (Elt Ideal) ℓ) : Prop :=
  True

def Pre_LN1BwdRefIdeal_ln1_bwd_finite [hPre_ln1_bwd_finite : Cert.Pre_ln1_bwd_finite.Facts] (m : (ℓ : Loc Cert.LN1BwdRefIdeal.nD Cert.LN1BwdRefIdeal.τ Cert.LN1BwdRefIdeal.sig) → Buf (Elt Ideal) ℓ) : Prop :=
  ∀ c : Dev Cert.LN1BwdRefIdeal.nD,
    (Cert.Pre_ln1_bwd_finite.fn (F := Ideal) (m ((c.tc : Thread Cert.LN1BwdRefIdeal.nD Cert.LN1BwdRefIdeal.τ).loc Cert.LN1BwdRefIdeal.main_arg0)) (m ((c.tc : Thread Cert.LN1BwdRefIdeal.nD Cert.LN1BwdRefIdeal.τ).loc Cert.LN1BwdRefIdeal.main_arg1)) (m ((c.tc : Thread Cert.LN1BwdRefIdeal.nD Cert.LN1BwdRefIdeal.τ).loc Cert.LN1BwdRefIdeal.main_arg2))).1 = (fun _ => 1#1)
    ∧ (Cert.Pre_ln1_bwd_finite.fn (F := Ideal) (m ((c.tc : Thread Cert.LN1BwdRefIdeal.nD Cert.LN1BwdRefIdeal.τ).loc Cert.LN1BwdRefIdeal.main_arg0)) (m ((c.tc : Thread Cert.LN1BwdRefIdeal.nD Cert.LN1BwdRefIdeal.τ).loc Cert.LN1BwdRefIdeal.main_arg1)) (m ((c.tc : Thread Cert.LN1BwdRefIdeal.nD Cert.LN1BwdRefIdeal.τ).loc Cert.LN1BwdRefIdeal.main_arg2))).2 = (fun _ => 1#1)

def Pre_LN2Loss (m : (ℓ : Loc Cert.LN2Loss.nD Cert.LN2Loss.τ Cert.LN2Loss.sig) → Buf (Elt Bits) ℓ) : Prop :=
  True

def Pre_LN2LossIdeal (m : (ℓ : Loc Cert.LN2LossIdeal.nD Cert.LN2LossIdeal.τ Cert.LN2LossIdeal.sig) → Buf (Elt Ideal) ℓ) : Prop :=
  True

def Pre_LN2LossIdeal_ln2_loss_finite [hPre_ln2_loss_finite : Cert.Pre_ln2_loss_finite.Facts] (m : (ℓ : Loc Cert.LN2LossIdeal.nD Cert.LN2LossIdeal.τ Cert.LN2LossIdeal.sig) → Buf (Elt Ideal) ℓ) : Prop :=
  ∀ c : Dev Cert.LN2LossIdeal.nD,
    (Cert.Pre_ln2_loss_finite.fn (F := Ideal) (m ((c.tc : Thread Cert.LN2LossIdeal.nD Cert.LN2LossIdeal.τ).loc Cert.LN2LossIdeal.main_arg0)) (m ((c.tc : Thread Cert.LN2LossIdeal.nD Cert.LN2LossIdeal.τ).loc Cert.LN2LossIdeal.main_arg1)) (m ((c.tc : Thread Cert.LN2LossIdeal.nD Cert.LN2LossIdeal.τ).loc Cert.LN2LossIdeal.main_arg2)) (m ((c.tc : Thread Cert.LN2LossIdeal.nD Cert.LN2LossIdeal.τ).loc Cert.LN2LossIdeal.main_arg3))).1 = (fun _ => 1#1)
    ∧ (Cert.Pre_ln2_loss_finite.fn (F := Ideal) (m ((c.tc : Thread Cert.LN2LossIdeal.nD Cert.LN2LossIdeal.τ).loc Cert.LN2LossIdeal.main_arg0)) (m ((c.tc : Thread Cert.LN2LossIdeal.nD Cert.LN2LossIdeal.τ).loc Cert.LN2LossIdeal.main_arg1)) (m ((c.tc : Thread Cert.LN2LossIdeal.nD Cert.LN2LossIdeal.τ).loc Cert.LN2LossIdeal.main_arg2)) (m ((c.tc : Thread Cert.LN2LossIdeal.nD Cert.LN2LossIdeal.τ).loc Cert.LN2LossIdeal.main_arg3))).2.1 = (fun _ => 1#1)
    ∧ (Cert.Pre_ln2_loss_finite.fn (F := Ideal) (m ((c.tc : Thread Cert.LN2LossIdeal.nD Cert.LN2LossIdeal.τ).loc Cert.LN2LossIdeal.main_arg0)) (m ((c.tc : Thread Cert.LN2LossIdeal.nD Cert.LN2LossIdeal.τ).loc Cert.LN2LossIdeal.main_arg1)) (m ((c.tc : Thread Cert.LN2LossIdeal.nD Cert.LN2LossIdeal.τ).loc Cert.LN2LossIdeal.main_arg2)) (m ((c.tc : Thread Cert.LN2LossIdeal.nD Cert.LN2LossIdeal.τ).loc Cert.LN2LossIdeal.main_arg3))).2.2 = (fun _ => 1#1)

def Pre_LN2LossRefIdeal (m : (ℓ : Loc Cert.LN2LossRefIdeal.nD Cert.LN2LossRefIdeal.τ Cert.LN2LossRefIdeal.sig) → Buf (Elt Ideal) ℓ) : Prop :=
  True

def Pre_LN2LossRefIdeal_ln2_loss_finite [hPre_ln2_loss_finite : Cert.Pre_ln2_loss_finite.Facts] (m : (ℓ : Loc Cert.LN2LossRefIdeal.nD Cert.LN2LossRefIdeal.τ Cert.LN2LossRefIdeal.sig) → Buf (Elt Ideal) ℓ) : Prop :=
  ∀ c : Dev Cert.LN2LossRefIdeal.nD,
    (Cert.Pre_ln2_loss_finite.fn (F := Ideal) (m ((c.tc : Thread Cert.LN2LossRefIdeal.nD Cert.LN2LossRefIdeal.τ).loc Cert.LN2LossRefIdeal.main_arg0)) (m ((c.tc : Thread Cert.LN2LossRefIdeal.nD Cert.LN2LossRefIdeal.τ).loc Cert.LN2LossRefIdeal.main_arg1)) (m ((c.tc : Thread Cert.LN2LossRefIdeal.nD Cert.LN2LossRefIdeal.τ).loc Cert.LN2LossRefIdeal.main_arg2)) (m ((c.tc : Thread Cert.LN2LossRefIdeal.nD Cert.LN2LossRefIdeal.τ).loc Cert.LN2LossRefIdeal.main_arg3))).1 = (fun _ => 1#1)
    ∧ (Cert.Pre_ln2_loss_finite.fn (F := Ideal) (m ((c.tc : Thread Cert.LN2LossRefIdeal.nD Cert.LN2LossRefIdeal.τ).loc Cert.LN2LossRefIdeal.main_arg0)) (m ((c.tc : Thread Cert.LN2LossRefIdeal.nD Cert.LN2LossRefIdeal.τ).loc Cert.LN2LossRefIdeal.main_arg1)) (m ((c.tc : Thread Cert.LN2LossRefIdeal.nD Cert.LN2LossRefIdeal.τ).loc Cert.LN2LossRefIdeal.main_arg2)) (m ((c.tc : Thread Cert.LN2LossRefIdeal.nD Cert.LN2LossRefIdeal.τ).loc Cert.LN2LossRefIdeal.main_arg3))).2.1 = (fun _ => 1#1)
    ∧ (Cert.Pre_ln2_loss_finite.fn (F := Ideal) (m ((c.tc : Thread Cert.LN2LossRefIdeal.nD Cert.LN2LossRefIdeal.τ).loc Cert.LN2LossRefIdeal.main_arg0)) (m ((c.tc : Thread Cert.LN2LossRefIdeal.nD Cert.LN2LossRefIdeal.τ).loc Cert.LN2LossRefIdeal.main_arg1)) (m ((c.tc : Thread Cert.LN2LossRefIdeal.nD Cert.LN2LossRefIdeal.τ).loc Cert.LN2LossRefIdeal.main_arg2)) (m ((c.tc : Thread Cert.LN2LossRefIdeal.nD Cert.LN2LossRefIdeal.τ).loc Cert.LN2LossRefIdeal.main_arg3))).2.2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Patch (m : (ℓ : Loc Cert.Patch.nD Cert.Patch.τ Cert.Patch.sig) → Buf (Elt Bits) ℓ) : Prop :=
  True

def Pre_PatchIdeal (m : (ℓ : Loc Cert.PatchIdeal.nD Cert.PatchIdeal.τ Cert.PatchIdeal.sig) → Buf (Elt Ideal) ℓ) : Prop :=
  True

def Pre_PatchRefIdeal (m : (ℓ : Loc Cert.PatchRefIdeal.nD Cert.PatchRefIdeal.τ Cert.PatchRefIdeal.sig) → Buf (Elt Ideal) ℓ) : Prop :=
  True

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1))
      ∧ r.2.sem = fun _ => 0)

def quiescent_DWDown [hDWDown : Cert.DWDown.Facts] : Prop :=
  ∀ (m : (ℓ : Loc Cert.DWDown.nD Cert.DWDown.τ Cert.DWDown.sig) → Buf (Elt Bits) ℓ) (g : Dev Cert.DWDown.nD → PrngReg), Pre_DWDown m →
    θ_run (Cert.DWDown.defs (F := Bits)) (onTc (τ := Cert.DWDown.τ) (Cert.DWDown.main (F := Bits))) ⟨m, fun _ => 0, g⟩ (fun r => (∀ c : Dev Cert.DWDown.nD,
      r.2.mem ((c.tc : Thread Cert.DWDown.nD Cert.DWDown.τ).loc Cert.DWDown.main_arg0) = m ((c.tc : Thread Cert.DWDown.nD Cert.DWDown.τ).loc Cert.DWDown.main_arg0)
      ∧ r.2.mem ((c.tc : Thread Cert.DWDown.nD Cert.DWDown.τ).loc Cert.DWDown.main_arg1) = m ((c.tc : Thread Cert.DWDown.nD Cert.DWDown.τ).loc Cert.DWDown.main_arg1))
      ∧ r.2.sem = fun _ => 0)

def quiescent_DWDownIdeal [hDWDownIdeal : Cert.DWDownIdeal.Facts] : Prop :=
  ∀ (m : (ℓ : Loc Cert.DWDownIdeal.nD Cert.DWDownIdeal.τ Cert.DWDownIdeal.sig) → Buf (Elt Ideal) ℓ) (g : Dev Cert.DWDownIdeal.nD → PrngReg), Pre_DWDownIdeal m →
    θ_run (Cert.DWDownIdeal.defs (F := Ideal)) (onTc (τ := Cert.DWDownIdeal.τ) (Cert.DWDownIdeal.main (F := Ideal))) ⟨m, fun _ => 0, g⟩ (fun r => (∀ c : Dev Cert.DWDownIdeal.nD,
      r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
      ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ r.2.sem = fun _ => 0)

def quiescent_DWDownRefIdeal [hDWDownRefIdeal : Cert.DWDownRefIdeal.Facts] : Prop :=
  ∀ (m : (ℓ : Loc Cert.DWDownRefIdeal.nD Cert.DWDownRefIdeal.τ Cert.DWDownRefIdeal.sig) → Buf (Elt Ideal) ℓ) (g : Dev Cert.DWDownRefIdeal.nD → PrngReg), Pre_DWDownRefIdeal m →
    θ_run (Cert.DWDownRefIdeal.defs (F := Ideal)) (onTc (τ := Cert.DWDownRefIdeal.τ) (Cert.DWDownRefIdeal.main (F := Ideal))) ⟨m, fun _ => 0, g⟩ (fun r => (∀ c : Dev Cert.DWDownRefIdeal.nD,
      r.2.mem ((c.tc : Thread Cert.DWDownRefIdeal.nD Cert.DWDownRefIdeal.τ).loc Cert.DWDownRefIdeal.main_arg0) = m ((c.tc : Thread Cert.DWDownRefIdeal.nD Cert.DWDownRefIdeal.τ).loc Cert.DWDownRefIdeal.main_arg0)
      ∧ r.2.mem ((c.tc : Thread Cert.DWDownRefIdeal.nD Cert.DWDownRefIdeal.τ).loc Cert.DWDownRefIdeal.main_arg1) = m ((c.tc : Thread Cert.DWDownRefIdeal.nD Cert.DWDownRefIdeal.τ).loc Cert.DWDownRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2)
      ∧ r.2.mem ((c.tc : Thread Cert.DAct.nD Cert.DAct.τ).loc Cert.DAct.main_arg3) = m ((c.tc : Thread Cert.DAct.nD Cert.DAct.τ).loc Cert.DAct.main_arg3))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ r.2.sem = fun _ => 0)

def quiescent_DActIdeal_pre_dact_finite [hDActIdeal : Cert.DActIdeal.Facts] [hPre_dact_finite : Cert.Pre_dact_finite.Facts] : Prop :=
  ∀ (m : (ℓ : Loc Cert.DActIdeal.nD Cert.DActIdeal.τ Cert.DActIdeal.sig) → Buf (Elt Ideal) ℓ) (g : Dev Cert.DActIdeal.nD → PrngReg), Pre_DActIdeal_dact_finite m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
      ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
      ∧ r.2.sem = fun _ => 0)

def quiescent_DActRefIdeal_pre_dact_finite [hDActRefIdeal : Cert.DActRefIdeal.Facts] [hPre_dact_finite : Cert.Pre_dact_finite.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal_dact_finite m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2)
      ∧ r.2.mem ((c.tc : Thread Cert.DActRefIdeal.nD Cert.DActRefIdeal.τ).loc Cert.DActRefIdeal.main_arg3) = m ((c.tc : Thread Cert.DActRefIdeal.nD Cert.DActRefIdeal.τ).loc Cert.DActRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1)
      ∧ r.2.mem ((c.tc : Thread Cert.DH1.nD Cert.DH1.τ).loc Cert.DH1.main_arg2) = m ((c.tc : Thread Cert.DH1.nD Cert.DH1.τ).loc Cert.DH1.main_arg2)
      ∧ r.2.mem ((c.tc : Thread Cert.DH1.nD Cert.DH1.τ).loc Cert.DH1.main_arg3) = m ((c.tc : Thread Cert.DH1.nD Cert.DH1.τ).loc Cert.DH1.main_arg3)
      ∧ r.2.mem ((c.tc : Thread Cert.DH1.nD Cert.DH1.τ).loc Cert.DH1.main_arg4) = m ((c.tc : Thread Cert.DH1.nD Cert.DH1.τ).loc Cert.DH1.main_arg4))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
      ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
      ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
      ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1)
      ∧ r.2.mem ((c.tc : Thread Cert.DH1RefIdeal.nD Cert.DH1RefIdeal.τ).loc Cert.DH1RefIdeal.main_arg2) = m ((c.tc : Thread Cert.DH1RefIdeal.nD Cert.DH1RefIdeal.τ).loc Cert.DH1RefIdeal.main_arg2)
      ∧ r.2.mem ((c.tc : Thread Cert.DH1RefIdeal.nD Cert.DH1RefIdeal.τ).loc Cert.DH1RefIdeal.main_arg3) = m ((c.tc : Thread Cert.DH1RefIdeal.nD Cert.DH1RefIdeal.τ).loc Cert.DH1RefIdeal.main_arg3)
      ∧ r.2.mem ((c.tc : Thread Cert.DH1RefIdeal.nD Cert.DH1RefIdeal.τ).loc Cert.DH1RefIdeal.main_arg4) = m ((c.tc : Thread Cert.DH1RefIdeal.nD Cert.DH1RefIdeal.τ).loc Cert.DH1RefIdeal.main_arg4))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1)
      ∧ r.2.mem ((c.tc : Thread Cert.DX.nD Cert.DX.τ).loc Cert.DX.main_arg2) = m ((c.tc : Thread Cert.DX.nD Cert.DX.τ).loc Cert.DX.main_arg2))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2))
      ∧ r.2.sem = fun _ => 0)

def quiescent_DXRefIdeal [hDXRefIdeal : Cert.DXRefIdeal.Facts] : Prop :=
  ∀ (m : (ℓ : Loc Cert.DXRefIdeal.nD Cert.DXRefIdeal.τ Cert.DXRefIdeal.sig) → Buf (Elt Ideal) ℓ) (g : Dev Cert.DXRefIdeal.nD → PrngReg), Pre_DXRefIdeal m →
    θ_run (Cert.DXRefIdeal.defs (F := Ideal)) (onTc (τ := Cert.DXRefIdeal.τ) (Cert.DXRefIdeal.main (F := Ideal))) ⟨m, fun _ => 0, g⟩ (fun r => (∀ c : Dev Cert.DXRefIdeal.nD,
      r.2.mem ((c.tc : Thread Cert.DXRefIdeal.nD Cert.DXRefIdeal.τ).loc Cert.DXRefIdeal.main_arg0) = m ((c.tc : Thread Cert.DXRefIdeal.nD Cert.DXRefIdeal.τ).loc Cert.DXRefIdeal.main_arg0)
      ∧ r.2.mem ((c.tc : Thread Cert.DXRefIdeal.nD Cert.DXRefIdeal.τ).loc Cert.DXRefIdeal.main_arg1) = m ((c.tc : Thread Cert.DXRefIdeal.nD Cert.DXRefIdeal.τ).loc Cert.DXRefIdeal.main_arg1)
      ∧ r.2.mem ((c.tc : Thread Cert.DXRefIdeal.nD Cert.DXRefIdeal.τ).loc Cert.DXRefIdeal.main_arg2) = m ((c.tc : Thread Cert.DXRefIdeal.nD Cert.DXRefIdeal.τ).loc Cert.DXRefIdeal.main_arg2))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1))
      ∧ r.2.sem = fun _ => 0)

def quiescent_AdamFF [hAdamFF : Cert.AdamFF.Facts] : Prop :=
  ∀ (m : (ℓ : Loc Cert.AdamFF.nD Cert.AdamFF.τ Cert.AdamFF.sig) → Buf (Elt Bits) ℓ) (g : Dev Cert.AdamFF.nD → PrngReg), Pre_AdamFF m →
    θ_run (Cert.AdamFF.defs (F := Bits)) (onTc (τ := Cert.AdamFF.τ) (Cert.AdamFF.main (F := Bits))) ⟨m, fun _ => 0, g⟩ (fun r => (∀ c : Dev Cert.AdamFF.nD,
      r.2.mem ((c.tc : Thread Cert.AdamFF.nD Cert.AdamFF.τ).loc Cert.AdamFF.main_arg0) = m ((c.tc : Thread Cert.AdamFF.nD Cert.AdamFF.τ).loc Cert.AdamFF.main_arg0)
      ∧ r.2.mem ((c.tc : Thread Cert.AdamFF.nD Cert.AdamFF.τ).loc Cert.AdamFF.main_arg1) = m ((c.tc : Thread Cert.AdamFF.nD Cert.AdamFF.τ).loc Cert.AdamFF.main_arg1)
      ∧ r.2.mem ((c.tc : Thread Cert.AdamFF.nD Cert.AdamFF.τ).loc Cert.AdamFF.main_arg2) = m ((c.tc : Thread Cert.AdamFF.nD Cert.AdamFF.τ).loc Cert.AdamFF.main_arg2)
      ∧ r.2.mem ((c.tc : Thread Cert.AdamFF.nD Cert.AdamFF.τ).loc Cert.AdamFF.main_arg3) = m ((c.tc : Thread Cert.AdamFF.nD Cert.AdamFF.τ).loc Cert.AdamFF.main_arg3))
      ∧ r.2.sem = fun _ => 0)

def quiescent_AdamFFIdeal [hAdamFFIdeal : Cert.AdamFFIdeal.Facts] : Prop :=
  ∀ (m : (ℓ : Loc Cert.AdamFFIdeal.nD Cert.AdamFFIdeal.τ Cert.AdamFFIdeal.sig) → Buf (Elt Ideal) ℓ) (g : Dev Cert.AdamFFIdeal.nD → PrngReg), Pre_AdamFFIdeal m →
    θ_run (Cert.AdamFFIdeal.defs (F := Ideal)) (onTc (τ := Cert.AdamFFIdeal.τ) (Cert.AdamFFIdeal.main (F := Ideal))) ⟨m, fun _ => 0, g⟩ (fun r => (∀ c : Dev Cert.AdamFFIdeal.nD,
      r.2.mem ((c.tc : Thread Cert.AdamFFIdeal.nD Cert.AdamFFIdeal.τ).loc Cert.AdamFFIdeal.main_arg0) = m ((c.tc : Thread Cert.AdamFFIdeal.nD Cert.AdamFFIdeal.τ).loc Cert.AdamFFIdeal.main_arg0)
      ∧ r.2.mem ((c.tc : Thread Cert.AdamFFIdeal.nD Cert.AdamFFIdeal.τ).loc Cert.AdamFFIdeal.main_arg1) = m ((c.tc : Thread Cert.AdamFFIdeal.nD Cert.AdamFFIdeal.τ).loc Cert.AdamFFIdeal.main_arg1)
      ∧ r.2.mem ((c.tc : Thread Cert.AdamFFIdeal.nD Cert.AdamFFIdeal.τ).loc Cert.AdamFFIdeal.main_arg2) = m ((c.tc : Thread Cert.AdamFFIdeal.nD Cert.AdamFFIdeal.τ).loc Cert.AdamFFIdeal.main_arg2)
      ∧ r.2.mem ((c.tc : Thread Cert.AdamFFIdeal.nD Cert.AdamFFIdeal.τ).loc Cert.AdamFFIdeal.main_arg3) = m ((c.tc : Thread Cert.AdamFFIdeal.nD Cert.AdamFFIdeal.τ).loc Cert.AdamFFIdeal.main_arg3))
      ∧ r.2.sem = fun _ => 0)

def quiescent_AdamFFRefIdeal [hAdamFFRefIdeal : Cert.AdamFFRefIdeal.Facts] : Prop :=
  ∀ (m : (ℓ : Loc Cert.AdamFFRefIdeal.nD Cert.AdamFFRefIdeal.τ Cert.AdamFFRefIdeal.sig) → Buf (Elt Ideal) ℓ) (g : Dev Cert.AdamFFRefIdeal.nD → PrngReg), Pre_AdamFFRefIdeal m →
    θ_run (Cert.AdamFFRefIdeal.defs (F := Ideal)) (onTc (τ := Cert.AdamFFRefIdeal.τ) (Cert.AdamFFRefIdeal.main (F := Ideal))) ⟨m, fun _ => 0, g⟩ (fun r => (∀ c : Dev Cert.AdamFFRefIdeal.nD,
      r.2.mem ((c.tc : Thread Cert.AdamFFRefIdeal.nD Cert.AdamFFRefIdeal.τ).loc Cert.AdamFFRefIdeal.main_arg0) = m ((c.tc : Thread Cert.AdamFFRefIdeal.nD Cert.AdamFFRefIdeal.τ).loc Cert.AdamFFRefIdeal.main_arg0)
      ∧ r.2.mem ((c.tc : Thread Cert.AdamFFRefIdeal.nD Cert.AdamFFRefIdeal.τ).loc Cert.AdamFFRefIdeal.main_arg1) = m ((c.tc : Thread Cert.AdamFFRefIdeal.nD Cert.AdamFFRefIdeal.τ).loc Cert.AdamFFRefIdeal.main_arg1)
      ∧ r.2.mem ((c.tc : Thread Cert.AdamFFRefIdeal.nD Cert.AdamFFRefIdeal.τ).loc Cert.AdamFFRefIdeal.main_arg2) = m ((c.tc : Thread Cert.AdamFFRefIdeal.nD Cert.AdamFFRefIdeal.τ).loc Cert.AdamFFRefIdeal.main_arg2)
      ∧ r.2.mem ((c.tc : Thread Cert.AdamFFRefIdeal.nD Cert.AdamFFRefIdeal.τ).loc Cert.AdamFFRefIdeal.main_arg3) = m ((c.tc : Thread Cert.AdamFFRefIdeal.nD Cert.AdamFFRefIdeal.τ).loc Cert.AdamFFRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_LN1 [hLN1 : Cert.LN1.Facts] : Prop :=
  ∀ (m : (ℓ : Loc Cert.LN1.nD Cert.LN1.τ Cert.LN1.sig) → Buf (Elt Bits) ℓ) (g : Dev Cert.LN1.nD → PrngReg), Pre_LN1 m →
    θ_run (Cert.LN1.defs (F := Bits)) (onTc (τ := Cert.LN1.τ) (Cert.LN1.main (F := Bits))) ⟨m, fun _ => 0, g⟩ (fun r => (∀ c : Dev Cert.LN1.nD,
      r.2.mem ((c.tc : Thread Cert.LN1.nD Cert.LN1.τ).loc Cert.LN1.main_arg0) = m ((c.tc : Thread Cert.LN1.nD Cert.LN1.τ).loc Cert.LN1.main_arg0)
      ∧ r.2.mem ((c.tc : Thread Cert.LN1.nD Cert.LN1.τ).loc Cert.LN1.main_arg1) = m ((c.tc : Thread Cert.LN1.nD Cert.LN1.τ).loc Cert.LN1.main_arg1)
      ∧ r.2.mem ((c.tc : Thread Cert.LN1.nD Cert.LN1.τ).loc Cert.LN1.main_arg2) = m ((c.tc : Thread Cert.LN1.nD Cert.LN1.τ).loc Cert.LN1.main_arg2))
      ∧ r.2.sem = fun _ => 0)

def quiescent_LN1Ideal [hLN1Ideal : Cert.LN1Ideal.Facts] : Prop :=
  ∀ (m : (ℓ : Loc Cert.LN1Ideal.nD Cert.LN1Ideal.τ Cert.LN1Ideal.sig) → Buf (Elt Ideal) ℓ) (g : Dev Cert.LN1Ideal.nD → PrngReg), Pre_LN1Ideal m →
    θ_run (Cert.LN1Ideal.defs (F := Ideal)) (onTc (τ := Cert.LN1Ideal.τ) (Cert.LN1Ideal.main (F := Ideal))) ⟨m, fun _ => 0, g⟩ (fun r => (∀ c : Dev Cert.LN1Ideal.nD,
      r.2.mem ((c.tc : Thread Cert.LN1Ideal.nD Cert.LN1Ideal.τ).loc Cert.LN1Ideal.main_arg0) = m ((c.tc : Thread Cert.LN1Ideal.nD Cert.LN1Ideal.τ).loc Cert.LN1Ideal.main_arg0)
      ∧ r.2.mem ((c.tc : Thread Cert.LN1Ideal.nD Cert.LN1Ideal.τ).loc Cert.LN1Ideal.main_arg1) = m ((c.tc : Thread Cert.LN1Ideal.nD Cert.LN1Ideal.τ).loc Cert.LN1Ideal.main_arg1)
      ∧ r.2.mem ((c.tc : Thread Cert.LN1Ideal.nD Cert.LN1Ideal.τ).loc Cert.LN1Ideal.main_arg2) = m ((c.tc : Thread Cert.LN1Ideal.nD Cert.LN1Ideal.τ).loc Cert.LN1Ideal.main_arg2))
      ∧ r.2.sem = fun _ => 0)

def quiescent_LN1RefIdeal [hLN1RefIdeal : Cert.LN1RefIdeal.Facts] : Prop :=
  ∀ (m : (ℓ : Loc Cert.LN1RefIdeal.nD Cert.LN1RefIdeal.τ Cert.LN1RefIdeal.sig) → Buf (Elt Ideal) ℓ) (g : Dev Cert.LN1RefIdeal.nD → PrngReg), Pre_LN1RefIdeal m →
    θ_run (Cert.LN1RefIdeal.defs (F := Ideal)) (onTc (τ := Cert.LN1RefIdeal.τ) (Cert.LN1RefIdeal.main (F := Ideal))) ⟨m, fun _ => 0, g⟩ (fun r => (∀ c : Dev Cert.LN1RefIdeal.nD,
      r.2.mem ((c.tc : Thread Cert.LN1RefIdeal.nD Cert.LN1RefIdeal.τ).loc Cert.LN1RefIdeal.main_arg0) = m ((c.tc : Thread Cert.LN1RefIdeal.nD Cert.LN1RefIdeal.τ).loc Cert.LN1RefIdeal.main_arg0)
      ∧ r.2.mem ((c.tc : Thread Cert.LN1RefIdeal.nD Cert.LN1RefIdeal.τ).loc Cert.LN1RefIdeal.main_arg1) = m ((c.tc : Thread Cert.LN1RefIdeal.nD Cert.LN1RefIdeal.τ).loc Cert.LN1RefIdeal.main_arg1)
      ∧ r.2.mem ((c.tc : Thread Cert.LN1RefIdeal.nD Cert.LN1RefIdeal.τ).loc Cert.LN1RefIdeal.main_arg2) = m ((c.tc : Thread Cert.LN1RefIdeal.nD Cert.LN1RefIdeal.τ).loc Cert.LN1RefIdeal.main_arg2))
      ∧ r.2.sem = fun _ => 0)

def quiescent_LN1Bwd [hLN1Bwd : Cert.LN1Bwd.Facts] : Prop :=
  ∀ (m : (ℓ : Loc Cert.LN1Bwd.nD Cert.LN1Bwd.τ Cert.LN1Bwd.sig) → Buf (Elt Bits) ℓ) (g : Dev Cert.LN1Bwd.nD → PrngReg), Pre_LN1Bwd m →
    θ_run (Cert.LN1Bwd.defs (F := Bits)) (onTc (τ := Cert.LN1Bwd.τ) (Cert.LN1Bwd.main (F := Bits))) ⟨m, fun _ => 0, g⟩ (fun r => (∀ c : Dev Cert.LN1Bwd.nD,
      r.2.mem ((c.tc : Thread Cert.LN1Bwd.nD Cert.LN1Bwd.τ).loc Cert.LN1Bwd.main_arg0) = m ((c.tc : Thread Cert.LN1Bwd.nD Cert.LN1Bwd.τ).loc Cert.LN1Bwd.main_arg0)
      ∧ r.2.mem ((c.tc : Thread Cert.LN1Bwd.nD Cert.LN1Bwd.τ).loc Cert.LN1Bwd.main_arg1) = m ((c.tc : Thread Cert.LN1Bwd.nD Cert.LN1Bwd.τ).loc Cert.LN1Bwd.main_arg1)
      ∧ r.2.mem ((c.tc : Thread Cert.LN1Bwd.nD Cert.LN1Bwd.τ).loc Cert.LN1Bwd.main_arg2) = m ((c.tc : Thread Cert.LN1Bwd.nD Cert.LN1Bwd.τ).loc Cert.LN1Bwd.main_arg2))
      ∧ r.2.sem = fun _ => 0)

def quiescent_LN1BwdIdeal [hLN1BwdIdeal : Cert.LN1BwdIdeal.Facts] : Prop :=
  ∀ (m : (ℓ : Loc Cert.LN1BwdIdeal.nD Cert.LN1BwdIdeal.τ Cert.LN1BwdIdeal.sig) → Buf (Elt Ideal) ℓ) (g : Dev Cert.LN1BwdIdeal.nD → PrngReg), Pre_LN1BwdIdeal m →
    θ_run (Cert.LN1BwdIdeal.defs (F := Ideal)) (onTc (τ := Cert.LN1BwdIdeal.τ) (Cert.LN1BwdIdeal.main (F := Ideal))) ⟨m, fun _ => 0, g⟩ (fun r => (∀ c : Dev Cert.LN1BwdIdeal.nD,
      r.2.mem ((c.tc : Thread Cert.LN1BwdIdeal.nD Cert.LN1BwdIdeal.τ).loc Cert.LN1BwdIdeal.main_arg0) = m ((c.tc : Thread Cert.LN1BwdIdeal.nD Cert.LN1BwdIdeal.τ).loc Cert.LN1BwdIdeal.main_arg0)
      ∧ r.2.mem ((c.tc : Thread Cert.LN1BwdIdeal.nD Cert.LN1BwdIdeal.τ).loc Cert.LN1BwdIdeal.main_arg1) = m ((c.tc : Thread Cert.LN1BwdIdeal.nD Cert.LN1BwdIdeal.τ).loc Cert.LN1BwdIdeal.main_arg1)
      ∧ r.2.mem ((c.tc : Thread Cert.LN1BwdIdeal.nD Cert.LN1BwdIdeal.τ).loc Cert.LN1BwdIdeal.main_arg2) = m ((c.tc : Thread Cert.LN1BwdIdeal.nD Cert.LN1BwdIdeal.τ).loc Cert.LN1BwdIdeal.main_arg2))
      ∧ r.2.sem = fun _ => 0)

def quiescent_LN1BwdIdeal_pre_ln1_bwd_finite [hLN1BwdIdeal : Cert.LN1BwdIdeal.Facts] [hPre_ln1_bwd_finite : Cert.Pre_ln1_bwd_finite.Facts] : Prop :=
  ∀ (m : (ℓ : Loc Cert.LN1BwdIdeal.nD Cert.LN1BwdIdeal.τ Cert.LN1BwdIdeal.sig) → Buf (Elt Ideal) ℓ) (g : Dev Cert.LN1BwdIdeal.nD → PrngReg), Pre_LN1BwdIdeal_ln1_bwd_finite m →
    θ_run (Cert.LN1BwdIdeal.defs (F := Ideal)) (onTc (τ := Cert.LN1BwdIdeal.τ) (Cert.LN1BwdIdeal.main (F := Ideal))) ⟨m, fun _ => 0, g⟩ (fun r => (∀ c : Dev Cert.LN1BwdIdeal.nD,
      r.2.mem ((c.tc : Thread Cert.LN1BwdIdeal.nD Cert.LN1BwdIdeal.τ).loc Cert.LN1BwdIdeal.main_arg0) = m ((c.tc : Thread Cert.LN1BwdIdeal.nD Cert.LN1BwdIdeal.τ).loc Cert.LN1BwdIdeal.main_arg0)
      ∧ r.2.mem ((c.tc : Thread Cert.LN1BwdIdeal.nD Cert.LN1BwdIdeal.τ).loc Cert.LN1BwdIdeal.main_arg1) = m ((c.tc : Thread Cert.LN1BwdIdeal.nD Cert.LN1BwdIdeal.τ).loc Cert.LN1BwdIdeal.main_arg1)
      ∧ r.2.mem ((c.tc : Thread Cert.LN1BwdIdeal.nD Cert.LN1BwdIdeal.τ).loc Cert.LN1BwdIdeal.main_arg2) = m ((c.tc : Thread Cert.LN1BwdIdeal.nD Cert.LN1BwdIdeal.τ).loc Cert.LN1BwdIdeal.main_arg2))
      ∧ r.2.sem = fun _ => 0)

def quiescent_LN1BwdRefIdeal [hLN1BwdRefIdeal : Cert.LN1BwdRefIdeal.Facts] : Prop :=
  ∀ (m : (ℓ : Loc Cert.LN1BwdRefIdeal.nD Cert.LN1BwdRefIdeal.τ Cert.LN1BwdRefIdeal.sig) → Buf (Elt Ideal) ℓ) (g : Dev Cert.LN1BwdRefIdeal.nD → PrngReg), Pre_LN1BwdRefIdeal m →
    θ_run (Cert.LN1BwdRefIdeal.defs (F := Ideal)) (onTc (τ := Cert.LN1BwdRefIdeal.τ) (Cert.LN1BwdRefIdeal.main (F := Ideal))) ⟨m, fun _ => 0, g⟩ (fun r => (∀ c : Dev Cert.LN1BwdRefIdeal.nD,
      r.2.mem ((c.tc : Thread Cert.LN1BwdRefIdeal.nD Cert.LN1BwdRefIdeal.τ).loc Cert.LN1BwdRefIdeal.main_arg0) = m ((c.tc : Thread Cert.LN1BwdRefIdeal.nD Cert.LN1BwdRefIdeal.τ).loc Cert.LN1BwdRefIdeal.main_arg0)
      ∧ r.2.mem ((c.tc : Thread Cert.LN1BwdRefIdeal.nD Cert.LN1BwdRefIdeal.τ).loc Cert.LN1BwdRefIdeal.main_arg1) = m ((c.tc : Thread Cert.LN1BwdRefIdeal.nD Cert.LN1BwdRefIdeal.τ).loc Cert.LN1BwdRefIdeal.main_arg1)
      ∧ r.2.mem ((c.tc : Thread Cert.LN1BwdRefIdeal.nD Cert.LN1BwdRefIdeal.τ).loc Cert.LN1BwdRefIdeal.main_arg2) = m ((c.tc : Thread Cert.LN1BwdRefIdeal.nD Cert.LN1BwdRefIdeal.τ).loc Cert.LN1BwdRefIdeal.main_arg2))
      ∧ r.2.sem = fun _ => 0)

def quiescent_LN1BwdRefIdeal_pre_ln1_bwd_finite [hLN1BwdRefIdeal : Cert.LN1BwdRefIdeal.Facts] [hPre_ln1_bwd_finite : Cert.Pre_ln1_bwd_finite.Facts] : Prop :=
  ∀ (m : (ℓ : Loc Cert.LN1BwdRefIdeal.nD Cert.LN1BwdRefIdeal.τ Cert.LN1BwdRefIdeal.sig) → Buf (Elt Ideal) ℓ) (g : Dev Cert.LN1BwdRefIdeal.nD → PrngReg), Pre_LN1BwdRefIdeal_ln1_bwd_finite m →
    θ_run (Cert.LN1BwdRefIdeal.defs (F := Ideal)) (onTc (τ := Cert.LN1BwdRefIdeal.τ) (Cert.LN1BwdRefIdeal.main (F := Ideal))) ⟨m, fun _ => 0, g⟩ (fun r => (∀ c : Dev Cert.LN1BwdRefIdeal.nD,
      r.2.mem ((c.tc : Thread Cert.LN1BwdRefIdeal.nD Cert.LN1BwdRefIdeal.τ).loc Cert.LN1BwdRefIdeal.main_arg0) = m ((c.tc : Thread Cert.LN1BwdRefIdeal.nD Cert.LN1BwdRefIdeal.τ).loc Cert.LN1BwdRefIdeal.main_arg0)
      ∧ r.2.mem ((c.tc : Thread Cert.LN1BwdRefIdeal.nD Cert.LN1BwdRefIdeal.τ).loc Cert.LN1BwdRefIdeal.main_arg1) = m ((c.tc : Thread Cert.LN1BwdRefIdeal.nD Cert.LN1BwdRefIdeal.τ).loc Cert.LN1BwdRefIdeal.main_arg1)
      ∧ r.2.mem ((c.tc : Thread Cert.LN1BwdRefIdeal.nD Cert.LN1BwdRefIdeal.τ).loc Cert.LN1BwdRefIdeal.main_arg2) = m ((c.tc : Thread Cert.LN1BwdRefIdeal.nD Cert.LN1BwdRefIdeal.τ).loc Cert.LN1BwdRefIdeal.main_arg2))
      ∧ r.2.sem = fun _ => 0)

def quiescent_LN2Loss [hLN2Loss : Cert.LN2Loss.Facts] : Prop :=
  ∀ (m : (ℓ : Loc Cert.LN2Loss.nD Cert.LN2Loss.τ Cert.LN2Loss.sig) → Buf (Elt Bits) ℓ) (g : Dev Cert.LN2Loss.nD → PrngReg), Pre_LN2Loss m →
    θ_run (Cert.LN2Loss.defs (F := Bits)) (onTc (τ := Cert.LN2Loss.τ) (Cert.LN2Loss.main (F := Bits))) ⟨m, fun _ => 0, g⟩ (fun r => (∀ c : Dev Cert.LN2Loss.nD,
      r.2.mem ((c.tc : Thread Cert.LN2Loss.nD Cert.LN2Loss.τ).loc Cert.LN2Loss.main_arg0) = m ((c.tc : Thread Cert.LN2Loss.nD Cert.LN2Loss.τ).loc Cert.LN2Loss.main_arg0)
      ∧ r.2.mem ((c.tc : Thread Cert.LN2Loss.nD Cert.LN2Loss.τ).loc Cert.LN2Loss.main_arg1) = m ((c.tc : Thread Cert.LN2Loss.nD Cert.LN2Loss.τ).loc Cert.LN2Loss.main_arg1)
      ∧ r.2.mem ((c.tc : Thread Cert.LN2Loss.nD Cert.LN2Loss.τ).loc Cert.LN2Loss.main_arg2) = m ((c.tc : Thread Cert.LN2Loss.nD Cert.LN2Loss.τ).loc Cert.LN2Loss.main_arg2)
      ∧ r.2.mem ((c.tc : Thread Cert.LN2Loss.nD Cert.LN2Loss.τ).loc Cert.LN2Loss.main_arg3) = m ((c.tc : Thread Cert.LN2Loss.nD Cert.LN2Loss.τ).loc Cert.LN2Loss.main_arg3))
      ∧ r.2.sem = fun _ => 0)

def quiescent_LN2LossIdeal [hLN2LossIdeal : Cert.LN2LossIdeal.Facts] : Prop :=
  ∀ (m : (ℓ : Loc Cert.LN2LossIdeal.nD Cert.LN2LossIdeal.τ Cert.LN2LossIdeal.sig) → Buf (Elt Ideal) ℓ) (g : Dev Cert.LN2LossIdeal.nD → PrngReg), Pre_LN2LossIdeal m →
    θ_run (Cert.LN2LossIdeal.defs (F := Ideal)) (onTc (τ := Cert.LN2LossIdeal.τ) (Cert.LN2LossIdeal.main (F := Ideal))) ⟨m, fun _ => 0, g⟩ (fun r => (∀ c : Dev Cert.LN2LossIdeal.nD,
      r.2.mem ((c.tc : Thread Cert.LN2LossIdeal.nD Cert.LN2LossIdeal.τ).loc Cert.LN2LossIdeal.main_arg0) = m ((c.tc : Thread Cert.LN2LossIdeal.nD Cert.LN2LossIdeal.τ).loc Cert.LN2LossIdeal.main_arg0)
      ∧ r.2.mem ((c.tc : Thread Cert.LN2LossIdeal.nD Cert.LN2LossIdeal.τ).loc Cert.LN2LossIdeal.main_arg1) = m ((c.tc : Thread Cert.LN2LossIdeal.nD Cert.LN2LossIdeal.τ).loc Cert.LN2LossIdeal.main_arg1)
      ∧ r.2.mem ((c.tc : Thread Cert.LN2LossIdeal.nD Cert.LN2LossIdeal.τ).loc Cert.LN2LossIdeal.main_arg2) = m ((c.tc : Thread Cert.LN2LossIdeal.nD Cert.LN2LossIdeal.τ).loc Cert.LN2LossIdeal.main_arg2)
      ∧ r.2.mem ((c.tc : Thread Cert.LN2LossIdeal.nD Cert.LN2LossIdeal.τ).loc Cert.LN2LossIdeal.main_arg3) = m ((c.tc : Thread Cert.LN2LossIdeal.nD Cert.LN2LossIdeal.τ).loc Cert.LN2LossIdeal.main_arg3))
      ∧ r.2.sem = fun _ => 0)

def quiescent_LN2LossIdeal_pre_ln2_loss_finite [hLN2LossIdeal : Cert.LN2LossIdeal.Facts] [hPre_ln2_loss_finite : Cert.Pre_ln2_loss_finite.Facts] : Prop :=
  ∀ (m : (ℓ : Loc Cert.LN2LossIdeal.nD Cert.LN2LossIdeal.τ Cert.LN2LossIdeal.sig) → Buf (Elt Ideal) ℓ) (g : Dev Cert.LN2LossIdeal.nD → PrngReg), Pre_LN2LossIdeal_ln2_loss_finite m →
    θ_run (Cert.LN2LossIdeal.defs (F := Ideal)) (onTc (τ := Cert.LN2LossIdeal.τ) (Cert.LN2LossIdeal.main (F := Ideal))) ⟨m, fun _ => 0, g⟩ (fun r => (∀ c : Dev Cert.LN2LossIdeal.nD,
      r.2.mem ((c.tc : Thread Cert.LN2LossIdeal.nD Cert.LN2LossIdeal.τ).loc Cert.LN2LossIdeal.main_arg0) = m ((c.tc : Thread Cert.LN2LossIdeal.nD Cert.LN2LossIdeal.τ).loc Cert.LN2LossIdeal.main_arg0)
      ∧ r.2.mem ((c.tc : Thread Cert.LN2LossIdeal.nD Cert.LN2LossIdeal.τ).loc Cert.LN2LossIdeal.main_arg1) = m ((c.tc : Thread Cert.LN2LossIdeal.nD Cert.LN2LossIdeal.τ).loc Cert.LN2LossIdeal.main_arg1)
      ∧ r.2.mem ((c.tc : Thread Cert.LN2LossIdeal.nD Cert.LN2LossIdeal.τ).loc Cert.LN2LossIdeal.main_arg2) = m ((c.tc : Thread Cert.LN2LossIdeal.nD Cert.LN2LossIdeal.τ).loc Cert.LN2LossIdeal.main_arg2)
      ∧ r.2.mem ((c.tc : Thread Cert.LN2LossIdeal.nD Cert.LN2LossIdeal.τ).loc Cert.LN2LossIdeal.main_arg3) = m ((c.tc : Thread Cert.LN2LossIdeal.nD Cert.LN2LossIdeal.τ).loc Cert.LN2LossIdeal.main_arg3))
      ∧ r.2.sem = fun _ => 0)

def quiescent_LN2LossRefIdeal [hLN2LossRefIdeal : Cert.LN2LossRefIdeal.Facts] : Prop :=
  ∀ (m : (ℓ : Loc Cert.LN2LossRefIdeal.nD Cert.LN2LossRefIdeal.τ Cert.LN2LossRefIdeal.sig) → Buf (Elt Ideal) ℓ) (g : Dev Cert.LN2LossRefIdeal.nD → PrngReg), Pre_LN2LossRefIdeal m →
    θ_run (Cert.LN2LossRefIdeal.defs (F := Ideal)) (onTc (τ := Cert.LN2LossRefIdeal.τ) (Cert.LN2LossRefIdeal.main (F := Ideal))) ⟨m, fun _ => 0, g⟩ (fun r => (∀ c : Dev Cert.LN2LossRefIdeal.nD,
      r.2.mem ((c.tc : Thread Cert.LN2LossRefIdeal.nD Cert.LN2LossRefIdeal.τ).loc Cert.LN2LossRefIdeal.main_arg0) = m ((c.tc : Thread Cert.LN2LossRefIdeal.nD Cert.LN2LossRefIdeal.τ).loc Cert.LN2LossRefIdeal.main_arg0)
      ∧ r.2.mem ((c.tc : Thread Cert.LN2LossRefIdeal.nD Cert.LN2LossRefIdeal.τ).loc Cert.LN2LossRefIdeal.main_arg1) = m ((c.tc : Thread Cert.LN2LossRefIdeal.nD Cert.LN2LossRefIdeal.τ).loc Cert.LN2LossRefIdeal.main_arg1)
      ∧ r.2.mem ((c.tc : Thread Cert.LN2LossRefIdeal.nD Cert.LN2LossRefIdeal.τ).loc Cert.LN2LossRefIdeal.main_arg2) = m ((c.tc : Thread Cert.LN2LossRefIdeal.nD Cert.LN2LossRefIdeal.τ).loc Cert.LN2LossRefIdeal.main_arg2)
      ∧ r.2.mem ((c.tc : Thread Cert.LN2LossRefIdeal.nD Cert.LN2LossRefIdeal.τ).loc Cert.LN2LossRefIdeal.main_arg3) = m ((c.tc : Thread Cert.LN2LossRefIdeal.nD Cert.LN2LossRefIdeal.τ).loc Cert.LN2LossRefIdeal.main_arg3))
      ∧ r.2.sem = fun _ => 0)

def quiescent_LN2LossRefIdeal_pre_ln2_loss_finite [hLN2LossRefIdeal : Cert.LN2LossRefIdeal.Facts] [hPre_ln2_loss_finite : Cert.Pre_ln2_loss_finite.Facts] : Prop :=
  ∀ (m : (ℓ : Loc Cert.LN2LossRefIdeal.nD Cert.LN2LossRefIdeal.τ Cert.LN2LossRefIdeal.sig) → Buf (Elt Ideal) ℓ) (g : Dev Cert.LN2LossRefIdeal.nD → PrngReg), Pre_LN2LossRefIdeal_ln2_loss_finite m →
    θ_run (Cert.LN2LossRefIdeal.defs (F := Ideal)) (onTc (τ := Cert.LN2LossRefIdeal.τ) (Cert.LN2LossRefIdeal.main (F := Ideal))) ⟨m, fun _ => 0, g⟩ (fun r => (∀ c : Dev Cert.LN2LossRefIdeal.nD,
      r.2.mem ((c.tc : Thread Cert.LN2LossRefIdeal.nD Cert.LN2LossRefIdeal.τ).loc Cert.LN2LossRefIdeal.main_arg0) = m ((c.tc : Thread Cert.LN2LossRefIdeal.nD Cert.LN2LossRefIdeal.τ).loc Cert.LN2LossRefIdeal.main_arg0)
      ∧ r.2.mem ((c.tc : Thread Cert.LN2LossRefIdeal.nD Cert.LN2LossRefIdeal.τ).loc Cert.LN2LossRefIdeal.main_arg1) = m ((c.tc : Thread Cert.LN2LossRefIdeal.nD Cert.LN2LossRefIdeal.τ).loc Cert.LN2LossRefIdeal.main_arg1)
      ∧ r.2.mem ((c.tc : Thread Cert.LN2LossRefIdeal.nD Cert.LN2LossRefIdeal.τ).loc Cert.LN2LossRefIdeal.main_arg2) = m ((c.tc : Thread Cert.LN2LossRefIdeal.nD Cert.LN2LossRefIdeal.τ).loc Cert.LN2LossRefIdeal.main_arg2)
      ∧ r.2.mem ((c.tc : Thread Cert.LN2LossRefIdeal.nD Cert.LN2LossRefIdeal.τ).loc Cert.LN2LossRefIdeal.main_arg3) = m ((c.tc : Thread Cert.LN2LossRefIdeal.nD Cert.LN2LossRefIdeal.τ).loc Cert.LN2LossRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5))
      ∧ r.2.sem = fun _ => 0)

def quiescent_Patch [hPatch : Cert.Patch.Facts] : Prop :=
  ∀ (m : (ℓ : Loc Cert.Patch.nD Cert.Patch.τ Cert.Patch.sig) → Buf (Elt Bits) ℓ) (g : Dev Cert.Patch.nD → PrngReg), Pre_Patch m →
    θ_run (Cert.Patch.defs (F := Bits)) (onTc (τ := Cert.Patch.τ) (Cert.Patch.main (F := Bits))) ⟨m, fun _ => 0, g⟩ (fun r => (∀ c : Dev Cert.Patch.nD,
      r.2.mem ((c.tc : Thread Cert.Patch.nD Cert.Patch.τ).loc Cert.Patch.main_arg0) = m ((c.tc : Thread Cert.Patch.nD Cert.Patch.τ).loc Cert.Patch.main_arg0)
      ∧ r.2.mem ((c.tc : Thread Cert.Patch.nD Cert.Patch.τ).loc Cert.Patch.main_arg1) = m ((c.tc : Thread Cert.Patch.nD Cert.Patch.τ).loc Cert.Patch.main_arg1))
      ∧ r.2.sem = fun _ => 0)

def quiescent_PatchIdeal [hPatchIdeal : Cert.PatchIdeal.Facts] : Prop :=
  ∀ (m : (ℓ : Loc Cert.PatchIdeal.nD Cert.PatchIdeal.τ Cert.PatchIdeal.sig) → Buf (Elt Ideal) ℓ) (g : Dev Cert.PatchIdeal.nD → PrngReg), Pre_PatchIdeal m →
    θ_run (Cert.PatchIdeal.defs (F := Ideal)) (onTc (τ := Cert.PatchIdeal.τ) (Cert.PatchIdeal.main (F := Ideal))) ⟨m, fun _ => 0, g⟩ (fun r => (∀ c : Dev Cert.PatchIdeal.nD,
      r.2.mem ((c.tc : Thread Cert.PatchIdeal.nD Cert.PatchIdeal.τ).loc Cert.PatchIdeal.main_arg0) = m ((c.tc : Thread Cert.PatchIdeal.nD Cert.PatchIdeal.τ).loc Cert.PatchIdeal.main_arg0)
      ∧ r.2.mem ((c.tc : Thread Cert.PatchIdeal.nD Cert.PatchIdeal.τ).loc Cert.PatchIdeal.main_arg1) = m ((c.tc : Thread Cert.PatchIdeal.nD Cert.PatchIdeal.τ).loc Cert.PatchIdeal.main_arg1))
      ∧ r.2.sem = fun _ => 0)

def quiescent_PatchRefIdeal [hPatchRefIdeal : Cert.PatchRefIdeal.Facts] : Prop :=
  ∀ (m : (ℓ : Loc Cert.PatchRefIdeal.nD Cert.PatchRefIdeal.τ Cert.PatchRefIdeal.sig) → Buf (Elt Ideal) ℓ) (g : Dev Cert.PatchRefIdeal.nD → PrngReg), Pre_PatchRefIdeal m →
    θ_run (Cert.PatchRefIdeal.defs (F := Ideal)) (onTc (τ := Cert.PatchRefIdeal.τ) (Cert.PatchRefIdeal.main (F := Ideal))) ⟨m, fun _ => 0, g⟩ (fun r => (∀ c : Dev Cert.PatchRefIdeal.nD,
      r.2.mem ((c.tc : Thread Cert.PatchRefIdeal.nD Cert.PatchRefIdeal.τ).loc Cert.PatchRefIdeal.main_arg0) = m ((c.tc : Thread Cert.PatchRefIdeal.nD Cert.PatchRefIdeal.τ).loc Cert.PatchRefIdeal.main_arg0)
      ∧ r.2.mem ((c.tc : Thread Cert.PatchRefIdeal.nD Cert.PatchRefIdeal.τ).loc Cert.PatchRefIdeal.main_arg1) = m ((c.tc : Thread Cert.PatchRefIdeal.nD Cert.PatchRefIdeal.τ).loc Cert.PatchRefIdeal.main_arg1))
      ∧ r.2.sem = fun _ => 0)

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v4) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v6) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1))

def preserves_DWDown_DWDownIdeal : Prop :=
  True

def algebraic_DWDownIdeal_DWDownRefIdeal [hDWDownIdeal : Cert.DWDownIdeal.Facts] [hDWDownRefIdeal : Cert.DWDownRefIdeal.Facts] : Prop :=
  ∀ (m : (ℓ : Loc Cert.DWDownIdeal.nD Cert.DWDownIdeal.τ Cert.DWDownIdeal.sig) → Buf (Elt Ideal) ℓ) (g : Dev Cert.DWDownIdeal.nD → PrngReg)
    (m' : (ℓ : Loc Cert.DWDownRefIdeal.nD Cert.DWDownRefIdeal.τ Cert.DWDownRefIdeal.sig) → Buf (Elt Ideal) ℓ) (g' : Dev Cert.DWDownRefIdeal.nD → PrngReg), Pre_DWDownIdeal m →
    (∀ c : Dev Cert.DWDownIdeal.nD,
      m' ((c.tc : Thread Cert.DWDownRefIdeal.nD Cert.DWDownRefIdeal.τ).loc Cert.DWDownRefIdeal.main_arg0) = m ((c.tc : Thread Cert.DWDownIdeal.nD Cert.DWDownIdeal.τ).loc Cert.DWDownIdeal.main_arg0)
      ∧ m' ((c.tc : Thread Cert.DWDownRefIdeal.nD Cert.DWDownRefIdeal.τ).loc Cert.DWDownRefIdeal.main_arg1) = m ((c.tc : Thread Cert.DWDownIdeal.nD Cert.DWDownIdeal.τ).loc Cert.DWDownIdeal.main_arg1)) →
    ∃ (v0 : (c : Dev Cert.DWDownIdeal.nD) → Buf (Elt Ideal) ((c.tc : Thread Cert.DWDownIdeal.nD Cert.DWDownIdeal.τ).loc Cert.DWDownIdeal.main_v0)),
      θ_run (Cert.DWDownIdeal.defs (F := Ideal)) (onTc (τ := Cert.DWDownIdeal.τ) (Cert.DWDownIdeal.main (F := Ideal))) ⟨m, fun _ => 0, g⟩ (fun r => ∀ c : Dev Cert.DWDownIdeal.nD,
          r.2.mem ((c.tc : Thread Cert.DWDownIdeal.nD Cert.DWDownIdeal.τ).loc Cert.DWDownIdeal.main_v0) = v0 c
          ∧ r.2.mem ((c.tc : Thread Cert.DWDownIdeal.nD Cert.DWDownIdeal.τ).loc Cert.DWDownIdeal.main_arg0) = m ((c.tc : Thread Cert.DWDownIdeal.nD Cert.DWDownIdeal.τ).loc Cert.DWDownIdeal.main_arg0)
          ∧ r.2.mem ((c.tc : Thread Cert.DWDownIdeal.nD Cert.DWDownIdeal.τ).loc Cert.DWDownIdeal.main_arg1) = m ((c.tc : Thread Cert.DWDownIdeal.nD Cert.DWDownIdeal.τ).loc Cert.DWDownIdeal.main_arg1))
      ∧ θ_run (Cert.DWDownRefIdeal.defs (F := Ideal)) (onTc (τ := Cert.DWDownRefIdeal.τ) (Cert.DWDownRefIdeal.main (F := Ideal))) ⟨m', fun _ => 0, g'⟩ (fun r => ∀ c : Dev Cert.DWDownRefIdeal.nD,
          r.2.mem ((c.tc : Thread Cert.DWDownRefIdeal.nD Cert.DWDownRefIdeal.τ).loc Cert.DWDownRefIdeal.main_v6) = v0 c
          ∧ r.2.mem ((c.tc : Thread Cert.DWDownRefIdeal.nD Cert.DWDownRefIdeal.τ).loc Cert.DWDownRefIdeal.main_arg0) = m' ((c.tc : Thread Cert.DWDownRefIdeal.nD Cert.DWDownRefIdeal.τ).loc Cert.DWDownRefIdeal.main_arg0)
          ∧ r.2.mem ((c.tc : Thread Cert.DWDownRefIdeal.nD Cert.DWDownRefIdeal.τ).loc Cert.DWDownRefIdeal.main_arg1) = m' ((c.tc : Thread Cert.DWDownRefIdeal.nD Cert.DWDownRefIdeal.τ).loc Cert.DWDownRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_DAct_DActIdeal : Prop :=
  True

def algebraic_DActIdeal_DActRefIdeal_pre_dact_finite [hDActIdeal : Cert.DActIdeal.Facts] [hDActRefIdeal : Cert.DActRefIdeal.Facts] [hPre_dact_finite : Cert.Pre_dact_finite.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal_dact_finite m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)
      ∧ m' ((c.tc : Thread Cert.DActRefIdeal.nD Cert.DActRefIdeal.τ).loc Cert.DActRefIdeal.main_arg3) = m ((c.tc : Thread Cert.DActIdeal.nD Cert.DActIdeal.τ).loc Cert.DActIdeal.main_arg3)) →
    ∃ (v0 : (c : Dev Cert.DActIdeal.nD) → Buf (Elt Ideal) ((c.tc : Thread Cert.DActIdeal.nD Cert.DActIdeal.τ).loc Cert.DActIdeal.main_v0_0)) (v1 : (c : Dev Cert.DActIdeal.nD) → Buf (Elt Ideal) ((c.tc : Thread Cert.DActIdeal.nD Cert.DActIdeal.τ).loc Cert.DActIdeal.main_v0_1)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0_0) = v0 c
          ∧ r.2.mem ((c.tc : Thread Cert.DActIdeal.nD Cert.DActIdeal.τ).loc Cert.DActIdeal.main_v0_1) = v1 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2)
          ∧ r.2.mem ((c.tc : Thread Cert.DActIdeal.nD Cert.DActIdeal.τ).loc Cert.DActIdeal.main_arg3) = m ((c.tc : Thread Cert.DActIdeal.nD Cert.DActIdeal.τ).loc Cert.DActIdeal.main_arg3))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v9) = v0 c
          ∧ r.2.mem ((c.tc : Thread Cert.DActRefIdeal.nD Cert.DActRefIdeal.τ).loc Cert.DActRefIdeal.main_v10) = v1 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2)
          ∧ r.2.mem ((c.tc : Thread Cert.DActRefIdeal.nD Cert.DActRefIdeal.τ).loc Cert.DActRefIdeal.main_arg3) = m' ((c.tc : Thread Cert.DActRefIdeal.nD Cert.DActRefIdeal.τ).loc Cert.DActRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3) = v0 c
          ∧ r.2.mem ((c.tc : Thread Cert.GateUpRefIdeal.nD Cert.GateUpRefIdeal.τ).loc Cert.GateUpRefIdeal.main_v7) = v1 c
          ∧ r.2.mem ((c.tc : Thread Cert.GateUpRefIdeal.nD Cert.GateUpRefIdeal.τ).loc Cert.GateUpRefIdeal.main_v10) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)
      ∧ m' ((c.tc : Thread Cert.DH1RefIdeal.nD Cert.DH1RefIdeal.τ).loc Cert.DH1RefIdeal.main_arg2) = m ((c.tc : Thread Cert.DH1Ideal.nD Cert.DH1Ideal.τ).loc Cert.DH1Ideal.main_arg2)
      ∧ m' ((c.tc : Thread Cert.DH1RefIdeal.nD Cert.DH1RefIdeal.τ).loc Cert.DH1RefIdeal.main_arg3) = m ((c.tc : Thread Cert.DH1Ideal.nD Cert.DH1Ideal.τ).loc Cert.DH1Ideal.main_arg3)
      ∧ m' ((c.tc : Thread Cert.DH1RefIdeal.nD Cert.DH1RefIdeal.τ).loc Cert.DH1RefIdeal.main_arg4) = m ((c.tc : Thread Cert.DH1Ideal.nD Cert.DH1Ideal.τ).loc Cert.DH1Ideal.main_arg4)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1)
          ∧ r.2.mem ((c.tc : Thread Cert.DH1Ideal.nD Cert.DH1Ideal.τ).loc Cert.DH1Ideal.main_arg2) = m ((c.tc : Thread Cert.DH1Ideal.nD Cert.DH1Ideal.τ).loc Cert.DH1Ideal.main_arg2)
          ∧ r.2.mem ((c.tc : Thread Cert.DH1Ideal.nD Cert.DH1Ideal.τ).loc Cert.DH1Ideal.main_arg3) = m ((c.tc : Thread Cert.DH1Ideal.nD Cert.DH1Ideal.τ).loc Cert.DH1Ideal.main_arg3)
          ∧ r.2.mem ((c.tc : Thread Cert.DH1Ideal.nD Cert.DH1Ideal.τ).loc Cert.DH1Ideal.main_arg4) = m ((c.tc : Thread Cert.DH1Ideal.nD Cert.DH1Ideal.τ).loc Cert.DH1Ideal.main_arg4))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v16) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1)
          ∧ r.2.mem ((c.tc : Thread Cert.DH1RefIdeal.nD Cert.DH1RefIdeal.τ).loc Cert.DH1RefIdeal.main_arg2) = m' ((c.tc : Thread Cert.DH1RefIdeal.nD Cert.DH1RefIdeal.τ).loc Cert.DH1RefIdeal.main_arg2)
          ∧ r.2.mem ((c.tc : Thread Cert.DH1RefIdeal.nD Cert.DH1RefIdeal.τ).loc Cert.DH1RefIdeal.main_arg3) = m' ((c.tc : Thread Cert.DH1RefIdeal.nD Cert.DH1RefIdeal.τ).loc Cert.DH1RefIdeal.main_arg3)
          ∧ r.2.mem ((c.tc : Thread Cert.DH1RefIdeal.nD Cert.DH1RefIdeal.τ).loc Cert.DH1RefIdeal.main_arg4) = m' ((c.tc : Thread Cert.DH1RefIdeal.nD Cert.DH1RefIdeal.τ).loc Cert.DH1RefIdeal.main_arg4))

def preserves_DX_DXIdeal : Prop :=
  True

def algebraic_DXIdeal_DXRefIdeal [hDXIdeal : Cert.DXIdeal.Facts] [hDXRefIdeal : Cert.DXRefIdeal.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXRefIdeal.nD Cert.DXRefIdeal.τ Cert.DXRefIdeal.sig) → Buf (Elt Ideal) ℓ) (g' : Dev Cert.DXRefIdeal.nD → PrngReg), Pre_DXIdeal m →
    (∀ c : Dev Cert.DXIdeal.nD,
      m' ((c.tc : Thread Cert.DXRefIdeal.nD Cert.DXRefIdeal.τ).loc Cert.DXRefIdeal.main_arg0) = m ((c.tc : Thread Cert.DXIdeal.nD Cert.DXIdeal.τ).loc Cert.DXIdeal.main_arg0)
      ∧ m' ((c.tc : Thread Cert.DXRefIdeal.nD Cert.DXRefIdeal.τ).loc Cert.DXRefIdeal.main_arg1) = m ((c.tc : Thread Cert.DXIdeal.nD Cert.DXIdeal.τ).loc Cert.DXIdeal.main_arg1)
      ∧ m' ((c.tc : Thread Cert.DXRefIdeal.nD Cert.DXRefIdeal.τ).loc Cert.DXRefIdeal.main_arg2) = m ((c.tc : Thread Cert.DXIdeal.nD Cert.DXIdeal.τ).loc Cert.DXIdeal.main_arg2)) →
    ∃ (v0 : (c : Dev Cert.DXIdeal.nD) → Buf (Elt Ideal) ((c.tc : Thread Cert.DXIdeal.nD Cert.DXIdeal.τ).loc Cert.DXIdeal.main_v0)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v0) = v0 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
          ∧ r.2.mem ((c.tc : Thread Cert.DXIdeal.nD Cert.DXIdeal.τ).loc Cert.DXIdeal.main_arg2) = m ((c.tc : Thread Cert.DXIdeal.nD Cert.DXIdeal.τ).loc Cert.DXIdeal.main_arg2))
      ∧ θ_run (Cert.DXRefIdeal.defs (F := Ideal)) (onTc (τ := Cert.DXRefIdeal.τ) (Cert.DXRefIdeal.main (F := Ideal))) ⟨m', fun _ => 0, g'⟩ (fun r => ∀ c : Dev Cert.DXRefIdeal.nD,
          r.2.mem ((c.tc : Thread Cert.DXRefIdeal.nD Cert.DXRefIdeal.τ).loc Cert.DXRefIdeal.main_v10) = v0 c
          ∧ r.2.mem ((c.tc : Thread Cert.DXRefIdeal.nD Cert.DXRefIdeal.τ).loc Cert.DXRefIdeal.main_arg0) = m' ((c.tc : Thread Cert.DXRefIdeal.nD Cert.DXRefIdeal.τ).loc Cert.DXRefIdeal.main_arg0)
          ∧ r.2.mem ((c.tc : Thread Cert.DXRefIdeal.nD Cert.DXRefIdeal.τ).loc Cert.DXRefIdeal.main_arg1) = m' ((c.tc : Thread Cert.DXRefIdeal.nD Cert.DXRefIdeal.τ).loc Cert.DXRefIdeal.main_arg1)
          ∧ r.2.mem ((c.tc : Thread Cert.DXRefIdeal.nD Cert.DXRefIdeal.τ).loc Cert.DXRefIdeal.main_arg2) = m' ((c.tc : Thread Cert.DXRefIdeal.nD Cert.DXRefIdeal.τ).loc Cert.DXRefIdeal.main_arg2))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v8) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1))

def preserves_AdamFF_AdamFFIdeal : Prop :=
  True

def algebraic_AdamFFIdeal_AdamFFRefIdeal [hAdamFFIdeal : Cert.AdamFFIdeal.Facts] [hAdamFFRefIdeal : Cert.AdamFFRefIdeal.Facts] : Prop :=
  ∀ (m : (ℓ : Loc Cert.AdamFFIdeal.nD Cert.AdamFFIdeal.τ Cert.AdamFFIdeal.sig) → Buf (Elt Ideal) ℓ) (g : Dev Cert.AdamFFIdeal.nD → PrngReg)
    (m' : (ℓ : Loc Cert.AdamFFRefIdeal.nD Cert.AdamFFRefIdeal.τ Cert.AdamFFRefIdeal.sig) → Buf (Elt Ideal) ℓ) (g' : Dev Cert.AdamFFRefIdeal.nD → PrngReg), Pre_AdamFFIdeal m →
    (∀ c : Dev Cert.AdamFFIdeal.nD,
      m' ((c.tc : Thread Cert.AdamFFRefIdeal.nD Cert.AdamFFRefIdeal.τ).loc Cert.AdamFFRefIdeal.main_arg0) = m ((c.tc : Thread Cert.AdamFFIdeal.nD Cert.AdamFFIdeal.τ).loc Cert.AdamFFIdeal.main_arg0)
      ∧ m' ((c.tc : Thread Cert.AdamFFRefIdeal.nD Cert.AdamFFRefIdeal.τ).loc Cert.AdamFFRefIdeal.main_arg1) = m ((c.tc : Thread Cert.AdamFFIdeal.nD Cert.AdamFFIdeal.τ).loc Cert.AdamFFIdeal.main_arg1)
      ∧ m' ((c.tc : Thread Cert.AdamFFRefIdeal.nD Cert.AdamFFRefIdeal.τ).loc Cert.AdamFFRefIdeal.main_arg2) = m ((c.tc : Thread Cert.AdamFFIdeal.nD Cert.AdamFFIdeal.τ).loc Cert.AdamFFIdeal.main_arg2)
      ∧ m' ((c.tc : Thread Cert.AdamFFRefIdeal.nD Cert.AdamFFRefIdeal.τ).loc Cert.AdamFFRefIdeal.main_arg3) = m ((c.tc : Thread Cert.AdamFFIdeal.nD Cert.AdamFFIdeal.τ).loc Cert.AdamFFIdeal.main_arg3)) →
    ∃ (v0 : (c : Dev Cert.AdamFFIdeal.nD) → Buf (Elt Ideal) ((c.tc : Thread Cert.AdamFFIdeal.nD Cert.AdamFFIdeal.τ).loc Cert.AdamFFIdeal.main_v0_0)) (v1 : (c : Dev Cert.AdamFFIdeal.nD) → Buf (Elt Ideal) ((c.tc : Thread Cert.AdamFFIdeal.nD Cert.AdamFFIdeal.τ).loc Cert.AdamFFIdeal.main_v0_1)) (v2 : (c : Dev Cert.AdamFFIdeal.nD) → Buf (Elt Ideal) ((c.tc : Thread Cert.AdamFFIdeal.nD Cert.AdamFFIdeal.τ).loc Cert.AdamFFIdeal.main_v0_2)) (v3 : (c : Dev Cert.AdamFFIdeal.nD) → Buf (Elt Ideal) ((c.tc : Thread Cert.AdamFFIdeal.nD Cert.AdamFFIdeal.τ).loc Cert.AdamFFIdeal.main_v0_3)),
      θ_run (Cert.AdamFFIdeal.defs (F := Ideal)) (onTc (τ := Cert.AdamFFIdeal.τ) (Cert.AdamFFIdeal.main (F := Ideal))) ⟨m, fun _ => 0, g⟩ (fun r => ∀ c : Dev Cert.AdamFFIdeal.nD,
          r.2.mem ((c.tc : Thread Cert.AdamFFIdeal.nD Cert.AdamFFIdeal.τ).loc Cert.AdamFFIdeal.main_v0_0) = v0 c
          ∧ r.2.mem ((c.tc : Thread Cert.AdamFFIdeal.nD Cert.AdamFFIdeal.τ).loc Cert.AdamFFIdeal.main_v0_1) = v1 c
          ∧ r.2.mem ((c.tc : Thread Cert.AdamFFIdeal.nD Cert.AdamFFIdeal.τ).loc Cert.AdamFFIdeal.main_v0_2) = v2 c
          ∧ r.2.mem ((c.tc : Thread Cert.AdamFFIdeal.nD Cert.AdamFFIdeal.τ).loc Cert.AdamFFIdeal.main_v0_3) = v3 c
          ∧ r.2.mem ((c.tc : Thread Cert.AdamFFIdeal.nD Cert.AdamFFIdeal.τ).loc Cert.AdamFFIdeal.main_arg0) = m ((c.tc : Thread Cert.AdamFFIdeal.nD Cert.AdamFFIdeal.τ).loc Cert.AdamFFIdeal.main_arg0)
          ∧ r.2.mem ((c.tc : Thread Cert.AdamFFIdeal.nD Cert.AdamFFIdeal.τ).loc Cert.AdamFFIdeal.main_arg1) = m ((c.tc : Thread Cert.AdamFFIdeal.nD Cert.AdamFFIdeal.τ).loc Cert.AdamFFIdeal.main_arg1)
          ∧ r.2.mem ((c.tc : Thread Cert.AdamFFIdeal.nD Cert.AdamFFIdeal.τ).loc Cert.AdamFFIdeal.main_arg2) = m ((c.tc : Thread Cert.AdamFFIdeal.nD Cert.AdamFFIdeal.τ).loc Cert.AdamFFIdeal.main_arg2)
          ∧ r.2.mem ((c.tc : Thread Cert.AdamFFIdeal.nD Cert.AdamFFIdeal.τ).loc Cert.AdamFFIdeal.main_arg3) = m ((c.tc : Thread Cert.AdamFFIdeal.nD Cert.AdamFFIdeal.τ).loc Cert.AdamFFIdeal.main_arg3))
      ∧ θ_run (Cert.AdamFFRefIdeal.defs (F := Ideal)) (onTc (τ := Cert.AdamFFRefIdeal.τ) (Cert.AdamFFRefIdeal.main (F := Ideal))) ⟨m', fun _ => 0, g'⟩ (fun r => ∀ c : Dev Cert.AdamFFRefIdeal.nD,
          r.2.mem ((c.tc : Thread Cert.AdamFFRefIdeal.nD Cert.AdamFFRefIdeal.τ).loc Cert.AdamFFRefIdeal.main_v1) = v0 c
          ∧ r.2.mem ((c.tc : Thread Cert.AdamFFRefIdeal.nD Cert.AdamFFRefIdeal.τ).loc Cert.AdamFFRefIdeal.main_v25) = v1 c
          ∧ r.2.mem ((c.tc : Thread Cert.AdamFFRefIdeal.nD Cert.AdamFFRefIdeal.τ).loc Cert.AdamFFRefIdeal.main_v6) = v2 c
          ∧ r.2.mem ((c.tc : Thread Cert.AdamFFRefIdeal.nD Cert.AdamFFRefIdeal.τ).loc Cert.AdamFFRefIdeal.main_v12) = v3 c
          ∧ r.2.mem ((c.tc : Thread Cert.AdamFFRefIdeal.nD Cert.AdamFFRefIdeal.τ).loc Cert.AdamFFRefIdeal.main_arg0) = m' ((c.tc : Thread Cert.AdamFFRefIdeal.nD Cert.AdamFFRefIdeal.τ).loc Cert.AdamFFRefIdeal.main_arg0)
          ∧ r.2.mem ((c.tc : Thread Cert.AdamFFRefIdeal.nD Cert.AdamFFRefIdeal.τ).loc Cert.AdamFFRefIdeal.main_arg1) = m' ((c.tc : Thread Cert.AdamFFRefIdeal.nD Cert.AdamFFRefIdeal.τ).loc Cert.AdamFFRefIdeal.main_arg1)
          ∧ r.2.mem ((c.tc : Thread Cert.AdamFFRefIdeal.nD Cert.AdamFFRefIdeal.τ).loc Cert.AdamFFRefIdeal.main_arg2) = m' ((c.tc : Thread Cert.AdamFFRefIdeal.nD Cert.AdamFFRefIdeal.τ).loc Cert.AdamFFRefIdeal.main_arg2)
          ∧ r.2.mem ((c.tc : Thread Cert.AdamFFRefIdeal.nD Cert.AdamFFRefIdeal.τ).loc Cert.AdamFFRefIdeal.main_arg3) = m' ((c.tc : Thread Cert.AdamFFRefIdeal.nD Cert.AdamFFRefIdeal.τ).loc Cert.AdamFFRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_LN1_LN1Ideal : Prop :=
  True

def algebraic_LN1Ideal_LN1RefIdeal [hLN1Ideal : Cert.LN1Ideal.Facts] [hLN1RefIdeal : Cert.LN1RefIdeal.Facts] : Prop :=
  ∀ (m : (ℓ : Loc Cert.LN1Ideal.nD Cert.LN1Ideal.τ Cert.LN1Ideal.sig) → Buf (Elt Ideal) ℓ) (g : Dev Cert.LN1Ideal.nD → PrngReg)
    (m' : (ℓ : Loc Cert.LN1RefIdeal.nD Cert.LN1RefIdeal.τ Cert.LN1RefIdeal.sig) → Buf (Elt Ideal) ℓ) (g' : Dev Cert.LN1RefIdeal.nD → PrngReg), Pre_LN1Ideal m →
    (∀ c : Dev Cert.LN1Ideal.nD,
      m' ((c.tc : Thread Cert.LN1RefIdeal.nD Cert.LN1RefIdeal.τ).loc Cert.LN1RefIdeal.main_arg0) = m ((c.tc : Thread Cert.LN1Ideal.nD Cert.LN1Ideal.τ).loc Cert.LN1Ideal.main_arg0)
      ∧ m' ((c.tc : Thread Cert.LN1RefIdeal.nD Cert.LN1RefIdeal.τ).loc Cert.LN1RefIdeal.main_arg1) = m ((c.tc : Thread Cert.LN1Ideal.nD Cert.LN1Ideal.τ).loc Cert.LN1Ideal.main_arg1)
      ∧ m' ((c.tc : Thread Cert.LN1RefIdeal.nD Cert.LN1RefIdeal.τ).loc Cert.LN1RefIdeal.main_arg2) = m ((c.tc : Thread Cert.LN1Ideal.nD Cert.LN1Ideal.τ).loc Cert.LN1Ideal.main_arg2)) →
    ∃ (v0 : (c : Dev Cert.LN1Ideal.nD) → Buf (Elt Ideal) ((c.tc : Thread Cert.LN1Ideal.nD Cert.LN1Ideal.τ).loc Cert.LN1Ideal.main_v0_0)) (v1 : (c : Dev Cert.LN1Ideal.nD) → Buf (Elt Ideal) ((c.tc : Thread Cert.LN1Ideal.nD Cert.LN1Ideal.τ).loc Cert.LN1Ideal.main_v0_1)),
      θ_run (Cert.LN1Ideal.defs (F := Ideal)) (onTc (τ := Cert.LN1Ideal.τ) (Cert.LN1Ideal.main (F := Ideal))) ⟨m, fun _ => 0, g⟩ (fun r => ∀ c : Dev Cert.LN1Ideal.nD,
          r.2.mem ((c.tc : Thread Cert.LN1Ideal.nD Cert.LN1Ideal.τ).loc Cert.LN1Ideal.main_v0_0) = v0 c
          ∧ r.2.mem ((c.tc : Thread Cert.LN1Ideal.nD Cert.LN1Ideal.τ).loc Cert.LN1Ideal.main_v0_1) = v1 c
          ∧ r.2.mem ((c.tc : Thread Cert.LN1Ideal.nD Cert.LN1Ideal.τ).loc Cert.LN1Ideal.main_arg0) = m ((c.tc : Thread Cert.LN1Ideal.nD Cert.LN1Ideal.τ).loc Cert.LN1Ideal.main_arg0)
          ∧ r.2.mem ((c.tc : Thread Cert.LN1Ideal.nD Cert.LN1Ideal.τ).loc Cert.LN1Ideal.main_arg1) = m ((c.tc : Thread Cert.LN1Ideal.nD Cert.LN1Ideal.τ).loc Cert.LN1Ideal.main_arg1)
          ∧ r.2.mem ((c.tc : Thread Cert.LN1Ideal.nD Cert.LN1Ideal.τ).loc Cert.LN1Ideal.main_arg2) = m ((c.tc : Thread Cert.LN1Ideal.nD Cert.LN1Ideal.τ).loc Cert.LN1Ideal.main_arg2))
      ∧ θ_run (Cert.LN1RefIdeal.defs (F := Ideal)) (onTc (τ := Cert.LN1RefIdeal.τ) (Cert.LN1RefIdeal.main (F := Ideal))) ⟨m', fun _ => 0, g'⟩ (fun r => ∀ c : Dev Cert.LN1RefIdeal.nD,
          r.2.mem ((c.tc : Thread Cert.LN1RefIdeal.nD Cert.LN1RefIdeal.τ).loc Cert.LN1RefIdeal.main_v21) = v0 c
          ∧ r.2.mem ((c.tc : Thread Cert.LN1RefIdeal.nD Cert.LN1RefIdeal.τ).loc Cert.LN1RefIdeal.main_v22) = v1 c
          ∧ r.2.mem ((c.tc : Thread Cert.LN1RefIdeal.nD Cert.LN1RefIdeal.τ).loc Cert.LN1RefIdeal.main_arg0) = m' ((c.tc : Thread Cert.LN1RefIdeal.nD Cert.LN1RefIdeal.τ).loc Cert.LN1RefIdeal.main_arg0)
          ∧ r.2.mem ((c.tc : Thread Cert.LN1RefIdeal.nD Cert.LN1RefIdeal.τ).loc Cert.LN1RefIdeal.main_arg1) = m' ((c.tc : Thread Cert.LN1RefIdeal.nD Cert.LN1RefIdeal.τ).loc Cert.LN1RefIdeal.main_arg1)
          ∧ r.2.mem ((c.tc : Thread Cert.LN1RefIdeal.nD Cert.LN1RefIdeal.τ).loc Cert.LN1RefIdeal.main_arg2) = m' ((c.tc : Thread Cert.LN1RefIdeal.nD Cert.LN1RefIdeal.τ).loc Cert.LN1RefIdeal.main_arg2))

def preserves_LN1Bwd_LN1BwdIdeal : Prop :=
  True

def algebraic_LN1BwdIdeal_LN1BwdRefIdeal_pre_ln1_bwd_finite [hLN1BwdIdeal : Cert.LN1BwdIdeal.Facts] [hLN1BwdRefIdeal : Cert.LN1BwdRefIdeal.Facts] [hPre_ln1_bwd_finite : Cert.Pre_ln1_bwd_finite.Facts] : Prop :=
  ∀ (m : (ℓ : Loc Cert.LN1BwdIdeal.nD Cert.LN1BwdIdeal.τ Cert.LN1BwdIdeal.sig) → Buf (Elt Ideal) ℓ) (g : Dev Cert.LN1BwdIdeal.nD → PrngReg)
    (m' : (ℓ : Loc Cert.LN1BwdRefIdeal.nD Cert.LN1BwdRefIdeal.τ Cert.LN1BwdRefIdeal.sig) → Buf (Elt Ideal) ℓ) (g' : Dev Cert.LN1BwdRefIdeal.nD → PrngReg), Pre_LN1BwdIdeal_ln1_bwd_finite m →
    (∀ c : Dev Cert.LN1BwdIdeal.nD,
      m' ((c.tc : Thread Cert.LN1BwdRefIdeal.nD Cert.LN1BwdRefIdeal.τ).loc Cert.LN1BwdRefIdeal.main_arg0) = m ((c.tc : Thread Cert.LN1BwdIdeal.nD Cert.LN1BwdIdeal.τ).loc Cert.LN1BwdIdeal.main_arg0)
      ∧ m' ((c.tc : Thread Cert.LN1BwdRefIdeal.nD Cert.LN1BwdRefIdeal.τ).loc Cert.LN1BwdRefIdeal.main_arg1) = m ((c.tc : Thread Cert.LN1BwdIdeal.nD Cert.LN1BwdIdeal.τ).loc Cert.LN1BwdIdeal.main_arg1)
      ∧ m' ((c.tc : Thread Cert.LN1BwdRefIdeal.nD Cert.LN1BwdRefIdeal.τ).loc Cert.LN1BwdRefIdeal.main_arg2) = m ((c.tc : Thread Cert.LN1BwdIdeal.nD Cert.LN1BwdIdeal.τ).loc Cert.LN1BwdIdeal.main_arg2)) →
    ∃ (v0 : (c : Dev Cert.LN1BwdIdeal.nD) → Buf (Elt Ideal) ((c.tc : Thread Cert.LN1BwdIdeal.nD Cert.LN1BwdIdeal.τ).loc Cert.LN1BwdIdeal.main_v0_0)) (v1 : (c : Dev Cert.LN1BwdIdeal.nD) → Buf (Elt Ideal) ((c.tc : Thread Cert.LN1BwdIdeal.nD Cert.LN1BwdIdeal.τ).loc Cert.LN1BwdIdeal.main_v0_1)) (v2 : (c : Dev Cert.LN1BwdIdeal.nD) → Buf (Elt Ideal) ((c.tc : Thread Cert.LN1BwdIdeal.nD Cert.LN1BwdIdeal.τ).loc Cert.LN1BwdIdeal.main_v0_2)) (v3 : (c : Dev Cert.LN1BwdIdeal.nD) → Buf (Elt Ideal) ((c.tc : Thread Cert.LN1BwdIdeal.nD Cert.LN1BwdIdeal.τ).loc Cert.LN1BwdIdeal.main_v0_3)),
      θ_run (Cert.LN1BwdIdeal.defs (F := Ideal)) (onTc (τ := Cert.LN1BwdIdeal.τ) (Cert.LN1BwdIdeal.main (F := Ideal))) ⟨m, fun _ => 0, g⟩ (fun r => ∀ c : Dev Cert.LN1BwdIdeal.nD,
          r.2.mem ((c.tc : Thread Cert.LN1BwdIdeal.nD Cert.LN1BwdIdeal.τ).loc Cert.LN1BwdIdeal.main_v0_0) = v0 c
          ∧ r.2.mem ((c.tc : Thread Cert.LN1BwdIdeal.nD Cert.LN1BwdIdeal.τ).loc Cert.LN1BwdIdeal.main_v0_1) = v1 c
          ∧ r.2.mem ((c.tc : Thread Cert.LN1BwdIdeal.nD Cert.LN1BwdIdeal.τ).loc Cert.LN1BwdIdeal.main_v0_2) = v2 c
          ∧ r.2.mem ((c.tc : Thread Cert.LN1BwdIdeal.nD Cert.LN1BwdIdeal.τ).loc Cert.LN1BwdIdeal.main_v0_3) = v3 c
          ∧ r.2.mem ((c.tc : Thread Cert.LN1BwdIdeal.nD Cert.LN1BwdIdeal.τ).loc Cert.LN1BwdIdeal.main_arg0) = m ((c.tc : Thread Cert.LN1BwdIdeal.nD Cert.LN1BwdIdeal.τ).loc Cert.LN1BwdIdeal.main_arg0)
          ∧ r.2.mem ((c.tc : Thread Cert.LN1BwdIdeal.nD Cert.LN1BwdIdeal.τ).loc Cert.LN1BwdIdeal.main_arg1) = m ((c.tc : Thread Cert.LN1BwdIdeal.nD Cert.LN1BwdIdeal.τ).loc Cert.LN1BwdIdeal.main_arg1)
          ∧ r.2.mem ((c.tc : Thread Cert.LN1BwdIdeal.nD Cert.LN1BwdIdeal.τ).loc Cert.LN1BwdIdeal.main_arg2) = m ((c.tc : Thread Cert.LN1BwdIdeal.nD Cert.LN1BwdIdeal.τ).loc Cert.LN1BwdIdeal.main_arg2))
      ∧ θ_run (Cert.LN1BwdRefIdeal.defs (F := Ideal)) (onTc (τ := Cert.LN1BwdRefIdeal.τ) (Cert.LN1BwdRefIdeal.main (F := Ideal))) ⟨m', fun _ => 0, g'⟩ (fun r => ∀ c : Dev Cert.LN1BwdRefIdeal.nD,
          r.2.mem ((c.tc : Thread Cert.LN1BwdRefIdeal.nD Cert.LN1BwdRefIdeal.τ).loc Cert.LN1BwdRefIdeal.main_v59) = v0 c
          ∧ r.2.mem ((c.tc : Thread Cert.LN1BwdRefIdeal.nD Cert.LN1BwdRefIdeal.τ).loc Cert.LN1BwdRefIdeal.main_v60) = v1 c
          ∧ r.2.mem ((c.tc : Thread Cert.LN1BwdRefIdeal.nD Cert.LN1BwdRefIdeal.τ).loc Cert.LN1BwdRefIdeal.main_v33) = v2 c
          ∧ r.2.mem ((c.tc : Thread Cert.LN1BwdRefIdeal.nD Cert.LN1BwdRefIdeal.τ).loc Cert.LN1BwdRefIdeal.main_v30) = v3 c
          ∧ r.2.mem ((c.tc : Thread Cert.LN1BwdRefIdeal.nD Cert.LN1BwdRefIdeal.τ).loc Cert.LN1BwdRefIdeal.main_arg0) = m' ((c.tc : Thread Cert.LN1BwdRefIdeal.nD Cert.LN1BwdRefIdeal.τ).loc Cert.LN1BwdRefIdeal.main_arg0)
          ∧ r.2.mem ((c.tc : Thread Cert.LN1BwdRefIdeal.nD Cert.LN1BwdRefIdeal.τ).loc Cert.LN1BwdRefIdeal.main_arg1) = m' ((c.tc : Thread Cert.LN1BwdRefIdeal.nD Cert.LN1BwdRefIdeal.τ).loc Cert.LN1BwdRefIdeal.main_arg1)
          ∧ r.2.mem ((c.tc : Thread Cert.LN1BwdRefIdeal.nD Cert.LN1BwdRefIdeal.τ).loc Cert.LN1BwdRefIdeal.main_arg2) = m' ((c.tc : Thread Cert.LN1BwdRefIdeal.nD Cert.LN1BwdRefIdeal.τ).loc Cert.LN1BwdRefIdeal.main_arg2))

def preserves_LN2Loss_LN2LossIdeal : Prop :=
  True

def algebraic_LN2LossIdeal_LN2LossRefIdeal_pre_ln2_loss_finite [hLN2LossIdeal : Cert.LN2LossIdeal.Facts] [hLN2LossRefIdeal : Cert.LN2LossRefIdeal.Facts] [hPre_ln2_loss_finite : Cert.Pre_ln2_loss_finite.Facts] : Prop :=
  ∀ (m : (ℓ : Loc Cert.LN2LossIdeal.nD Cert.LN2LossIdeal.τ Cert.LN2LossIdeal.sig) → Buf (Elt Ideal) ℓ) (g : Dev Cert.LN2LossIdeal.nD → PrngReg)
    (m' : (ℓ : Loc Cert.LN2LossRefIdeal.nD Cert.LN2LossRefIdeal.τ Cert.LN2LossRefIdeal.sig) → Buf (Elt Ideal) ℓ) (g' : Dev Cert.LN2LossRefIdeal.nD → PrngReg), Pre_LN2LossIdeal_ln2_loss_finite m →
    (∀ c : Dev Cert.LN2LossIdeal.nD,
      m' ((c.tc : Thread Cert.LN2LossRefIdeal.nD Cert.LN2LossRefIdeal.τ).loc Cert.LN2LossRefIdeal.main_arg0) = m ((c.tc : Thread Cert.LN2LossIdeal.nD Cert.LN2LossIdeal.τ).loc Cert.LN2LossIdeal.main_arg0)
      ∧ m' ((c.tc : Thread Cert.LN2LossRefIdeal.nD Cert.LN2LossRefIdeal.τ).loc Cert.LN2LossRefIdeal.main_arg1) = m ((c.tc : Thread Cert.LN2LossIdeal.nD Cert.LN2LossIdeal.τ).loc Cert.LN2LossIdeal.main_arg1)
      ∧ m' ((c.tc : Thread Cert.LN2LossRefIdeal.nD Cert.LN2LossRefIdeal.τ).loc Cert.LN2LossRefIdeal.main_arg2) = m ((c.tc : Thread Cert.LN2LossIdeal.nD Cert.LN2LossIdeal.τ).loc Cert.LN2LossIdeal.main_arg2)
      ∧ m' ((c.tc : Thread Cert.LN2LossRefIdeal.nD Cert.LN2LossRefIdeal.τ).loc Cert.LN2LossRefIdeal.main_arg3) = m ((c.tc : Thread Cert.LN2LossIdeal.nD Cert.LN2LossIdeal.τ).loc Cert.LN2LossIdeal.main_arg3)) →
    ∃ (v0 : (c : Dev Cert.LN2LossIdeal.nD) → Buf (Elt Ideal) ((c.tc : Thread Cert.LN2LossIdeal.nD Cert.LN2LossIdeal.τ).loc Cert.LN2LossIdeal.main_v0_0)) (v1 : (c : Dev Cert.LN2LossIdeal.nD) → Buf (Elt Ideal) ((c.tc : Thread Cert.LN2LossIdeal.nD Cert.LN2LossIdeal.τ).loc Cert.LN2LossIdeal.main_v0_1)) (v2 : (c : Dev Cert.LN2LossIdeal.nD) → Buf (Elt Ideal) ((c.tc : Thread Cert.LN2LossIdeal.nD Cert.LN2LossIdeal.τ).loc Cert.LN2LossIdeal.main_v0_2)) (v3 : (c : Dev Cert.LN2LossIdeal.nD) → Buf (Elt Ideal) ((c.tc : Thread Cert.LN2LossIdeal.nD Cert.LN2LossIdeal.τ).loc Cert.LN2LossIdeal.main_v0_3)) (v4 : (c : Dev Cert.LN2LossIdeal.nD) → Buf (Elt Ideal) ((c.tc : Thread Cert.LN2LossIdeal.nD Cert.LN2LossIdeal.τ).loc Cert.LN2LossIdeal.main_v0_4)),
      θ_run (Cert.LN2LossIdeal.defs (F := Ideal)) (onTc (τ := Cert.LN2LossIdeal.τ) (Cert.LN2LossIdeal.main (F := Ideal))) ⟨m, fun _ => 0, g⟩ (fun r => ∀ c : Dev Cert.LN2LossIdeal.nD,
          r.2.mem ((c.tc : Thread Cert.LN2LossIdeal.nD Cert.LN2LossIdeal.τ).loc Cert.LN2LossIdeal.main_v0_0) = v0 c
          ∧ r.2.mem ((c.tc : Thread Cert.LN2LossIdeal.nD Cert.LN2LossIdeal.τ).loc Cert.LN2LossIdeal.main_v0_1) = v1 c
          ∧ r.2.mem ((c.tc : Thread Cert.LN2LossIdeal.nD Cert.LN2LossIdeal.τ).loc Cert.LN2LossIdeal.main_v0_2) = v2 c
          ∧ r.2.mem ((c.tc : Thread Cert.LN2LossIdeal.nD Cert.LN2LossIdeal.τ).loc Cert.LN2LossIdeal.main_v0_3) = v3 c
          ∧ r.2.mem ((c.tc : Thread Cert.LN2LossIdeal.nD Cert.LN2LossIdeal.τ).loc Cert.LN2LossIdeal.main_v0_4) = v4 c
          ∧ r.2.mem ((c.tc : Thread Cert.LN2LossIdeal.nD Cert.LN2LossIdeal.τ).loc Cert.LN2LossIdeal.main_arg0) = m ((c.tc : Thread Cert.LN2LossIdeal.nD Cert.LN2LossIdeal.τ).loc Cert.LN2LossIdeal.main_arg0)
          ∧ r.2.mem ((c.tc : Thread Cert.LN2LossIdeal.nD Cert.LN2LossIdeal.τ).loc Cert.LN2LossIdeal.main_arg1) = m ((c.tc : Thread Cert.LN2LossIdeal.nD Cert.LN2LossIdeal.τ).loc Cert.LN2LossIdeal.main_arg1)
          ∧ r.2.mem ((c.tc : Thread Cert.LN2LossIdeal.nD Cert.LN2LossIdeal.τ).loc Cert.LN2LossIdeal.main_arg2) = m ((c.tc : Thread Cert.LN2LossIdeal.nD Cert.LN2LossIdeal.τ).loc Cert.LN2LossIdeal.main_arg2)
          ∧ r.2.mem ((c.tc : Thread Cert.LN2LossIdeal.nD Cert.LN2LossIdeal.τ).loc Cert.LN2LossIdeal.main_arg3) = m ((c.tc : Thread Cert.LN2LossIdeal.nD Cert.LN2LossIdeal.τ).loc Cert.LN2LossIdeal.main_arg3))
      ∧ θ_run (Cert.LN2LossRefIdeal.defs (F := Ideal)) (onTc (τ := Cert.LN2LossRefIdeal.τ) (Cert.LN2LossRefIdeal.main (F := Ideal))) ⟨m', fun _ => 0, g'⟩ (fun r => ∀ c : Dev Cert.LN2LossRefIdeal.nD,
          r.2.mem ((c.tc : Thread Cert.LN2LossRefIdeal.nD Cert.LN2LossRefIdeal.τ).loc Cert.LN2LossRefIdeal.main_v72) = v0 c
          ∧ r.2.mem ((c.tc : Thread Cert.LN2LossRefIdeal.nD Cert.LN2LossRefIdeal.τ).loc Cert.LN2LossRefIdeal.main_v73) = v1 c
          ∧ r.2.mem ((c.tc : Thread Cert.LN2LossRefIdeal.nD Cert.LN2LossRefIdeal.τ).loc Cert.LN2LossRefIdeal.main_v74) = v2 c
          ∧ r.2.mem ((c.tc : Thread Cert.LN2LossRefIdeal.nD Cert.LN2LossRefIdeal.τ).loc Cert.LN2LossRefIdeal.main_v46) = v3 c
          ∧ r.2.mem ((c.tc : Thread Cert.LN2LossRefIdeal.nD Cert.LN2LossRefIdeal.τ).loc Cert.LN2LossRefIdeal.main_v43) = v4 c
          ∧ r.2.mem ((c.tc : Thread Cert.LN2LossRefIdeal.nD Cert.LN2LossRefIdeal.τ).loc Cert.LN2LossRefIdeal.main_arg0) = m' ((c.tc : Thread Cert.LN2LossRefIdeal.nD Cert.LN2LossRefIdeal.τ).loc Cert.LN2LossRefIdeal.main_arg0)
          ∧ r.2.mem ((c.tc : Thread Cert.LN2LossRefIdeal.nD Cert.LN2LossRefIdeal.τ).loc Cert.LN2LossRefIdeal.main_arg1) = m' ((c.tc : Thread Cert.LN2LossRefIdeal.nD Cert.LN2LossRefIdeal.τ).loc Cert.LN2LossRefIdeal.main_arg1)
          ∧ r.2.mem ((c.tc : Thread Cert.LN2LossRefIdeal.nD Cert.LN2LossRefIdeal.τ).loc Cert.LN2LossRefIdeal.main_arg2) = m' ((c.tc : Thread Cert.LN2LossRefIdeal.nD Cert.LN2LossRefIdeal.τ).loc Cert.LN2LossRefIdeal.main_arg2)
          ∧ r.2.mem ((c.tc : Thread Cert.LN2LossRefIdeal.nD Cert.LN2LossRefIdeal.τ).loc Cert.LN2LossRefIdeal.main_arg3) = m' ((c.tc : Thread Cert.LN2LossRefIdeal.nD Cert.LN2LossRefIdeal.τ).loc Cert.LN2LossRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)) →
    ∃ (v0 : (c : Dev Cert.MixerIdeal.nD) → Buf (Elt Ideal) ((c.tc : Thread Cert.MixerIdeal.nD Cert.MixerIdeal.τ).loc Cert.MixerIdeal.main_v1_3)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v1_3) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v24) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5))

def preserves_Patch_PatchIdeal : Prop :=
  True

def algebraic_PatchIdeal_PatchRefIdeal [hPatchIdeal : Cert.PatchIdeal.Facts] [hPatchRefIdeal : Cert.PatchRefIdeal.Facts] : Prop :=
  ∀ (m : (ℓ : Loc Cert.PatchIdeal.nD Cert.PatchIdeal.τ Cert.PatchIdeal.sig) → Buf (Elt Ideal) ℓ) (g : Dev Cert.PatchIdeal.nD → PrngReg)
    (m' : (ℓ : Loc Cert.PatchRefIdeal.nD Cert.PatchRefIdeal.τ Cert.PatchRefIdeal.sig) → Buf (Elt Ideal) ℓ) (g' : Dev Cert.PatchRefIdeal.nD → PrngReg), Pre_PatchIdeal m →
    (∀ c : Dev Cert.PatchIdeal.nD,
      m' ((c.tc : Thread Cert.PatchRefIdeal.nD Cert.PatchRefIdeal.τ).loc Cert.PatchRefIdeal.main_arg0) = m ((c.tc : Thread Cert.PatchIdeal.nD Cert.PatchIdeal.τ).loc Cert.PatchIdeal.main_arg0)
      ∧ m' ((c.tc : Thread Cert.PatchRefIdeal.nD Cert.PatchRefIdeal.τ).loc Cert.PatchRefIdeal.main_arg1) = m ((c.tc : Thread Cert.PatchIdeal.nD Cert.PatchIdeal.τ).loc Cert.PatchIdeal.main_arg1)) →
    ∃ (v0 : (c : Dev Cert.PatchIdeal.nD) → Buf (Elt Ideal) ((c.tc : Thread Cert.PatchIdeal.nD Cert.PatchIdeal.τ).loc Cert.PatchIdeal.main_v0)),
      θ_run (Cert.PatchIdeal.defs (F := Ideal)) (onTc (τ := Cert.PatchIdeal.τ) (Cert.PatchIdeal.main (F := Ideal))) ⟨m, fun _ => 0, g⟩ (fun r => ∀ c : Dev Cert.PatchIdeal.nD,
          r.2.mem ((c.tc : Thread Cert.PatchIdeal.nD Cert.PatchIdeal.τ).loc Cert.PatchIdeal.main_v0) = v0 c
          ∧ r.2.mem ((c.tc : Thread Cert.PatchIdeal.nD Cert.PatchIdeal.τ).loc Cert.PatchIdeal.main_arg0) = m ((c.tc : Thread Cert.PatchIdeal.nD Cert.PatchIdeal.τ).loc Cert.PatchIdeal.main_arg0)
          ∧ r.2.mem ((c.tc : Thread Cert.PatchIdeal.nD Cert.PatchIdeal.τ).loc Cert.PatchIdeal.main_arg1) = m ((c.tc : Thread Cert.PatchIdeal.nD Cert.PatchIdeal.τ).loc Cert.PatchIdeal.main_arg1))
      ∧ θ_run (Cert.PatchRefIdeal.defs (F := Ideal)) (onTc (τ := Cert.PatchRefIdeal.τ) (Cert.PatchRefIdeal.main (F := Ideal))) ⟨m', fun _ => 0, g'⟩ (fun r => ∀ c : Dev Cert.PatchRefIdeal.nD,
          r.2.mem ((c.tc : Thread Cert.PatchRefIdeal.nD Cert.PatchRefIdeal.τ).loc Cert.PatchRefIdeal.main_v2) = v0 c
          ∧ r.2.mem ((c.tc : Thread Cert.PatchRefIdeal.nD Cert.PatchRefIdeal.τ).loc Cert.PatchRefIdeal.main_arg0) = m' ((c.tc : Thread Cert.PatchRefIdeal.nD Cert.PatchRefIdeal.τ).loc Cert.PatchRefIdeal.main_arg0)
          ∧ r.2.mem ((c.tc : Thread Cert.PatchRefIdeal.nD Cert.PatchRefIdeal.τ).loc Cert.PatchRefIdeal.main_arg1) = m' ((c.tc : Thread Cert.PatchRefIdeal.nD Cert.PatchRefIdeal.τ).loc Cert.PatchRefIdeal.main_arg1))

def Claim : Prop :=
  ∃ (hDMixed : Cert.DMixed.Facts) (hDMixedIdeal : Cert.DMixedIdeal.Facts) (hDMixedRefIdeal : Cert.DMixedRefIdeal.Facts) (hDWOut : Cert.DWOut.Facts) (hDWOutIdeal : Cert.DWOutIdeal.Facts) (hDWOutRefIdeal : Cert.DWOutRefIdeal.Facts) (hDWDown : Cert.DWDown.Facts) (hDWDownIdeal : Cert.DWDownIdeal.Facts) (hDWDownRefIdeal : Cert.DWDownRefIdeal.Facts) (hDown : Cert.Down.Facts) (hDownIdeal : Cert.DownIdeal.Facts) (hDownRefIdeal : Cert.DownRefIdeal.Facts) (hDAct : Cert.DAct.Facts) (hDActIdeal : Cert.DActIdeal.Facts) (hDActRefIdeal : Cert.DActRefIdeal.Facts) (hProj : Cert.Proj.Facts) (hProjIdeal : Cert.ProjIdeal.Facts) (hProjRefIdeal : Cert.ProjRefIdeal.Facts) (hOutProj : Cert.OutProj.Facts) (hOutProjIdeal : Cert.OutProjIdeal.Facts) (hOutProjRefIdeal : Cert.OutProjRefIdeal.Facts) (hGateUp : Cert.GateUp.Facts) (hGateUpIdeal : Cert.GateUpIdeal.Facts) (hGateUpRefIdeal : Cert.GateUpRefIdeal.Facts) (hDH1 : Cert.DH1.Facts) (hDH1Ideal : Cert.DH1Ideal.Facts) (hDH1RefIdeal : Cert.DH1RefIdeal.Facts) (hDX : Cert.DX.Facts) (hDXIdeal : Cert.DXIdeal.Facts) (hDXRefIdeal : Cert.DXRefIdeal.Facts) (hDWIn : Cert.DWIn.Facts) (hDWInIdeal : Cert.DWInIdeal.Facts) (hDWInRefIdeal : Cert.DWInRefIdeal.Facts) (hAdamFF : Cert.AdamFF.Facts) (hAdamFFIdeal : Cert.AdamFFIdeal.Facts) (hAdamFFRefIdeal : Cert.AdamFFRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hLN1 : Cert.LN1.Facts) (hLN1Ideal : Cert.LN1Ideal.Facts) (hLN1RefIdeal : Cert.LN1RefIdeal.Facts) (hLN1Bwd : Cert.LN1Bwd.Facts) (hLN1BwdIdeal : Cert.LN1BwdIdeal.Facts) (hLN1BwdRefIdeal : Cert.LN1BwdRefIdeal.Facts) (hLN2Loss : Cert.LN2Loss.Facts) (hLN2LossIdeal : Cert.LN2LossIdeal.Facts) (hLN2LossRefIdeal : Cert.LN2LossRefIdeal.Facts) (hMixer : Cert.Mixer.Facts) (hMixerIdeal : Cert.MixerIdeal.Facts) (hMixerRefIdeal : Cert.MixerRefIdeal.Facts) (hPatch : Cert.Patch.Facts) (hPatchIdeal : Cert.PatchIdeal.Facts) (hPatchRefIdeal : Cert.PatchRefIdeal.Facts) (hPre_dact_finite : Cert.Pre_dact_finite.Facts) (hPre_ln1_bwd_finite : Cert.Pre_ln1_bwd_finite.Facts) (hPre_ln2_loss_finite : Cert.Pre_ln2_loss_finite.Facts),
    quiescent_DMixed (hDMixed := hDMixed)
    ∧ quiescent_DMixedIdeal (hDMixedIdeal := hDMixedIdeal)
    ∧ quiescent_DMixedRefIdeal (hDMixedRefIdeal := hDMixedRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_DWDown (hDWDown := hDWDown)
    ∧ quiescent_DWDownIdeal (hDWDownIdeal := hDWDownIdeal)
    ∧ quiescent_DWDownRefIdeal (hDWDownRefIdeal := hDWDownRefIdeal)
    ∧ quiescent_Down (hDown := hDown)
    ∧ quiescent_DownIdeal (hDownIdeal := hDownIdeal)
    ∧ quiescent_DownRefIdeal (hDownRefIdeal := hDownRefIdeal)
    ∧ quiescent_DAct (hDAct := hDAct)
    ∧ quiescent_DActIdeal (hDActIdeal := hDActIdeal)
    ∧ quiescent_DActIdeal_pre_dact_finite (hDActIdeal := hDActIdeal) (hPre_dact_finite := hPre_dact_finite)
    ∧ quiescent_DActRefIdeal (hDActRefIdeal := hDActRefIdeal)
    ∧ quiescent_DActRefIdeal_pre_dact_finite (hDActRefIdeal := hDActRefIdeal) (hPre_dact_finite := hPre_dact_finite)
    ∧ quiescent_Proj (hProj := hProj)
    ∧ quiescent_ProjIdeal (hProjIdeal := hProjIdeal)
    ∧ quiescent_ProjRefIdeal (hProjRefIdeal := hProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_DX (hDX := hDX)
    ∧ quiescent_DXIdeal (hDXIdeal := hDXIdeal)
    ∧ quiescent_DXRefIdeal (hDXRefIdeal := hDXRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_AdamFF (hAdamFF := hAdamFF)
    ∧ quiescent_AdamFFIdeal (hAdamFFIdeal := hAdamFFIdeal)
    ∧ quiescent_AdamFFRefIdeal (hAdamFFRefIdeal := hAdamFFRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_LN1 (hLN1 := hLN1)
    ∧ quiescent_LN1Ideal (hLN1Ideal := hLN1Ideal)
    ∧ quiescent_LN1RefIdeal (hLN1RefIdeal := hLN1RefIdeal)
    ∧ quiescent_LN1Bwd (hLN1Bwd := hLN1Bwd)
    ∧ quiescent_LN1BwdIdeal (hLN1BwdIdeal := hLN1BwdIdeal)
    ∧ quiescent_LN1BwdIdeal_pre_ln1_bwd_finite (hLN1BwdIdeal := hLN1BwdIdeal) (hPre_ln1_bwd_finite := hPre_ln1_bwd_finite)
    ∧ quiescent_LN1BwdRefIdeal (hLN1BwdRefIdeal := hLN1BwdRefIdeal)
    ∧ quiescent_LN1BwdRefIdeal_pre_ln1_bwd_finite (hLN1BwdRefIdeal := hLN1BwdRefIdeal) (hPre_ln1_bwd_finite := hPre_ln1_bwd_finite)
    ∧ quiescent_LN2Loss (hLN2Loss := hLN2Loss)
    ∧ quiescent_LN2LossIdeal (hLN2LossIdeal := hLN2LossIdeal)
    ∧ quiescent_LN2LossIdeal_pre_ln2_loss_finite (hLN2LossIdeal := hLN2LossIdeal) (hPre_ln2_loss_finite := hPre_ln2_loss_finite)
    ∧ quiescent_LN2LossRefIdeal (hLN2LossRefIdeal := hLN2LossRefIdeal)
    ∧ quiescent_LN2LossRefIdeal_pre_ln2_loss_finite (hLN2LossRefIdeal := hLN2LossRefIdeal) (hPre_ln2_loss_finite := hPre_ln2_loss_finite)
    ∧ quiescent_Mixer (hMixer := hMixer)
    ∧ quiescent_MixerIdeal (hMixerIdeal := hMixerIdeal)
    ∧ quiescent_MixerRefIdeal (hMixerRefIdeal := hMixerRefIdeal)
    ∧ quiescent_Patch (hPatch := hPatch)
    ∧ quiescent_PatchIdeal (hPatchIdeal := hPatchIdeal)
    ∧ quiescent_PatchRefIdeal (hPatchRefIdeal := hPatchRefIdeal)
    ∧ preserves_DMixed_DMixedIdeal
    ∧ algebraic_DMixedIdeal_DMixedRefIdeal (hDMixedIdeal := hDMixedIdeal) (hDMixedRefIdeal := hDMixedRefIdeal)
    ∧ preserves_DWOut_DWOutIdeal
    ∧ algebraic_DWOutIdeal_DWOutRefIdeal (hDWOutIdeal := hDWOutIdeal) (hDWOutRefIdeal := hDWOutRefIdeal)
    ∧ preserves_DWDown_DWDownIdeal
    ∧ algebraic_DWDownIdeal_DWDownRefIdeal (hDWDownIdeal := hDWDownIdeal) (hDWDownRefIdeal := hDWDownRefIdeal)
    ∧ preserves_Down_DownIdeal
    ∧ algebraic_DownIdeal_DownRefIdeal (hDownIdeal := hDownIdeal) (hDownRefIdeal := hDownRefIdeal)
    ∧ preserves_DAct_DActIdeal
    ∧ algebraic_DActIdeal_DActRefIdeal_pre_dact_finite (hDActIdeal := hDActIdeal) (hDActRefIdeal := hDActRefIdeal) (hPre_dact_finite := hPre_dact_finite)
    ∧ preserves_Proj_ProjIdeal
    ∧ algebraic_ProjIdeal_ProjRefIdeal (hProjIdeal := hProjIdeal) (hProjRefIdeal := hProjRefIdeal)
    ∧ preserves_OutProj_OutProjIdeal
    ∧ algebraic_OutProjIdeal_OutProjRefIdeal (hOutProjIdeal := hOutProjIdeal) (hOutProjRefIdeal := hOutProjRefIdeal)
    ∧ preserves_GateUp_GateUpIdeal
    ∧ algebraic_GateUpIdeal_GateUpRefIdeal (hGateUpIdeal := hGateUpIdeal) (hGateUpRefIdeal := hGateUpRefIdeal)
    ∧ preserves_DH1_DH1Ideal
    ∧ algebraic_DH1Ideal_DH1RefIdeal (hDH1Ideal := hDH1Ideal) (hDH1RefIdeal := hDH1RefIdeal)
    ∧ preserves_DX_DXIdeal
    ∧ algebraic_DXIdeal_DXRefIdeal (hDXIdeal := hDXIdeal) (hDXRefIdeal := hDXRefIdeal)
    ∧ preserves_DWIn_DWInIdeal
    ∧ algebraic_DWInIdeal_DWInRefIdeal (hDWInIdeal := hDWInIdeal) (hDWInRefIdeal := hDWInRefIdeal)
    ∧ preserves_AdamFF_AdamFFIdeal
    ∧ algebraic_AdamFFIdeal_AdamFFRefIdeal (hAdamFFIdeal := hAdamFFIdeal) (hAdamFFRefIdeal := hAdamFFRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_LN1_LN1Ideal
    ∧ algebraic_LN1Ideal_LN1RefIdeal (hLN1Ideal := hLN1Ideal) (hLN1RefIdeal := hLN1RefIdeal)
    ∧ preserves_LN1Bwd_LN1BwdIdeal
    ∧ algebraic_LN1BwdIdeal_LN1BwdRefIdeal_pre_ln1_bwd_finite (hLN1BwdIdeal := hLN1BwdIdeal) (hLN1BwdRefIdeal := hLN1BwdRefIdeal) (hPre_ln1_bwd_finite := hPre_ln1_bwd_finite)
    ∧ preserves_LN2Loss_LN2LossIdeal
    ∧ algebraic_LN2LossIdeal_LN2LossRefIdeal_pre_ln2_loss_finite (hLN2LossIdeal := hLN2LossIdeal) (hLN2LossRefIdeal := hLN2LossRefIdeal) (hPre_ln2_loss_finite := hPre_ln2_loss_finite)
    ∧ preserves_Mixer_MixerIdeal
    ∧ algebraic_MixerIdeal_MixerRefIdeal (hMixerIdeal := hMixerIdeal) (hMixerRefIdeal := hMixerRefIdeal)
    ∧ preserves_Patch_PatchIdeal
    ∧ algebraic_PatchIdeal_PatchRefIdeal (hPatchIdeal := hPatchIdeal) (hPatchRefIdeal := hPatchRefIdeal)
-- ==== Pre_dact_finite.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .f32) (main_arg3 : FVec F S4096x5632 .f32) : IVec S4096x2048 1 × IVec S5632x2048 1 × IVec S4096x5632 1 :=
  let main_v0 : FVec F S4096x2048 .f32 := (extf .f32 · bitsLt_bf16_f32) main_arg0
  let main_v1 : FVec F S5632x2048 .f32 := (extf .f32 · bitsLt_bf16_f32) main_arg1
  let main_cst : FVec F S_ .f32 := constant S_ .f32 0xFF800000#32
  let main_v2 : FVec F S4096x2048 .f32 := broadcastInDim S4096x2048 ![] bcast_S_S4096x2048 main_cst
  let main_v3 : IVec S4096x2048 1 := cmpf .ogt main_v0 main_v2
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v0 main_v4
  let main_v6 : IVec S4096x2048 1 := andi main_v3 main_v5
  let main_cst_1 : FVec F S_ .f32 := constant S_ .f32 0xFF800000#32
  let main_v7 : FVec F S5632x2048 .f32 := broadcastInDim S5632x2048 ![] bcast_S_S5632x2048 main_cst_1
  let main_v8 : IVec S5632x2048 1 := cmpf .ogt main_v1 main_v7
  let main_cst_2 : FVec F S_ .f32 := constant S_ .f32 0x7F800000#32
  let main_v9 : FVec F S5632x2048 .f32 := broadcastInDim S5632x2048 ![] bcast_S_S5632x2048 main_cst_2
  let main_v10 : IVec S5632x2048 1 := cmpf .olt main_v1 main_v9
  let main_v11 : IVec S5632x2048 1 := andi main_v8 main_v10
  let main_cst_3 : FVec F S_ .f32 := constant S_ .f32 0xFF800000#32
  let main_v12 : FVec F S4096x5632 .f32 := broadcastInDim S4096x5632 ![] bcast_S_S4096x5632 main_cst_3
  let main_v13 : IVec S4096x5632 1 := cmpf .ogt main_arg3 main_v12
  let main_cst_4 : FVec F S_ .f32 := constant S_ .f32 0x7F800000#32
  let main_v14 : FVec F S4096x5632 .f32 := broadcastInDim S4096x5632 ![] bcast_S_S4096x5632 main_cst_4
  let main_v15 : IVec S4096x5632 1 := cmpf .olt main_arg3 main_v14
  let main_v16 : IVec S4096x5632 1 := andi main_v13 main_v15
  (main_v6, main_v11, main_v16)
-- ==== Pre_ln1_bwd_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) : IVec S4096x2048 1 × IVec S1x2048 1 :=
  let main_cst : FVec F S_ .f32 := constant S_ .f32 0xFF800000#32
  let main_v0 : FVec F S4096x2048 .f32 := broadcastInDim S4096x2048 ![] bcast_S_S4096x2048 main_cst
  let main_v1 : IVec S4096x2048 1 := cmpf .ogt main_arg0 main_v0
  let main_cst_0 : FVec F S_ .f32 := constant S_ .f32 0x7F800000#32
  let main_v2 : FVec F S4096x2048 .f32 := broadcastInDim S4096x2048 ![] bcast_S_S4096x2048 main_cst_0
  let main_v3 : IVec S4096x2048 1 := cmpf .olt main_arg0 main_v2
  let main_v4 : IVec S4096x2048 1 := andi main_v1 main_v3
  let main_cst_1 : FVec F S_ .f32 := constant S_ .f32 0xFF800000#32
  let main_v5 : FVec F S1x2048 .f32 := broadcastInDim S1x2048 ![] bcast_S_S1x2048 main_cst_1
  let main_v6 : IVec S1x2048 1 := cmpf .ogt main_arg2 main_v5
  let main_cst_2 : FVec F S_ .f32 := constant S_ .f32 0x7F800000#32
  let main_v7 : FVec F S1x2048 .f32 := broadcastInDim S1x2048 ![] bcast_S_S1x2048 main_cst_2
  let main_v8 : IVec S1x2048 1 := cmpf .olt main_arg2 main_v7
  let main_v9 : IVec S1x2048 1 := andi main_v6 main_v8
  (main_v4, main_v9)
-- ==== Pre_ln2_loss_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) : IVec S4096x2048 1 × IVec S1x2048 1 × IVec S1x2048 1 :=
  let main_cst : FVec F S_ .f32 := constant S_ .f32 0xFF800000#32
  let main_v0 : FVec F S4096x2048 .f32 := broadcastInDim S4096x2048 ![] bcast_S_S4096x2048 main_cst
  let main_v1 : IVec S4096x2048 1 := cmpf .ogt main_arg1 main_v0
  let main_cst_0 : FVec F S_ .f32 := constant S_ .f32 0x7F800000#32
  let main_v2 : FVec F S4096x2048 .f32 := broadcastInDim S4096x2048 ![] bcast_S_S4096x2048 main_cst_0
  let main_v3 : IVec S4096x2048 1 := cmpf .olt main_arg1 main_v2
  let main_v4 : IVec S4096x2048 1 := andi main_v1 main_v3
  let main_cst_1 : FVec F S_ .f32 := constant S_ .f32 0xFF800000#32
  let main_v5 : FVec F S1x2048 .f32 := broadcastInDim S1x2048 ![] bcast_S_S1x2048 main_cst_1
  let main_v6 : IVec S1x2048 1 := cmpf .ogt main_arg2 main_v5
  let main_cst_2 : FVec F S_ .f32 := constant S_ .f32 0x7F800000#32
  let main_v7 : FVec F S1x2048 .f32 := broadcastInDim S1x2048 ![] bcast_S_S1x2048 main_cst_2
  let main_v8 : IVec S1x2048 1 := cmpf .olt main_arg2 main_v7
  let main_v9 : IVec S1x2048 1 := andi main_v6 main_v8
  let main_cst_3 : FVec F S_ .f32 := constant S_ .f32 0xFF800000#32
  let main_v10 : FVec F S1x2048 .f32 := broadcastInDim S1x2048 ![] bcast_S_S1x2048 main_cst_3
  let main_v11 : IVec S1x2048 1 := cmpf .ogt main_arg3 main_v10
  let main_cst_4 : FVec F S_ .f32 := constant S_ .f32 0x7F800000#32
  let main_v12 : FVec F S1x2048 .f32 := broadcastInDim S1x2048 ![] bcast_S_S1x2048 main_cst_4
  let main_v13 : IVec S1x2048 1 := cmpf .olt main_arg3 main_v12
  let main_v14 : IVec S1x2048 1 := andi main_v11 main_v13
  (main_v4, main_v9, main_v14)
-- ==== DMixed.lean ====
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWOut.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWDown.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x5632, .f32⟩
  | .hbm, ⟨7, _⟩ => ⟨S5632x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DAct.lean ====
abbrev S4096x2048 : Shape := ⟨2, ![4096, 2048]⟩
abbrev S5632x2048 : Shape := ⟨2, ![5632, 2048]⟩
abbrev S4096x5632 : Shape := ⟨2, ![4096, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .hbm, ⟨3, _⟩ => ⟨S4096x5632, .f32⟩
  | .hbm, ⟨4, _⟩ => ⟨S4096x5632, .bf16⟩
  | .hbm, ⟨5, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DActRefIdeal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S5632x2048, .f32⟩
  | .hbm, ⟨19, _⟩ => ⟨S4096x2048, .f32⟩
  | .hbm, ⟨20, _⟩ => ⟨S4096x2048, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .bf16⟩
  | .hbm, ⟨29, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Proj.lean ====
abbrev S4096x2048 : Shape := ⟨2, ![4096, 2048]⟩
abbrev S4608x2048 : Shape := ⟨2, ![4608, 2048]⟩
abbrev S4096x4608 : Shape := ⟨2, ![4096, 4608]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4608x2048, .bf16⟩
  | .hbm, ⟨2, _⟩ => ⟨S4096x4608, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x2048 : Shape := ⟨2, ![4096, 2048]⟩
abbrev S4608x2048 : Shape := ⟨2, ![4608, 2048]⟩
abbrev S2048x4608 : Shape := ⟨2, ![2048, 4608]⟩
abbrev S4096x4608 : Shape := ⟨2, ![4096, 4608]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4608x2048, .bf16⟩
  | .hbm, ⟨2, _⟩ => ⟨S4096x2048, .f32⟩
  | .hbm, ⟨3, _⟩ => ⟨S4608x2048, .f32⟩
  | .hbm, ⟨4, _⟩ => ⟨S2048x4608, .f32⟩
  | .hbm, ⟨5, _⟩ => ⟨S4096x4608, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateUp.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S4096x5632, .f32⟩
  | .hbm, ⟨4, _⟩ => ⟨S4096x5632, .f32⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== GateUpRefIdeal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S5632x2048, .bf16⟩
  | .hbm, ⟨3, _⟩ => ⟨S4096x2048, .f32⟩
  | .hbm, ⟨4, _⟩ => ⟨S5632x2048, .f32⟩
  | .hbm, ⟨5, _⟩ => ⟨S2048x5632, .f32⟩
  | .hbm, ⟨6, _⟩ => ⟨S4096x5632, .f32⟩
  | .hbm, ⟨7, _⟩ => ⟨S4096x2048, .f32⟩
  | .hbm, ⟨8, _⟩ => ⟨S5632x2048, .f32⟩
  | .hbm, ⟨9, _⟩ => ⟨S2048x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== DH1.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .bf16⟩
  | .hbm, ⟨3, _⟩ => ⟨S5632x2048, .bf16⟩
  | .hbm, ⟨4, _⟩ => ⟨S4096x2048, .f32⟩
  | .hbm, ⟨5, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x5632, .bf16⟩
  | .local _ .vmem, ⟨5, _⟩ => ⟨S512x5632, .bf16⟩
  | .local _ .vmem, ⟨6, _⟩ => ⟨S5632x512, .bf16⟩
  | .local _ .vmem, ⟨7, _⟩ => ⟨S5632x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DH1RefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S2048x5632 : Shape := ⟨2, ![2048, 5632]⟩

abbrev nBuf : Space → Nat
  | .hbm => 25
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .bf16⟩
  | .hbm, ⟨3, _⟩ => ⟨S5632x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S5632x2048, .f32⟩
  | .hbm, ⟨11, _⟩ => ⟨S2048x5632, .f32⟩
  | .hbm, ⟨12, _⟩ => ⟨S4096x5632, .f32⟩
  | .hbm, ⟨13, _⟩ => ⟨S5632x2048, .f32⟩
  | .hbm, ⟨14, _⟩ => ⟨S2048x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== DX.lean ====
abbrev S4096x4608 : Shape := ⟨2, ![4096, 4608]⟩
abbrev S4608x2048 : Shape := ⟨2, ![4608, 2048]⟩
abbrev S4096x2048 : Shape := ⟨2, ![4096, 2048]⟩
abbrev S1024x4608 : Shape := ⟨2, ![1024, 4608]⟩
abbrev S4608x512 : Shape := ⟨2, ![4608, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4608, .bf16⟩
  | .hbm, ⟨1, _⟩ => ⟨S4608x2048, .bf16⟩
  | .hbm, ⟨2, _⟩ => ⟨S4096x2048, .f32⟩
  | .hbm, ⟨3, _⟩ => ⟨S4096x2048, .f32⟩
  | .local _ .vmem, ⟨0, _⟩ => ⟨S1024x4608, .bf16⟩
  | .local _ .vmem, ⟨1, _⟩ => ⟨S1024x4608, .bf16⟩
  | .local _ .vmem, ⟨2, _⟩ => ⟨S4608x512, .bf16⟩
  | .local _ .vmem, ⟨3, _⟩ => ⟨S4608x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4608x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DXRefIdeal.lean ====
abbrev S4096x4608 : Shape := ⟨2, ![4096, 4608]⟩
abbrev S4608x2048 : Shape := ⟨2, ![4608, 2048]⟩
abbrev S4096x2048 : Shape := ⟨2, ![4096, 2048]⟩
abbrev S_ : Shape := ⟨0, ![]⟩
abbrev S2048x4608 : Shape := ⟨2, ![2048, 4608]⟩

abbrev nBuf : Space → Nat
  | .hbm => 17
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4608x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4608x2048, .f32⟩
  | .hbm, ⟨9, _⟩ => ⟨S2048x4608, .f32⟩
  | .hbm, ⟨10, _⟩ => ⟨S4096x4608, .f32⟩
  | .hbm, ⟨11, _⟩ => ⟨S4096x4608, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== DWIn.lean ====
abbrev S4096x4608 : Shape := ⟨2, ![4096, 4608]⟩
abbrev S4096x2048 : Shape := ⟨2, ![4096, 2048]⟩
abbrev S4608x2048 : Shape := ⟨2, ![4608, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x4608, .bf16⟩
  | .hbm, ⟨1, _⟩ => ⟨S4096x2048, .bf16⟩
  | .hbm, ⟨2, _⟩ => ⟨S4608x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S4096x4608 : Shape := ⟨2, ![4096, 4608]⟩
abbrev S4096x2048 : Shape := ⟨2, ![4096, 2048]⟩
abbrev S_ : Shape := ⟨0, ![]⟩
abbrev S4608x2048 : Shape := ⟨2, ![4608, 2048]⟩
abbrev S2048x4608 : Shape := ⟨2, ![2048, 4608]⟩

abbrev nBuf : Space → Nat
  | .hbm => 12
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4096x2048, .bf16⟩
  | .hbm, ⟨2, _⟩ => ⟨S_, .f32⟩
  | .hbm, ⟨3, _⟩ => ⟨S4608x2048, .f32⟩
  | .hbm, ⟨4, _⟩ => ⟨S4096x2048, .f32⟩
  | .hbm, ⟨5, _⟩ => ⟨S2048x4608, .f32⟩
  | .hbm, ⟨6, _⟩ => ⟨S4096x4608, .f32⟩
  | .hbm, ⟨7, _⟩ => ⟨S4096x4608, .f32⟩
  | .hbm, ⟨8, _⟩ => ⟨S4608x2048, .f32⟩
  | .hbm, ⟨9, _⟩ => ⟨S2048x4608, .f32⟩
  | .hbm, ⟨10, _⟩ => ⟨S4608x2048, .f32⟩
  | .hbm, ⟨11, _⟩ => ⟨S4608x2048, .bf16⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamFF.lean ====
abbrev S704x2048 : Shape := ⟨2, ![704, 2048]⟩
abbrev S4x704x2048 : Shape := ⟨3, ![4, 704, 2048]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S704x2048, .f32⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S4x176x2048, .bf16⟩
  | .local _ .vmem, ⟨3, _⟩ => ⟨S4x176x2048, .bf16⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFFIdeal.lean ====
abbrev S704x2048 : Shape := ⟨2, ![704, 2048]⟩
abbrev S4x704x2048 : Shape := ⟨3, ![4, 704, 2048]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S704x2048, .f32⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S4x176x2048, .bf16⟩
  | .local _ .vmem, ⟨3, _⟩ => ⟨S4x176x2048, .bf16⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFFRefIdeal.lean ====
abbrev S704x2048 : Shape := ⟨2, ![704, 2048]⟩
abbrev S4x704x2048 : Shape := ⟨3, ![4, 704, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S4x704x2048, .bf16⟩
  | .hbm, ⟨2, _⟩ => ⟨S704x2048, .f32⟩
  | .hbm, ⟨3, _⟩ => ⟨S704x2048, .f32⟩
  | .hbm, ⟨4, _⟩ => ⟨S4x704x2048, .f32⟩
  | .hbm, ⟨5, _⟩ => ⟨S_, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S704x2048, .f32⟩
  | .hbm, ⟨10, _⟩ => ⟨S_, .f32⟩
  | .hbm, ⟨11, _⟩ => ⟨S704x2048, .f32⟩
  | .hbm, ⟨12, _⟩ => ⟨S704x2048, .f32⟩
  | .hbm, ⟨13, _⟩ => ⟨S704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S704x2048, .f32⟩
  | .hbm, ⟨22, _⟩ => ⟨S_, .f32⟩
  | .hbm, ⟨23, _⟩ => ⟨S704x2048, .f32⟩
  | .hbm, ⟨24, _⟩ => ⟨S704x2048, .f32⟩
  | .hbm, ⟨25, _⟩ => ⟨S_, .f32⟩
  | .hbm, ⟨26, _⟩ => ⟨S704x2048, .f32⟩
  | .hbm, ⟨27, _⟩ => ⟨S704x2048, .f32⟩
  | .hbm, ⟨28, _⟩ => ⟨S704x2048, .f32⟩
  | .hbm, ⟨29, _⟩ => ⟨S_, .f32⟩
  | .hbm, ⟨30, _⟩ => ⟨S704x2048, .f32⟩
  | .hbm, ⟨31, _⟩ => ⟨S704x2048, .f32⟩
  | .hbm, ⟨32, _⟩ => ⟨S704x2048, .f32⟩
  | .hbm, ⟨33, _⟩ => ⟨S_, .f32⟩
  | .hbm, ⟨34, _⟩ => ⟨S704x2048, .f32⟩
  | .hbm, ⟨35, _⟩ => ⟨S704x2048, .f32⟩
  | .hbm, ⟨36, _⟩ => ⟨S704x2048, .f32⟩
  | .hbm, ⟨37, _⟩ => ⟨S_, .f32⟩
  | .hbm, ⟨38, _⟩ => ⟨S704x2048, .f32⟩
  | .hbm, ⟨39, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S576x2048 : Shape := ⟨2, ![576, 2048]⟩
abbrev S4x576x2048 : Shape := ⟨3, ![4, 576, 2048]⟩
abbrev S144x2048 : Shape := ⟨2, ![144, 2048]⟩
abbrev S4x144x2048 : Shape := ⟨3, ![4, 144, 2048]⟩
abbrev S1x144x2048 : Shape := ⟨3, ![1, 144, 2048]⟩

abbrev nBuf : Space → Nat
  | .hbm => 8
  | .vmem => 16
  | .smem => 0
  | _ => 0

abbrev bufTy : (tb : Table) → Fin (tcTables nBuf tb) → BufTy
  | .hbm, ⟨0, _⟩ => ⟨S576x2048, .f32⟩
  | .hbm, ⟨1, _⟩ => ⟨S4x576x2048, .bf16⟩
  | .hbm, ⟨2, _⟩ => ⟨S576x2048, .f32⟩
  | .hbm, ⟨3, _⟩ => ⟨S576x2048, .f32⟩
  | .hbm, ⟨4, _⟩ => ⟨S576x2048, .f32⟩
  | .hbm, ⟨5, _⟩ => ⟨S576x2048, .f32⟩
  | .hbm, ⟨6, _⟩ => ⟨S576x2048, .f32⟩
  | .hbm, ⟨7, _⟩ => ⟨S576x2048, .f32⟩
  | .local _ .vmem, ⟨0, _⟩ => ⟨S144x2048, .f32⟩
  | .local _ .vmem, ⟨1, _⟩ => ⟨S144x2048, .f32⟩
  | .local _ .vmem, ⟨2, _⟩ => ⟨S4x144x2048, .bf16⟩
  | .local _ .vmem, ⟨3, _⟩ => ⟨S4x144x2048, .bf16⟩
  | .local _ .vmem, ⟨4, _⟩ => ⟨S144x2048, .f32⟩
  | .local _ .vmem, ⟨5, _⟩ => ⟨S144x2048, .f32⟩
  | .local _ .vmem, ⟨6, _⟩ => ⟨S144x2048, .f32⟩
  | .local _ .vmem, ⟨7, _⟩ => ⟨S144x2048, .f32⟩
  | .local _ .vmem, ⟨8, _⟩ => ⟨S144x2048, .f32⟩
  | .local _ .vmem, ⟨9, _⟩ => ⟨S144x2048, .f32⟩
  | .local _ .vmem, ⟨10, _⟩ => ⟨S144x2048, .f32⟩
  | .local _ .vmem, ⟨11, _⟩ => ⟨S144x2048, .f32⟩
  | .local _ .vmem, ⟨12, _⟩ => ⟨S144x2048, .f32⟩
  | .local _ .vmem, ⟨13, _⟩ => ⟨S144x2048, .f32⟩
  | .local _ .vmem, ⟨14, _⟩ => ⟨S144x2048, .f32⟩
  | .local _ .vmem, ⟨15, _⟩ => ⟨S144x2048, .f32⟩
  | _, _ => ⟨S576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x144x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S576x2048 : Shape := ⟨2, ![576, 2048]⟩
abbrev S4x576x2048 : Shape := ⟨3, ![4, 576, 2048]⟩
abbrev S144x2048 : Shape := ⟨2, ![144, 2048]⟩
abbrev S4x144x2048 : Shape := ⟨3, ![4, 144, 2048]⟩
abbrev S1x144x2048 : Shape := ⟨3, ![1, 144, 2048]⟩

abbrev nBuf : Space → Nat
  | .hbm => 8
  | .vmem => 16
  | .smem => 0
  | _ => 0

abbrev bufTy : (tb : Table) → Fin (tcTables nBuf tb) → BufTy
  | .hbm, ⟨0, _⟩ => ⟨S576x2048, .f32⟩
  | .hbm, ⟨1, _⟩ => ⟨S4x576x2048, .bf16⟩
  | .hbm, ⟨2, _⟩ => ⟨S576x2048, .f32⟩
  | .hbm, ⟨3, _⟩ => ⟨S576x2048, .f32⟩
  | .hbm, ⟨4, _⟩ => ⟨S576x2048, .f32⟩
  | .hbm, ⟨5, _⟩ => ⟨S576x2048, .f32⟩
  | .hbm, ⟨6, _⟩ => ⟨S576x2048, .f32⟩
  | .hbm, ⟨7, _⟩ => ⟨S576x2048, .f32⟩
  | .local _ .vmem, ⟨0, _⟩ => ⟨S144x2048, .f32⟩
  | .local _ .vmem, ⟨1, _⟩ => ⟨S144x2048, .f32⟩
  | .local _ .vmem, ⟨2, _⟩ => ⟨S4x144x2048, .bf16⟩
  | .local _ .vmem, ⟨3, _⟩ => ⟨S4x144x2048, .bf16⟩
  | .local _ .vmem, ⟨4, _⟩ => ⟨S144x2048, .f32⟩
  | .local _ .vmem, ⟨5, _⟩ => ⟨S144x2048, .f32⟩
  | .local _ .vmem, ⟨6, _⟩ => ⟨S144x2048, .f32⟩
  | .local _ .vmem, ⟨7, _⟩ => ⟨S144x2048, .f32⟩
  | .local _ .vmem, ⟨8, _⟩ => ⟨S144x2048, .f32⟩
  | .local _ .vmem, ⟨9, _⟩ => ⟨S144x2048, .f32⟩
  | .local _ .vmem, ⟨10, _⟩ => ⟨S144x2048, .f32⟩
  | .local _ .vmem, ⟨11, _⟩ => ⟨S144x2048, .f32⟩
  | .local _ .vmem, ⟨12, _⟩ => ⟨S144x2048, .f32⟩
  | .local _ .vmem, ⟨13, _⟩ => ⟨S144x2048, .f32⟩
  | .local _ .vmem, ⟨14, _⟩ => ⟨S144x2048, .f32⟩
  | .local _ .vmem, ⟨15, _⟩ => ⟨S144x2048, .f32⟩
  | _, _ => ⟨S576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x144x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S576x2048 : Shape := ⟨2, ![576, 2048]⟩
abbrev S4x576x2048 : Shape := ⟨3, ![4, 576, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S576x2048, .f32⟩
  | .hbm, ⟨1, _⟩ => ⟨S4x576x2048, .bf16⟩
  | .hbm, ⟨2, _⟩ => ⟨S576x2048, .f32⟩
  | .hbm, ⟨3, _⟩ => ⟨S576x2048, .f32⟩
  | .hbm, ⟨4, _⟩ => ⟨S4x576x2048, .f32⟩
  | .hbm, ⟨5, _⟩ => ⟨S_, .f32⟩
  | .hbm, ⟨6, _⟩ => ⟨S576x2048, .f32⟩
  | .hbm, ⟨7, _⟩ => ⟨S_, .f32⟩
  | .hbm, ⟨8, _⟩ => ⟨S576x2048, .f32⟩
  | .hbm, ⟨9, _⟩ => ⟨S576x2048, .f32⟩
  | .hbm, ⟨10, _⟩ => ⟨S_, .f32⟩
  | .hbm, ⟨11, _⟩ => ⟨S576x2048, .f32⟩
  | .hbm, ⟨12, _⟩ => ⟨S576x2048, .f32⟩
  | .hbm, ⟨13, _⟩ => ⟨S576x2048, .f32⟩
  | .hbm, ⟨14, _⟩ => ⟨S_, .f32⟩
  | .hbm, ⟨15, _⟩ => ⟨S576x2048, .f32⟩
  | .hbm, ⟨16, _⟩ => ⟨S576x2048, .f32⟩
  | .hbm, ⟨17, _⟩ => ⟨S576x2048, .f32⟩
  | .hbm, ⟨18, _⟩ => ⟨S_, .f32⟩
  | .hbm, ⟨19, _⟩ => ⟨S576x2048, .f32⟩
  | .hbm, ⟨20, _⟩ => ⟨S576x2048, .f32⟩
  | .hbm, ⟨21, _⟩ => ⟨S576x2048, .f32⟩
  | .hbm, ⟨22, _⟩ => ⟨S_, .f32⟩
  | .hbm, ⟨23, _⟩ => ⟨S576x2048, .f32⟩
  | .hbm, ⟨24, _⟩ => ⟨S576x2048, .f32⟩
  | .hbm, ⟨25, _⟩ => ⟨S_, .f32⟩
  | .hbm, ⟨26, _⟩ => ⟨S576x2048, .f32⟩
  | .hbm, ⟨27, _⟩ => ⟨S576x2048, .f32⟩
  | .hbm, ⟨28, _⟩ => ⟨S576x2048, .f32⟩
  | .hbm, ⟨29, _⟩ => ⟨S_, .f32⟩
  | .hbm, ⟨30, _⟩ => ⟨S576x2048, .f32⟩
  | .hbm, ⟨31, _⟩ => ⟨S576x2048, .f32⟩
  | .hbm, ⟨32, _⟩ => ⟨S576x2048, .f32⟩
  | .hbm, ⟨33, _⟩ => ⟨S_, .f32⟩
  | .hbm, ⟨34, _⟩ => ⟨S576x2048, .f32⟩
  | .hbm, ⟨35, _⟩ => ⟨S576x2048, .f32⟩
  | .hbm, ⟨36, _⟩ => ⟨S576x2048, .f32⟩
  | .hbm, ⟨37, _⟩ => ⟨S_, .f32⟩
  | .hbm, ⟨38, _⟩ => ⟨S576x2048, .f32⟩
  | .hbm, ⟨39, _⟩ => ⟨S576x2048, .f32⟩
  | _, _ => ⟨S576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S256x2048 : Shape := ⟨2, ![256, 2048]⟩
abbrev S4x256x2048 : Shape := ⟨3, ![4, 256, 2048]⟩
abbrev S128x2048 : Shape := ⟨2, ![128, 2048]⟩
abbrev S4x128x2048 : Shape := ⟨3, ![4, 128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S128x2048, .f32⟩
  | .local _ .vmem, ⟨1, _⟩ => ⟨S128x2048, .f32⟩
  | .local _ .vmem, ⟨2, _⟩ => ⟨S4x128x2048, .bf16⟩
  | .local _ .vmem, ⟨3, _⟩ => ⟨S4x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S256x2048 : Shape := ⟨2, ![256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S4x256x2048, .bf16⟩
  | .hbm, ⟨2, _⟩ => ⟨S256x2048, .f32⟩
  | .hbm, ⟨3, _⟩ => ⟨S256x2048, .f32⟩
  | .hbm, ⟨4, _⟩ => ⟨S4x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S88x128 : Shape := ⟨2, ![88, 128]⟩
abbrev S1x88x128 : Shape := ⟨3, ![1, 88, 128]⟩
abbrev S8x128 : Shape := ⟨2, ![8, 128]⟩
abbrev S1x8x128 : Shape := ⟨3, ![1, 8, 128]⟩

abbrev nBuf : Space → Nat
  | .hbm => 8
  | .vmem => 16
  | .smem => 0
  | _ => 0

abbrev bufTy : (tb : Table) → Fin (tcTables nBuf tb) → BufTy
  | .hbm, ⟨0, _⟩ => ⟨S88x128, .f32⟩
  | .hbm, ⟨1, _⟩ => ⟨S1x88x128, .f32⟩
  | .hbm, ⟨2, _⟩ => ⟨S88x128, .f32⟩
  | .hbm, ⟨3, _⟩ => ⟨S88x128, .f32⟩
  | .hbm, ⟨4, _⟩ => ⟨S88x128, .f32⟩
  | .hbm, ⟨5, _⟩ => ⟨S88x128, .f32⟩
  | .hbm, ⟨6, _⟩ => ⟨S88x128, .f32⟩
  | .hbm, ⟨7, _⟩ => ⟨S88x128, .f32⟩
  | .local _ .vmem, ⟨0, _⟩ => ⟨S8x128, .f32⟩
  | .local _ .vmem, ⟨1, _⟩ => ⟨S8x128, .f32⟩
  | .local _ .vmem, ⟨2, _⟩ => ⟨S1x8x128, .f32⟩
  | .local _ .vmem, ⟨3, _⟩ => ⟨S1x8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S88x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSmallRefIdeal.lean ====
abbrev S88x128 : Shape := ⟨2, ![88, 128]⟩
abbrev S1x88x128 : Shape := ⟨3, ![1, 88, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S88x128, .f32⟩
  | .hbm, ⟨1, _⟩ => ⟨S1x88x128, .f32⟩
  | .hbm, ⟨2, _⟩ => ⟨S88x128, .f32⟩
  | .hbm, ⟨3, _⟩ => ⟨S88x128, .f32⟩
  | .hbm, ⟨4, _⟩ => ⟨S_, .f32⟩
  | .hbm, ⟨5, _⟩ => ⟨S88x128, .f32⟩
  | .hbm, ⟨6, _⟩ => ⟨S_, .f32⟩
  | .hbm, ⟨7, _⟩ => ⟨S88x128, .f32⟩
  | .hbm, ⟨8, _⟩ => ⟨S88x128, .f32⟩
  | .hbm, ⟨9, _⟩ => ⟨S_, .f32⟩
  | .hbm, ⟨10, _⟩ => ⟨S88x128, .f32⟩
  | .hbm, ⟨11, _⟩ => ⟨S88x128, .f32⟩
  | .hbm, ⟨12, _⟩ => ⟨S88x128, .f32⟩
  | .hbm, ⟨13, _⟩ => ⟨S_, .f32⟩
  | .hbm, ⟨14, _⟩ => ⟨S88x128, .f32⟩
  | .hbm, ⟨15, _⟩ => ⟨S88x128, .f32⟩
  | .hbm, ⟨16, _⟩ => ⟨S88x128, .f32⟩
  | .hbm, ⟨17, _⟩ => ⟨S_, .f32⟩
  | .hbm, ⟨18, _⟩ => ⟨S88x128, .f32⟩
  | .hbm, ⟨19, _⟩ => ⟨S88x128, .f32⟩
  | .hbm, ⟨20, _⟩ => ⟨S88x128, .f32⟩
  | .hbm, ⟨21, _⟩ => ⟨S_, .f32⟩
  | .hbm, ⟨22, _⟩ => ⟨S88x128, .f32⟩
  | .hbm, ⟨23, _⟩ => ⟨S88x128, .f32⟩
  | .hbm, ⟨24, _⟩ => ⟨S_, .f32⟩
  | .hbm, ⟨25, _⟩ => ⟨S88x128, .f32⟩
  | .hbm, ⟨26, _⟩ => ⟨S88x128, .f32⟩
  | .hbm, ⟨27, _⟩ => ⟨S88x128, .f32⟩
  | .hbm, ⟨28, _⟩ => ⟨S_, .f32⟩
  | .hbm, ⟨29, _⟩ => ⟨S88x128, .f32⟩
  | .hbm, ⟨30, _⟩ => ⟨S88x128, .f32⟩
  | .hbm, ⟨31, _⟩ => ⟨S88x128, .f32⟩
  | .hbm, ⟨32, _⟩ => ⟨S_, .f32⟩
  | .hbm, ⟨33, _⟩ => ⟨S88x128, .f32⟩
  | .hbm, ⟨34, _⟩ => ⟨S88x128, .f32⟩
  | .hbm, ⟨35, _⟩ => ⟨S88x128, .f32⟩
  | .hbm, ⟨36, _⟩ => ⟨S_, .f32⟩
  | .hbm, ⟨37, _⟩ => ⟨S88x128, .f32⟩
  | .hbm, ⟨38, _⟩ => ⟨S88x128, .f32⟩
  | _, _ => ⟨S88x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LN1.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LN1RefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== LN1Bwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v46 : BitVec 32 := Scalar.extui v0
  let c0_i32_19 : BitVec 32 := 0#32
  let v47 : BitVec 1 := Scalar.cmpi .ne v46 c0_i32_19
  v47

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v48 : BitVec 1 := Scalar.xori v0 v_true
  let v49 : BitVec 32 := Scalar.extui v48
  let c0_i32_20 : BitVec 32 := 0#32
  let v50 : BitVec 1 := Scalar.cmpi .ne v49 c0_i32_20
  v50

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v51 : BitVec 32 := Scalar.extui v0
  let c0_i32_21 : BitVec 32 := 0#32
  let v52 : BitVec 1 := Scalar.cmpi .ne v51 c0_i32_21
  v52

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_22 : BitVec 1 := 1#1
  let v53 : BitVec 1 := Scalar.xori v0 true_22
  let v54 : BitVec 32 := Scalar.extui v53
  let c0_i32_23 : BitVec 32 := 0#32
  let v55 : BitVec 1 := Scalar.cmpi .ne v54 c0_i32_23
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LN1BwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x2048, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x2048, .f32⟩
  | .hbm, ⟨79, _⟩ => ⟨S4096x2048, .f32⟩
  | .hbm, ⟨80, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== LN2Loss.lean ====
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x512x2048 : Shape := ⟨3, ![1, 512, 2048]⟩
abbrev S1 : Shape := ⟨1, ![1]⟩
abbrev S1x1x1 : Shape := ⟨3, ![1, 1, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x128, .f32⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S8x128, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v65 : BitVec 32 := Scalar.extui v0
  let c0_i32_28 : BitVec 32 := 0#32
  let v66 : BitVec 1 := Scalar.cmpi .ne v65 c0_i32_28
  v66

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v67 : BitVec 1 := Scalar.xori v0 v_true
  let v68 : BitVec 32 := Scalar.extui v67
  let c0_i32_29 : BitVec 32 := 0#32
  let v69 : BitVec 1 := Scalar.cmpi .ne v68 c0_i32_29
  v69

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v70 : BitVec 32 := Scalar.extui v0
  let c0_i32_30 : BitVec 32 := 0#32
  let v71 : BitVec 1 := Scalar.cmpi .ne v70 c0_i32_30
  v71

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_31 : BitVec 1 := 1#1
  let v72 : BitVec 1 := Scalar.xori v0 true_31
  let v73 : BitVec 32 := Scalar.extui v72
  let c0_i32_32 : BitVec 32 := 0#32
  let v74 : BitVec 1 := Scalar.cmpi .ne v73 c0_i32_32
  v74

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v75 : BitVec 32 := Scalar.extui v0
  let c0_i32_33 : BitVec 32 := 0#32
  let v76 : BitVec 1 := Scalar.cmpi .ne v75 c0_i32_33
  v76

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_34 : BitVec 1 := 1#1
  let v77 : BitVec 1 := Scalar.xori v0 true_34
  let v78 : BitVec 32 := Scalar.extui v77
  let c0_i32_35 : BitVec 32 := 0#32
  let v79 : BitVec 1 := Scalar.cmpi .ne v78 c0_i32_35
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LN2LossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x2048, .f32⟩
  | .hbm, ⟨75, _⟩ => ⟨S4096x2048, .f32⟩
  | .hbm, ⟨76, _⟩ => ⟨S4096x1, .f32⟩
  | .hbm, ⟨77, _⟩ => ⟨S4096x2048, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x2048, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x2048, .f32⟩
  | .hbm, ⟨100, _⟩ => ⟨S4096x2048, .f32⟩
  | .hbm, ⟨101, _⟩ => ⟨S4096x2048, .bf16⟩
  | .hbm, ⟨102, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_cst_11 : Ref sig .tc := ⟨.hbm, 52, rfl⟩
abbrev main_cst_12 : Ref sig .tc := ⟨.hbm, 53, rfl⟩
abbrev main_v36 : Ref sig .tc := ⟨.hbm, 54, rfl⟩
abbrev main_v37 : Ref sig .tc := ⟨.hbm, 55, rfl⟩
abbrev main_cst_13 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_15 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_cst_18 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_v69 : Ref sig .tc := ⟨.hbm, 96, rfl⟩
abbrev main_cst_22 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Mixer.lean ====
abbrev S4096x4608 : Shape := ⟨2, ![4096, 4608]⟩
abbrev S4096x256 : Shape := ⟨2, ![4096, 256]⟩
abbrev S1x16 : Shape := ⟨2, ![1, 16]⟩
abbrev S1x1024 : Shape := ⟨2, ![1, 1024]⟩
abbrev S3x1024 : Shape := ⟨2, ![3, 1024]⟩
abbrev S_ : Shape := ⟨0, ![]⟩
abbrev S8x1024 : Shape := ⟨2, ![8, 1024]⟩
abbrev S4096x2048 : Shape := ⟨2, ![4096, 2048]⟩
abbrev S4096x1024 : Shape := ⟨2, ![4096, 1024]⟩
abbrev S4096x16 : Shape := ⟨2, ![4096, 16]⟩
abbrev S4096x1280 : Shape := ⟨2, ![4096, 1280]⟩
abbrev S128x4608 : Shape := ⟨2, ![128, 4608]⟩
abbrev S128x256 : Shape := ⟨2, ![128, 256]⟩
abbrev S128x2048 : Shape := ⟨2, ![128, 2048]⟩
abbrev S128x1024 : Shape := ⟨2, ![128, 1024]⟩
abbrev S128x16 : Shape := ⟨2, ![128, 16]⟩
abbrev S128x1280 : Shape := ⟨2, ![128, 1280]⟩
abbrev S128x128 : Shape := ⟨2, ![128, 128]⟩
abbrev S256x256 : Shape := ⟨2, ![256, 256]⟩
abbrev S512x256 : Shape := ⟨2, ![512, 256]⟩
abbrev S256x128 : Shape := ⟨2, ![256, 128]⟩
abbrev S512x128 : Shape := ⟨2, ![512, 128]⟩
abbrev S1x1 : Shape := ⟨2, ![1, 1]⟩
abbrev S512x1 : Shape := ⟨2, ![512, 1]⟩
abbrev S512 : Shape := ⟨1, ![512]⟩
abbrev S128x1 : Shape := ⟨2, ![128, 1]⟩
abbrev S128 : Shape := ⟨1, ![128]⟩

abbrev nBuf : Space → Nat
  | .hbm => 14
  | .vmem => 21
  | .smem => 1
  | _ => 0

abbrev bufTy : (tb : Table) → Fin (tcTables nBuf tb) → BufTy
  | .hbm, ⟨0, _⟩ => ⟨S4096x4608, .f32⟩
  | .hbm, ⟨1, _⟩ => ⟨S4096x256, .f32⟩
  | .hbm, ⟨2, _⟩ => ⟨S1x16, .f32⟩
  | .hbm, ⟨3, _⟩ => ⟨S1x1024, .f32⟩
  | .hbm, ⟨4, _⟩ => ⟨S1x1024, .f32⟩
  | .hbm, ⟨5, _⟩ => ⟨S3x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S4096x2048, .bf16⟩
  | .hbm, ⟨10, _⟩ => ⟨S4096x1024, .f32⟩
  | .hbm, ⟨11, _⟩ => ⟨S4096x16, .f32⟩
  | .hbm, ⟨12, _⟩ => ⟨S4096x1024, .f32⟩
  | .hbm, ⟨13, _⟩ => ⟨S4096x1280, .bf16⟩
  | .local _ .vmem, ⟨0, _⟩ => ⟨S128x4608, .f32⟩
  | .local _ .vmem, ⟨1, _⟩ => ⟨S128x4608, .f32⟩
  | .local _ .vmem, ⟨2, _⟩ => ⟨S128x4608, .f32⟩
  | .local _ .vmem, ⟨3, _⟩ => ⟨S128x4608, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S1x1024, .f32⟩
  | .local _ .vmem, ⟨9, _⟩ => ⟨S1x1024, .f32⟩
  | .local _ .vmem, ⟨10, _⟩ => ⟨S8x1024, .f32⟩
  | .local _ .vmem, ⟨11, _⟩ => ⟨S128x2048, .bf16⟩
  | .local _ .vmem, ⟨12, _⟩ => ⟨S128x2048, .bf16⟩
  | .local _ .vmem, ⟨13, _⟩ => ⟨S128x1024, .f32⟩
  | .local _ .vmem, ⟨14, _⟩ => ⟨S128x1024, .f32⟩
  | .local _ .vmem, ⟨15, _⟩ => ⟨S128x16, .f32⟩
  | .local _ .vmem, ⟨16, _⟩ => ⟨S128x16, .f32⟩
  | .local _ .vmem, ⟨17, _⟩ => ⟨S128x1024, .f32⟩
  | .local _ .vmem, ⟨18, _⟩ => ⟨S128x1024, .f32⟩
  | .local _ .vmem, ⟨19, _⟩ => ⟨S128x1280, .bf16⟩
  | .local _ .vmem, ⟨20, _⟩ => ⟨S128x1280, .bf16⟩
  | .local _ .smem, ⟨0, _⟩ => ⟨S1x16, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixerRefIdeal.lean ====
abbrev S4096x4608 : Shape := ⟨2, ![4096, 4608]⟩
abbrev S4096x256 : Shape := ⟨2, ![4096, 256]⟩
abbrev S1x16 : Shape := ⟨2, ![1, 16]⟩
abbrev S1x1024 : Shape := ⟨2, ![1, 1024]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S4096x256, .f32⟩
  | .hbm, ⟨2, _⟩ => ⟨S1x16, .f32⟩
  | .hbm, ⟨3, _⟩ => ⟨S1x1024, .f32⟩
  | .hbm, ⟨4, _⟩ => ⟨S1x1024, .f32⟩
  | .hbm, ⟨5, _⟩ => ⟨S3x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S2x1024, .f32⟩
  | .hbm, ⟨11, _⟩ => ⟨S4098x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Patch.lean ====
abbrev S4096x4608 : Shape := ⟨2, ![4096, 4608]⟩
abbrev S4096x512 : Shape := ⟨2, ![4096, 512]⟩
abbrev S512x512 : Shape := ⟨2, ![512, 512]⟩

abbrev nBuf : Space → Nat
  | .hbm => 3
  | .vmem => 4
  | .smem => 0
  | _ => 0

abbrev bufTy : (tb : Table) → Fin (tcTables nBuf tb) → BufTy
  | .hbm, ⟨0, _⟩ => ⟨S4096x4608, .bf16⟩
  | .hbm, ⟨1, _⟩ => ⟨S4096x512, .bf16⟩
  | .hbm, ⟨2, _⟩ => ⟨S4096x4608, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PatchRefIdeal.lean ====
abbrev S4096x4608 : Shape := ⟨2, ![4096, 4608]⟩
abbrev S4096x512 : Shape := ⟨2, ![4096, 512]⟩
abbrev S4096x1024 : Shape := ⟨2, ![4096, 1024]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4096x512, .bf16⟩
  | .hbm, ⟨2, _⟩ => ⟨S4096x1024, .bf16⟩
  | .hbm, ⟨3, _⟩ => ⟨S4096x3072, .bf16⟩
  | .hbm, ⟨4, _⟩ => ⟨S4096x4608, .bf16⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.DMixedWhole.lean ====
/- The call of the gradient of the mixed heads through the output projection: what the arrays that it writes hold is what the reference computes of the whole arguments. -/
module

public import proofs.«01_k».proof.Defs
public import proofs.«01_k».proof.Proof.Gen.DMixedIdeal
public import proofs.«01_k».proof.Proof.Gen.DMixedRefIdeal
public import proofs.«01_k».proof.Proof.Gen.DMixedIdeal.Value
public import proofs.«01_k».proof.Proof.Gen.DMixedRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DMixedIdeal.Whole

open Cert.DMixedIdeal Cert.DMixedIdeal.Gen

variable (m : (ℓ : Loc nD τ sig) → Buf (Elt Ideal) ℓ)

/-- Result 0 of the reference, over whole arrays. -/
abbrev whole0 (x0 : FVec Ideal S4096x2048 .bf16) (x1 : FVec Ideal S2048x2048 .bf16) : FVec Ideal S4096x2048 .f32 :=
  Host.dotGeneral Cert.DMixedRefIdeal.dot_S4096x2048_S2048x2048_S4096x2048_1_1_0_0_n_n none (extf .f32 x0 Cert.DMixedRefIdeal.Gen.bitsLt_bf16_f32) (extf .f32 x1 Cert.DMixedRefIdeal.Gen.bitsLt_bf16_f32)

/-- Which block of its array each window holds at a grid point. -/
theorem places : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- Result 0 of the call, tile by tile: each tile is what the reference has there. -/
theorem written0 (c : Dev nD) : (dats m 0 c).arrAt 2 (cfgs 0).N = whole0 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole0]
  blk_point [iblk, V, places t]

/-- Call and reference leave the same arrays. -/
theorem same : Cert.algebraic_DMixedIdeal_DMixedRefIdeal := fun m g m' g' _ hm =>
  ⟨fun c => whole0 (m ((c : Thread nD τ).loc main_arg0)) (m ((c : Thread nD τ).loc main_arg1)),
    (θ_run defs _ _).mono (fun r h c => ⟨((h c).1).trans (written0 m c), (h c).2⟩) (Value.run_blocks m g),
    (θ_run Cert.DMixedRefIdeal.defs _ _).mono (fun r h c => by
      obtain ⟨h0, h1⟩ := hm c
      exact ⟨((h c).1).trans (by rw [h0, h1]), (h c).2⟩) (Cert.DMixedRefIdeal.Value.run m' g')⟩

end Cert.DMixedIdeal.Whole

end
-- ==== Proof.DWOutWhole.lean ====
/- The call of the gradient of the output projection: what the arrays that it writes hold is what the reference computes of the whole arguments. -/
module

public import proofs.«01_k».proof.Defs
public import proofs.«01_k».proof.Proof.Gen.DWOutIdeal
public import proofs.«01_k».proof.Proof.Gen.DWOutRefIdeal
public import proofs.«01_k».proof.Proof.Gen.DWOutIdeal.Value
public import proofs.«01_k».proof.Proof.Gen.DWOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DWOutIdeal.Whole

open Cert.DWOutIdeal Cert.DWOutIdeal.Gen

variable (m : (ℓ : Loc nD τ sig) → Buf (Elt Ideal) ℓ)

/-- Result 0 of the reference, over whole arrays. -/
abbrev whole0 (x0 : FVec Ideal S4096x2048 .bf16) (x1 : FVec Ideal S4096x2048 .bf16) : FVec Ideal S2048x2048 .bf16 :=
  truncf .bf16 (transpose Cert.DWOutRefIdeal.S2048x2048 [1, 0] (Host.dotGeneral Cert.DWOutRefIdeal.dot_S4096x2048_S4096x2048_S2048x2048_0_0_1_1_n_n none (extf .f32 x1 Cert.DWOutRefIdeal.Gen.bitsLt_bf16_f32) (extf .f32 x0 Cert.DWOutRefIdeal.Gen.bitsLt_bf16_f32)) Cert.DWOutRefIdeal.Gen.transposes_S2048x2048_S2048x2048_1_0) Cert.DWOutRefIdeal.Gen.bitsLt_bf16_f32

/-- Which block of its array each window holds at a grid point. -/
theorem places : ∀ t : Fin cfg0.N, win0_0.index t = ![0, (grid0.coords t 1).val] ∧ win0_1.index t = ![0, (grid0.coords t 0).val] ∧ win0_2.index t = ![(grid0.coords t 1).val, (grid0.coords t 0).val] :=
  (by decide +kernel : ∀ t : Fin grid0.N, _)

/-- A sum of products with the factors the other way round. -/
theorem products {n : ℕ} (f g : Fin n → EReal) (r : EReal) (h : ∑ k, g k * f k = r) : ∑ k, f k * g k = r :=
  (Finset.sum_congr rfl fun k _ => mul_comm (f k) (g k)).trans h

/-- Result 0 of the call, tile by tile: each tile is what the reference has there. -/
theorem written0 (c : Dev nD) : (dats m 0 c).arrAt 2 (cfgs 0).N = whole0 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole0]
  refine products _ _ _ ?_
  blk_point [iblk, V, places t]

/-- Call and reference leave the same arrays. -/
theorem same : Cert.algebraic_DWOutIdeal_DWOutRefIdeal := fun m g m' g' _ hm =>
  ⟨fun c => whole0 (m ((c : Thread nD τ).loc main_arg0)) (m ((c : Thread nD τ).loc main_arg1)),
    (θ_run defs _ _).mono (fun r h c => ⟨((h c).1).trans (written0 m c), (h c).2⟩) (Value.run_blocks m g),
    (θ_run Cert.DWOutRefIdeal.defs _ _).mono (fun r h c => by
      obtain ⟨h0, h1⟩ := hm c
      exact ⟨((h c).1).trans (by rw [h0, h1]), (h c).2⟩) (Cert.DWOutRefIdeal.Value.run m' g')⟩

end Cert.DWOutIdeal.Whole

end
-- ==== Proof.DWDownWhole.lean ====
/- The call of the gradient of the down projection: what the arrays that it writes hold is what the reference computes of the whole arguments. -/
module

public import proofs.«01_k».proof.Defs
public import proofs.«01_k».proof.Proof.Gen.DWDownIdeal
public import proofs.«01_k».proof.Proof.Gen.DWDownRefIdeal
public import proofs.«01_k».proof.Proof.Gen.DWDownIdeal.Value
public import proofs.«01_k».proof.Proof.Gen.DWDownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DWDownIdeal.Whole

open Cert.DWDownIdeal Cert.DWDownIdeal.Gen

variable (m : (ℓ : Loc nD τ sig) → Buf (Elt Ideal) ℓ)

/-- Result 0 of the reference, over whole arrays. -/
abbrev whole0 (x0 : FVec Ideal S4096x5632 .bf16) (x1 : FVec Ideal S4096x2048 .bf16) : FVec Ideal S5632x2048 .bf16 :=
  truncf .bf16 (transpose Cert.DWDownRefIdeal.S5632x2048 [1, 0] (Host.dotGeneral Cert.DWDownRefIdeal.dot_S4096x2048_S4096x5632_S2048x5632_0_0_1_1_n_n none (extf .f32 x1 Cert.DWDownRefIdeal.Gen.bitsLt_bf16_f32) (extf .f32 x0 Cert.DWDownRefIdeal.Gen.bitsLt_bf16_f32)) Cert.DWDownRefIdeal.Gen.transposes_S2048x5632_S5632x2048_1_0) Cert.DWDownRefIdeal.Gen.bitsLt_bf16_f32

/-- Which block of its array each window holds at a grid point. -/
theorem places : ∀ t : Fin cfg0.N, win0_0.index t = ![0, (grid0.coords t 1).val] ∧ win0_1.index t = ![0, (grid0.coords t 0).val] ∧ win0_2.index t = ![(grid0.coords t 1).val, (grid0.coords t 0).val] :=
  (by decide +kernel : ∀ t : Fin grid0.N, _)

/-- A sum of products with the factors the other way round. -/
theorem products {n : ℕ} (f g : Fin n → EReal) (r : EReal) (h : ∑ k, g k * f k = r) : ∑ k, f k * g k = r :=
  (Finset.sum_congr rfl fun k _ => mul_comm (f k) (g k)).trans h

/-- Result 0 of the call, tile by tile: each tile is what the reference has there. -/
theorem written0 (c : Dev nD) : (dats m 0 c).arrAt 2 (cfgs 0).N = whole0 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole0]
  refine products _ _ _ ?_
  blk_point [iblk, V, places t]

/-- Call and reference leave the same arrays. -/
theorem same : Cert.algebraic_DWDownIdeal_DWDownRefIdeal := fun m g m' g' _ hm =>
  ⟨fun c => whole0 (m ((c : Thread nD τ).loc main_arg0)) (m ((c : Thread nD τ).loc main_arg1)),
    (θ_run defs _ _).mono (fun r h c => ⟨((h c).1).trans (written0 m c), (h c).2⟩) (Value.run_blocks m g),
    (θ_run Cert.DWDownRefIdeal.defs _ _).mono (fun r h c => by
      obtain ⟨h0, h1⟩ := hm c
      exact ⟨((h c).1).trans (by rw [h0, h1]), (h c).2⟩) (Cert.DWDownRefIdeal.Value.run m' g')⟩

end Cert.DWDownIdeal.Whole

end
-- ==== Proof.DownWhole.lean ====
/- The call of the down projection with its residual: what the arrays that it writes hold is what the reference computes of the whole arguments. -/
module

public import proofs.«01_k».proof.Defs
public import proofs.«01_k».proof.Proof.Gen.DownIdeal
public import proofs.«01_k».proof.Proof.Gen.DownRefIdeal
public import proofs.«01_k».proof.Proof.Gen.DownIdeal.Value
public import proofs.«01_k».proof.Proof.Gen.DownRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownIdeal.Whole

open Cert.DownIdeal Cert.DownIdeal.Gen

variable (m : (ℓ : Loc nD τ sig) → Buf (Elt Ideal) ℓ)

/-- Result 0 of the reference, over whole arrays. -/
abbrev whole0 (x0 : FVec Ideal S4096x5632 .bf16) (x1 : FVec Ideal S5632x2048 .bf16) (x2 : FVec Ideal S4096x2048 .f32) : FVec Ideal S4096x2048 .f32 :=
  addf (mulf (broadcastInDim Cert.DownRefIdeal.S4096x2048 ![] Cert.DownRefIdeal.Gen.bcast_S_S4096x2048 (constant Cert.DownRefIdeal.S_ .f32 0x3F9837F0#32)) x2) (Host.dotGeneral Cert.DownRefIdeal.dot_S4096x5632_S5632x2048_S4096x2048_1_0_0_1_n_n none (extf .f32 x0 Cert.DownRefIdeal.Gen.bitsLt_bf16_f32) (extf .f32 x1 Cert.DownRefIdeal.Gen.bitsLt_bf16_f32))

/-- Which block of its array each window holds at a grid point. -/
theorem places : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- Result 0 of the call, tile by tile: each tile is what the reference has there. -/
theorem written0 (c : Dev nD) : (dats m 0 c).arrAt 3 (cfgs 0).N = whole0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, whole0]
  blk_point [iblk, V, places t]

/-- Call and reference leave the same arrays. -/
theorem same : Cert.algebraic_DownIdeal_DownRefIdeal := fun m g m' g' _ hm =>
  ⟨fun c => whole0 (m ((c : Thread nD τ).loc main_arg0)) (m ((c : Thread nD τ).loc main_arg1)) (m ((c : Thread nD τ).loc main_arg2)),
    (θ_run defs _ _).mono (fun r h c => ⟨((h c).1).trans (written0 m c), (h c).2⟩) (Value.run_blocks m g),
    (θ_run Cert.DownRefIdeal.defs _ _).mono (fun r h c => by
      obtain ⟨h0, h1, h2⟩ := hm c
      exact ⟨((h c).1).trans (by rw [h0, h1, h2]), (h c).2⟩) (Cert.DownRefIdeal.Value.run m' g')⟩

end Cert.DownIdeal.Whole

end
-- ==== Proof.Finite.lean ====
/- Reals among the extended reals: what a test for finiteness says of a value, sums and products of reals, and the derivative of `g ↦ g / (1 + exp (-g))` in its two forms. -/
module

public import Idealize.ShloMosaic.Lib.Pipeline.ValueKit

@[expose] public section

noncomputable section

namespace Cert.Reals

open Idealize.ShloMosaic

/-- `x` is a real number. -/
def IsReal (x : EReal) : Prop := ∃ r : ℝ, x = r

theorem bits_top : Ideal.ofBits .f32 0x7F800000#32 = (⊤ : EReal) := by simp [Ideal.ofBits, Ideal.ieee]
theorem bits_bot : Ideal.ofBits .f32 0xFF800000#32 = (⊥ : EReal) := by simp [Ideal.ofBits, Ideal.ieee]

/-- A value above `-inf` and below `inf` is real. -/
theorem of_test (x : Ideal .f32)
    (h : IntOp.andi (FloatOps.cmpf (F := Ideal) .ogt x (FloatOps.ofBits (F := Ideal) .f32 0xFF800000#32)) (FloatOps.cmpf (F := Ideal) .olt x (FloatOps.ofBits (F := Ideal) .f32 0x7F800000#32)) = 1#1) :
    IsReal x := by
  change IntOp.andi (Ideal.cmp .ogt x (Ideal.ofBits .f32 0xFF800000#32)) (Ideal.cmp .olt x (Ideal.ofBits .f32 0x7F800000#32)) = 1#1 at h
  rw [bits_top, bits_bot] at h
  change EReal at x
  induction x with
  | bot => simp [Ideal.cmp, IntOp.andi] at h
  | top => simp [Ideal.cmp, IntOp.andi] at h
  | coe r => exact ⟨r, rfl⟩

theorem mul {x y : EReal} (hx : IsReal x) (hy : IsReal y) : IsReal (x * y) := by
  obtain ⟨a, rfl⟩ := hx; obtain ⟨b, rfl⟩ := hy; exact ⟨a * b, (EReal.coe_mul a b).symm⟩

theorem sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    obtain ⟨p, hp⟩ := h a (Finset.mem_insert_self a s)
    obtain ⟨q, hq⟩ := ih fun i hi => h i (Finset.mem_insert_of_mem hi)
    exact ⟨p + q, by rw [Finset.sum_insert ha, hp, hq, EReal.coe_add]⟩

theorem logistic {g : EReal} (hg : IsReal g) : IsReal (Ideal.div 1 (1 + Ideal.exp (-g))) := by
  obtain ⟨r, rfl⟩ := hg
  have h0 : (1 + Real.exp (-r)) ≠ 0 := (add_pos one_pos (Real.exp_pos _)).ne'
  refine ⟨(1 + Real.exp (-r))⁻¹, ?_⟩
  have e : (1 + Ideal.exp (-(r : EReal))) = ((1 + Real.exp (-r) : ℝ) : EReal) := by
    rw [← EReal.coe_neg]; show (1 : EReal) + ((Real.exp (-r) : ℝ) : EReal) = _; rw [EReal.coe_add]; rfl
  rw [e, Ideal.div, if_neg (by exact_mod_cast h0), one_mul, EReal.coe_inv]

/-- The derivative of `g ↦ g / (1 + exp (-g))`, times a real: with `s` taken out, and as the sum of the two terms of the product rule. At `g = inf` both are `d`, at `g = -inf` both are zero. -/
theorem gated {d g : EReal} (hd : IsReal d) (r : EReal)
    (h : d * Ideal.div 1 (1 + Ideal.exp (-g)) + g * d * (Ideal.div 1 (1 + Ideal.exp (-g)) * (1 - Ideal.div 1 (1 + Ideal.exp (-g)))) = r) :
    d * (Ideal.div 1 (1 + Ideal.exp (-g)) * (1 + g * (1 - Ideal.div 1 (1 + Ideal.exp (-g))))) = r := by
  rw [← h]; clear h
  obtain ⟨a, rfl⟩ := hd
  induction g with
  | bot =>
    have e : Ideal.div 1 (1 + Ideal.exp (-⊥)) = 0 := by
      show Ideal.div 1 (1 + ⊤) = 0
      rw [show (1 : EReal) + ⊤ = ⊤ from EReal.coe_add_top 1]
      simp [Ideal.div]
    rw [e]
    simp
  | top =>
    have e : Ideal.div 1 (1 + Ideal.exp (-⊤)) = 1 := by
      show Ideal.div 1 (1 + 0) = 1
      rw [add_zero, Ideal.div, if_neg one_ne_zero, one_mul, ← EReal.coe_one, ← EReal.coe_inv, inv_one]
    have o : (1 : EReal) - 1 = 0 := by rw [← EReal.coe_one, ← EReal.coe_sub, sub_self, EReal.coe_zero]
    rw [e, o]
    simp
  | coe b =>
    obtain ⟨l, hl⟩ := logistic ⟨b, rfl⟩
    rw [hl]
    have e : (a * (l * (1 + b * (1 - l))) : ℝ) = a * l + b * a * (l * (1 - l)) := by ring
    exact_mod_cast congrArg (fun x : ℝ => (x : EReal)) e

end Cert.Reals

end
-- ==== Proof.DActWhole.lean ====
/- The call of the gradients of the gate and of the up projection, through the gated product and the down projection: what the arrays that it writes hold is what the reference computes of the whole arguments. -/
module

public import proofs.«01_k».proof.Defs
public import proofs.«01_k».proof.Proof.Gen.DActIdeal
public import proofs.«01_k».proof.Proof.Gen.DActRefIdeal
public import proofs.«01_k».proof.Proof.Gen.DActIdeal.Value
public import proofs.«01_k».proof.Proof.Gen.DActRefIdeal.Run
public import Idealize.ShloMosaic.Lib.Pipeline.ValueKit
public import proofs.«01_k».proof.Proof.Gen.Pre_dact_finite
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.DActIdeal.Whole

open Cert.DActIdeal Cert.DActIdeal.Gen
open Cert.Reals (IsReal)

variable (m : (ℓ : Loc nD τ sig) → Buf (Elt Ideal) ℓ)

/-- Result 0 of the reference, over whole arrays. -/
abbrev whole0 (x0 : FVec Ideal S4096x2048 .bf16) (x1 : FVec Ideal S5632x2048 .bf16) (x2 : FVec Ideal S4096x5632 .f32) (x3 : FVec Ideal S4096x5632 .f32) : FVec Ideal S4096x5632 .bf16 :=
  truncf .bf16 (addf (mulf (mulf (Host.dotGeneral Cert.DActRefIdeal.dot_S4096x2048_S5632x2048_S4096x5632_1_1_0_0_n_n none (extf .f32 x0 Cert.DActRefIdeal.Gen.bitsLt_bf16_f32) (extf .f32 x1 Cert.DActRefIdeal.Gen.bitsLt_bf16_f32)) x3) (Host.divf (broadcastInDim Cert.DActRefIdeal.S4096x5632 ![] Cert.DActRefIdeal.Gen.bcast_S_S4096x5632 (constant Cert.DActRefIdeal.S_ .f32 0x3F800000#32)) (addf (broadcastInDim Cert.DActRefIdeal.S4096x5632 ![] Cert.DActRefIdeal.Gen.bcast_S_S4096x5632 (constant Cert.DActRefIdeal.S_ .f32 0x3F800000#32)) (Host.exp (Host.negf x2))))) (mulf (mulf x2 (mulf (Host.dotGeneral Cert.DActRefIdeal.dot_S4096x2048_S5632x2048_S4096x5632_1_1_0_0_n_n none (extf .f32 x0 Cert.DActRefIdeal.Gen.bitsLt_bf16_f32) (extf .f32 x1 Cert.DActRefIdeal.Gen.bitsLt_bf16_f32)) x3)) (mulf (Host.divf (broadcastInDim Cert.DActRefIdeal.S4096x5632 ![] Cert.DActRefIdeal.Gen.bcast_S_S4096x5632 (constant Cert.DActRefIdeal.S_ .f32 0x3F800000#32)) (addf (broadcastInDim Cert.DActRefIdeal.S4096x5632 ![] Cert.DActRefIdeal.Gen.bcast_S_S4096x5632 (constant Cert.DActRefIdeal.S_ .f32 0x3F800000#32)) (Host.exp (Host.negf x2)))) (subf (broadcastInDim Cert.DActRefIdeal.S4096x5632 ![] Cert.DActRefIdeal.Gen.bcast_S_S4096x5632 (constant Cert.DActRefIdeal.S_ .f32 0x3F800000#32)) (Host.divf (broadcastInDim Cert.DActRefIdeal.S4096x5632 ![] Cert.DActRefIdeal.Gen.bcast_S_S4096x5632 (constant Cert.DActRefIdeal.S_ .f32 0x3F800000#32)) (addf (broadcastInDim Cert.DActRefIdeal.S4096x5632 ![] Cert.DActRefIdeal.Gen.bcast_S_S4096x5632 (constant Cert.DActRefIdeal.S_ .f32 0x3F800000#32)) (Host.exp (Host.negf x2)))))))) Cert.DActRefIdeal.Gen.bitsLt_bf16_f32

/-- Result 1 of the reference, over whole arrays. -/
abbrev whole1 (x0 : FVec Ideal S4096x2048 .bf16) (x1 : FVec Ideal S5632x2048 .bf16) (x2 : FVec Ideal S4096x5632 .f32) (x3 : FVec Ideal S4096x5632 .f32) : FVec Ideal S4096x5632 .bf16 :=
  truncf .bf16 (mulf (mulf x2 (Host.divf (broadcastInDim Cert.DActRefIdeal.S4096x5632 ![] Cert.DActRefIdeal.Gen.bcast_S_S4096x5632 (constant Cert.DActRefIdeal.S_ .f32 0x3F800000#32)) (addf (broadcastInDim Cert.DActRefIdeal.S4096x5632 ![] Cert.DActRefIdeal.Gen.bcast_S_S4096x5632 (constant Cert.DActRefIdeal.S_ .f32 0x3F800000#32)) (Host.exp (Host.negf x2))))) (Host.dotGeneral Cert.DActRefIdeal.dot_S4096x2048_S5632x2048_S4096x5632_1_1_0_0_n_n none (extf .f32 x0 Cert.DActRefIdeal.Gen.bitsLt_bf16_f32) (extf .f32 x1 Cert.DActRefIdeal.Gen.bitsLt_bf16_f32))) Cert.DActRefIdeal.Gen.bitsLt_bf16_f32

/-- Which block of its array each window holds at a grid point. -/
theorem places : ∀ t : Fin cfg0.N, win0_0.index t = ![(grid0.coords t 0).val, 0] ∧ win0_1.index t = ![(grid0.coords t 1).val, 0] ∧ win0_2.index t = ![(grid0.coords t 0).val, (grid0.coords t 1).val] ∧ win0_3.index t = ![(grid0.coords t 0).val, (grid0.coords t 1).val] ∧ win0_4.index t = ![(grid0.coords t 0).val, (grid0.coords t 1).val] ∧ win0_5.index t = ![(grid0.coords t 0).val, (grid0.coords t 1).val] :=
  (by decide +kernel : ∀ t : Fin grid0.N, _)

/-- All arguments but the gate are real wherever they are read. -/
theorem reals (hp : Cert.Pre_DActIdeal_dact_finite m) (c : Dev nD) :
    (∀ i, IsReal (m ((c : Thread nD τ).loc main_arg0) i)) ∧ (∀ i, IsReal (m ((c : Thread nD τ).loc main_arg1) i))
      ∧ (∀ i, IsReal (m ((c : Thread nD τ).loc main_arg3) i)) :=
  ⟨fun i => Cert.Reals.of_test _ (congrFun (hp c).1 i), fun i => Cert.Reals.of_test _ (congrFun (hp c).2.1 i),
    fun i => Cert.Reals.of_test _ (congrFun (hp c).2.2 i)⟩

/-- Result 0 of the call, tile by tile: each tile is what the reference has there. -/
theorem written0 (hp : Cert.Pre_DActIdeal_dact_finite m) (c : Dev nD) : (dats m 0 c).arrAt 4 (cfgs 0).N = whole0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, whole0, Ideal.logistic]
  obtain ⟨r0, r1, r3⟩ := reals m hp c
  refine Cert.Reals.gated (Cert.Reals.mul (Cert.Reals.sum _ _ fun k _ => Cert.Reals.mul (r0 _) (r1 _)) (r3 _)) _ ?_
  blk_point [iblk, V, places t]

/-- Result 1 of the call, tile by tile: each tile is what the reference has there. -/
theorem written1 (c : Dev nD) : (dats m 0 c).arrAt 5 (cfgs 0).N = whole1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, whole1, Ideal.logistic]
  blk_point [iblk, V, places t]

/-- Call and reference leave the same arrays. -/
theorem same : Cert.algebraic_DActIdeal_DActRefIdeal_pre_dact_finite := fun m g m' g' hp hm =>
  ⟨fun c => whole0 (m ((c : Thread nD τ).loc main_arg0)) (m ((c : Thread nD τ).loc main_arg1)) (m ((c : Thread nD τ).loc main_arg2)) (m ((c : Thread nD τ).loc main_arg3)), fun c => whole1 (m ((c : Thread nD τ).loc main_arg0)) (m ((c : Thread nD τ).loc main_arg1)) (m ((c : Thread nD τ).loc main_arg2)) (m ((c : Thread nD τ).loc main_arg3)),
    (θ_run defs _ _).mono (fun r h c => ⟨((h c).1).trans (written0 m hp c), ((h c).2.1).trans (written1 m c), (h c).2.2⟩) (Value.run_blocks m g),
    (θ_run Cert.DActRefIdeal.defs _ _).mono (fun r h c => by
      obtain ⟨h0, h1, h2, h3⟩ := hm c
      exact ⟨((h c).1).trans (by rw [h0, h1, h2, h3]), ((h c).2.1).trans (by rw [h0, h1, h2]), (h c).2.2⟩) (Cert.DActRefIdeal.Value.run m' g')⟩

end Cert.DActIdeal.Whole

end
-- ==== Proof.ProjWhole.lean ====
/- The call of the combined input projection: what the arrays that it writes hold is what the reference computes of the whole arguments. -/
module

public import proofs.«01_k».proof.Defs
public import proofs.«01_k».proof.Proof.Gen.ProjIdeal
public import proofs.«01_k».proof.Proof.Gen.ProjRefIdeal
public import proofs.«01_k».proof.Proof.Gen.ProjIdeal.Value
public import proofs.«01_k».proof.Proof.Gen.ProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Whole

open Cert.ProjIdeal Cert.ProjIdeal.Gen

variable (m : (ℓ : Loc nD τ sig) → Buf (Elt Ideal) ℓ)

/-- Result 0 of the reference, over whole arrays. -/
abbrev whole0 (x0 : FVec Ideal S4096x2048 .bf16) (x1 : FVec Ideal S4608x2048 .bf16) : FVec Ideal S4096x4608 .f32 :=
  Host.dotGeneral Cert.ProjRefIdeal.dot_S4096x2048_S2048x4608_S4096x4608_1_0_0_1_n_n none (extf .f32 x0 Cert.ProjRefIdeal.Gen.bitsLt_bf16_f32) (transpose Cert.ProjRefIdeal.S2048x4608 [1, 0] (extf .f32 x1 Cert.ProjRefIdeal.Gen.bitsLt_bf16_f32) Cert.ProjRefIdeal.Gen.transposes_S4608x2048_S2048x4608_1_0)

/-- Which block of its array each window holds at a grid point. -/
theorem places : ∀ t : Fin cfg0.N, win0_0.index t = ![(grid0.coords t 0).val, 0] ∧ win0_1.index t = ![(grid0.coords t 1).val, 0] ∧ win0_2.index t = ![(grid0.coords t 0).val, (grid0.coords t 1).val] :=
  (by decide +kernel : ∀ t : Fin grid0.N, _)

/-- Result 0 of the call, tile by tile: each tile is what the reference has there. -/
theorem written0 (c : Dev nD) : (dats m 0 c).arrAt 2 (cfgs 0).N = whole0 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole0]
  blk_point [iblk, V, places t]

/-- Call and reference leave the same arrays. -/
theorem same : Cert.algebraic_ProjIdeal_ProjRefIdeal := fun m g m' g' _ hm =>
  ⟨fun c => whole0 (m ((c : Thread nD τ).loc main_arg0)) (m ((c : Thread nD τ).loc main_arg1)),
    (θ_run defs _ _).mono (fun r h c => ⟨((h c).1).trans (written0 m c), (h c).2⟩) (Value.run_blocks m g),
    (θ_run Cert.ProjRefIdeal.defs _ _).mono (fun r h c => by
      obtain ⟨h0, h1⟩ := hm c
      exact ⟨((h c).1).trans (by rw [h0, h1]), (h c).2⟩) (Cert.ProjRefIdeal.Value.run m' g')⟩

end Cert.ProjIdeal.Whole

end
-- ==== Proof.OutProjWhole.lean ====
/- The call of the output projection with its residual: what the arrays that it writes hold is what the reference computes of the whole arguments. -/
module

public import proofs.«01_k».proof.Defs
public import proofs.«01_k».proof.Proof.Gen.OutProjIdeal
public import proofs.«01_k».proof.Proof.Gen.OutProjRefIdeal
public import proofs.«01_k».proof.Proof.Gen.OutProjIdeal.Value
public import proofs.«01_k».proof.Proof.Gen.OutProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Whole

open Cert.OutProjIdeal Cert.OutProjIdeal.Gen

variable (m : (ℓ : Loc nD τ sig) → Buf (Elt Ideal) ℓ)

/-- Result 0 of the reference, over whole arrays. -/
abbrev whole0 (x0 : FVec Ideal S4096x2048 .bf16) (x1 : FVec Ideal S2048x2048 .bf16) (x2 : FVec Ideal S4096x2048 .f32) : FVec Ideal S4096x2048 .f32 :=
  addf (mulf (broadcastInDim Cert.OutProjRefIdeal.S4096x2048 ![] Cert.OutProjRefIdeal.Gen.bcast_S_S4096x2048 (constant Cert.OutProjRefIdeal.S_ .f32 0x3F9837F0#32)) x2) (Host.dotGeneral Cert.OutProjRefIdeal.dot_S4096x2048_S2048x2048_S4096x2048_1_0_0_1_n_n none (extf .f32 x0 Cert.OutProjRefIdeal.Gen.bitsLt_bf16_f32) (extf .f32 x1 Cert.OutProjRefIdeal.Gen.bitsLt_bf16_f32))

/-- Which block of its array each window holds at a grid point. -/
theorem places : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- Result 0 of the call, tile by tile: each tile is what the reference has there. -/
theorem written0 (c : Dev nD) : (dats m 0 c).arrAt 3 (cfgs 0).N = whole0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, whole0]
  blk_point [iblk, V, places t]

/-- Call and reference leave the same arrays. -/
theorem same : Cert.algebraic_OutProjIdeal_OutProjRefIdeal := fun m g m' g' _ hm =>
  ⟨fun c => whole0 (m ((c : Thread nD τ).loc main_arg0)) (m ((c : Thread nD τ).loc main_arg1)) (m ((c : Thread nD τ).loc main_arg2)),
    (θ_run defs _ _).mono (fun r h c => ⟨((h c).1).trans (written0 m c), (h c).2⟩) (Value.run_blocks m g),
    (θ_run Cert.OutProjRefIdeal.defs _ _).mono (fun r h c => by
      obtain ⟨h0, h1, h2⟩ := hm c
      exact ⟨((h c).1).trans (by rw [h0, h1, h2]), (h c).2⟩) (Cert.OutProjRefIdeal.Value.run m' g')⟩

end Cert.OutProjIdeal.Whole

end
-- ==== Proof.GateUpWhole.lean ====
/- The call of the gate, the up projection and the gated product: what the arrays that it writes hold is what the reference computes of the whole arguments. -/
module

public import proofs.«01_k».proof.Defs
public import proofs.«01_k».proof.Proof.Gen.GateUpIdeal
public import proofs.«01_k».proof.Proof.Gen.GateUpRefIdeal
public import proofs.«01_k».proof.Proof.Gen.GateUpIdeal.Value
public import proofs.«01_k».proof.Proof.Gen.GateUpRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateUpIdeal.Whole

open Cert.GateUpIdeal Cert.GateUpIdeal.Gen

variable (m : (ℓ : Loc nD τ sig) → Buf (Elt Ideal) ℓ)

/-- Result 0 of the reference, over whole arrays. -/
abbrev whole0 (x0 : FVec Ideal S4096x2048 .bf16) (x1 : FVec Ideal S5632x2048 .bf16) (x2 : FVec Ideal S5632x2048 .bf16) : FVec Ideal S4096x5632 .f32 :=
  Host.dotGeneral Cert.GateUpRefIdeal.dot_S4096x2048_S2048x5632_S4096x5632_1_0_0_1_n_n none (extf .f32 x0 Cert.GateUpRefIdeal.Gen.bitsLt_bf16_f32) (transpose Cert.GateUpRefIdeal.S2048x5632 [1, 0] (extf .f32 x1 Cert.GateUpRefIdeal.Gen.bitsLt_bf16_f32) Cert.GateUpRefIdeal.Gen.transposes_S5632x2048_S2048x5632_1_0)

/-- Result 1 of the reference, over whole arrays. -/
abbrev whole1 (x0 : FVec Ideal S4096x2048 .bf16) (x1 : FVec Ideal S5632x2048 .bf16) (x2 : FVec Ideal S5632x2048 .bf16) : FVec Ideal S4096x5632 .f32 :=
  Host.dotGeneral Cert.GateUpRefIdeal.dot_S4096x2048_S2048x5632_S4096x5632_1_0_0_1_n_n none (extf .f32 x0 Cert.GateUpRefIdeal.Gen.bitsLt_bf16_f32) (transpose Cert.GateUpRefIdeal.S2048x5632 [1, 0] (extf .f32 x2 Cert.GateUpRefIdeal.Gen.bitsLt_bf16_f32) Cert.GateUpRefIdeal.Gen.transposes_S5632x2048_S2048x5632_1_0)

/-- Result 2 of the reference, over whole arrays. -/
abbrev whole2 (x0 : FVec Ideal S4096x2048 .bf16) (x1 : FVec Ideal S5632x2048 .bf16) (x2 : FVec Ideal S5632x2048 .bf16) : FVec Ideal S4096x5632 .bf16 :=
  truncf .bf16 (mulf (mulf (Host.dotGeneral Cert.GateUpRefIdeal.dot_S4096x2048_S2048x5632_S4096x5632_1_0_0_1_n_n none (extf .f32 x0 Cert.GateUpRefIdeal.Gen.bitsLt_bf16_f32) (transpose Cert.GateUpRefIdeal.S2048x5632 [1, 0] (extf .f32 x1 Cert.GateUpRefIdeal.Gen.bitsLt_bf16_f32) Cert.GateUpRefIdeal.Gen.transposes_S5632x2048_S2048x5632_1_0)) (Host.divf (broadcastInDim Cert.GateUpRefIdeal.S4096x5632 ![] Cert.GateUpRefIdeal.Gen.bcast_S_S4096x5632 (constant Cert.GateUpRefIdeal.S_ .f32 0x3F800000#32)) (addf (broadcastInDim Cert.GateUpRefIdeal.S4096x5632 ![] Cert.GateUpRefIdeal.Gen.bcast_S_S4096x5632 (constant Cert.GateUpRefIdeal.S_ .f32 0x3F800000#32)) (Host.exp (Host.negf (Host.dotGeneral Cert.GateUpRefIdeal.dot_S4096x2048_S2048x5632_S4096x5632_1_0_0_1_n_n none (extf .f32 x0 Cert.GateUpRefIdeal.Gen.bitsLt_bf16_f32) (transpose Cert.GateUpRefIdeal.S2048x5632 [1, 0] (extf .f32 x1 Cert.GateUpRefIdeal.Gen.bitsLt_bf16_f32) Cert.GateUpRefIdeal.Gen.transposes_S5632x2048_S2048x5632_1_0))))))) (Host.dotGeneral Cert.GateUpRefIdeal.dot_S4096x2048_S2048x5632_S4096x5632_1_0_0_1_n_n none (extf .f32 x0 Cert.GateUpRefIdeal.Gen.bitsLt_bf16_f32) (transpose Cert.GateUpRefIdeal.S2048x5632 [1, 0] (extf .f32 x2 Cert.GateUpRefIdeal.Gen.bitsLt_bf16_f32) Cert.GateUpRefIdeal.Gen.transposes_S5632x2048_S2048x5632_1_0))) Cert.GateUpRefIdeal.Gen.bitsLt_bf16_f32

/-- Which block of its array each window holds at a grid point. -/
theorem places : ∀ t : Fin cfg0.N, win0_0.index t = ![(grid0.coords t 0).val, 0] ∧ win0_1.index t = ![(grid0.coords t 1).val, 0] ∧ win0_2.index t = ![(grid0.coords t 0).val, 0] ∧ win0_3.index t = ![(grid0.coords t 1).val, 0] ∧ win0_4.index t = ![(grid0.coords t 0).val, (grid0.coords t 1).val] ∧ win0_5.index t = ![(grid0.coords t 0).val, (grid0.coords t 1).val] ∧ win0_6.index t = ![(grid0.coords t 0).val, (grid0.coords t 1).val] :=
  (by decide +kernel : ∀ t : Fin grid0.N, _)

/-- Result 0 of the call, tile by tile: each tile is what the reference has there. -/
theorem written0 (c : Dev nD) : (dats m 0 c).arrAt 4 (cfgs 0).N = whole0 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, k0_pay2, k0_pay3, whole0]
  blk_point [iblk, V, places t]

/-- Result 1 of the call, tile by tile: each tile is what the reference has there. -/
theorem written1 (c : Dev nD) : (dats m 0 c).arrAt 5 (cfgs 0).N = whole1 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay2, k0_pay3, whole1]
  blk_point [iblk, V, places t]

/-- Result 2 of the call, tile by tile: each tile is what the reference has there. -/
theorem written2 (c : Dev nD) : (dats m 0 c).arrAt 6 (cfgs 0).N = whole2 (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  pointwise [k0_pay1, k0_pay2, k0_pay3, whole2, Ideal.logistic]
  blk_point [iblk, V, places t]

/-- Call and reference leave the same arrays. -/
theorem same : Cert.algebraic_GateUpIdeal_GateUpRefIdeal := fun m g m' g' _ hm =>
  ⟨fun c => whole0 (m ((c : Thread nD τ).loc main_arg0)) (m ((c : Thread nD τ).loc main_arg1)) (m ((c : Thread nD τ).loc main_arg2)), fun c => whole1 (m ((c : Thread nD τ).loc main_arg0)) (m ((c : Thread nD τ).loc main_arg1)) (m ((c : Thread nD τ).loc main_arg2)), fun c => whole2 (m ((c : Thread nD τ).loc main_arg0)) (m ((c : Thread nD τ).loc main_arg1)) (m ((c : Thread nD τ).loc main_arg2)),
    (θ_run defs _ _).mono (fun r h c => ⟨((h c).1).trans (written0 m c), ((h c).2.1).trans (written1 m c), ((h c).2.2.1).trans (written2 m c), (h c).2.2.2⟩) (Value.run_blocks m g),
    (θ_run Cert.GateUpRefIdeal.defs _ _).mono (fun r h c => by
      obtain ⟨h0, h1, h2⟩ := hm c
      exact ⟨((h c).1).trans (by rw [h0, h1]), ((h c).2.1).trans (by rw [h0, h2]), ((h c).2.2.1).trans (by rw [h0, h1, h2]), (h c).2.2.2⟩) (Cert.GateUpRefIdeal.Value.run m' g')⟩

end Cert.GateUpIdeal.Whole

end
-- ==== Proof.DH1Whole.lean ====
/- The call of the gradient of the hidden state through gate, up projection and residual: what the arrays that it writes hold is what the reference computes of the whole arguments. -/
module

public import proofs.«01_k».proof.Defs
public import proofs.«01_k».proof.Proof.Gen.DH1Ideal
public import proofs.«01_k».proof.Proof.Gen.DH1RefIdeal
public import proofs.«01_k».proof.Proof.Gen.DH1Ideal.Value
public import proofs.«01_k».proof.Proof.Gen.DH1RefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DH1Ideal.Whole

open Cert.DH1Ideal Cert.DH1Ideal.Gen

variable (m : (ℓ : Loc nD τ sig) → Buf (Elt Ideal) ℓ)

/-- Result 0 of the reference, over whole arrays. -/
abbrev whole0 (x0 : FVec Ideal S4096x5632 .bf16) (x1 : FVec Ideal S5632x2048 .bf16) (x2 : FVec Ideal S4096x5632 .bf16) (x3 : FVec Ideal S5632x2048 .bf16) (x4 : FVec Ideal S4096x2048 .f32) : FVec Ideal S4096x2048 .f32 :=
  addf (addf (Host.dotGeneral Cert.DH1RefIdeal.dot_S4096x5632_S2048x5632_S4096x2048_1_1_0_0_n_n none (extf .f32 x2 Cert.DH1RefIdeal.Gen.bitsLt_bf16_f32) (transpose Cert.DH1RefIdeal.S2048x5632 [1, 0] (extf .f32 x3 Cert.DH1RefIdeal.Gen.bitsLt_bf16_f32) Cert.DH1RefIdeal.Gen.transposes_S5632x2048_S2048x5632_1_0)) (Host.dotGeneral Cert.DH1RefIdeal.dot_S4096x5632_S2048x5632_S4096x2048_1_1_0_0_n_n none (extf .f32 x0 Cert.DH1RefIdeal.Gen.bitsLt_bf16_f32) (transpose Cert.DH1RefIdeal.S2048x5632 [1, 0] (extf .f32 x1 Cert.DH1RefIdeal.Gen.bitsLt_bf16_f32) Cert.DH1RefIdeal.Gen.transposes_S5632x2048_S2048x5632_1_0))) (mulf (broadcastInDim Cert.DH1RefIdeal.S4096x2048 ![] Cert.DH1RefIdeal.Gen.bcast_S_S4096x2048 (constant Cert.DH1RefIdeal.S_ .f32 0x3F9837F0#32)) x4)

/-- Which block of its array each window holds at a grid point. -/
theorem places : ∀ t : Fin cfg0.N, win0_0.index t = ![(grid0.coords t 0).val, 0] ∧ win0_1.index t = ![0, (grid0.coords t 1).val] ∧ win0_2.index t = ![(grid0.coords t 0).val, 0] ∧ win0_3.index t = ![0, (grid0.coords t 1).val] ∧ win0_4.index t = ![(grid0.coords t 0).val, (grid0.coords t 1).val] ∧ win0_5.index t = ![(grid0.coords t 0).val, (grid0.coords t 1).val] :=
  (by decide +kernel : ∀ t : Fin grid0.N, _)

/-- A sum of three terms in another order. -/
theorem terms (a b d r : EReal) (h : b + d + a = r) : a + (d + b) = r := by rw [← h, add_comm a, add_comm d]

/-- Result 0 of the call, tile by tile: each tile is what the reference has there. -/
theorem written0 (c : Dev nD) : (dats m 0 c).arrAt 5 (cfgs 0).N = whole0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  pointwise [k0_pay1, whole0]
  refine terms _ _ _ _ ?_
  blk_point [iblk, V, places t]

/-- Call and reference leave the same arrays. -/
theorem same : Cert.algebraic_DH1Ideal_DH1RefIdeal := fun m g m' g' _ hm =>
  ⟨fun c => whole0 (m ((c : Thread nD τ).loc main_arg0)) (m ((c : Thread nD τ).loc main_arg1)) (m ((c : Thread nD τ).loc main_arg2)) (m ((c : Thread nD τ).loc main_arg3)) (m ((c : Thread nD τ).loc main_arg4)),
    (θ_run defs _ _).mono (fun r h c => ⟨((h c).1).trans (written0 m c), (h c).2⟩) (Value.run_blocks m g),
    (θ_run Cert.DH1RefIdeal.defs _ _).mono (fun r h c => by
      obtain ⟨h0, h1, h2, h3, h4⟩ := hm c
      exact ⟨((h c).1).trans (by rw [h0, h1, h2, h3, h4]), (h c).2⟩) (Cert.DH1RefIdeal.Value.run m' g')⟩

end Cert.DH1Ideal.Whole

end
-- ==== Proof.DXWhole.lean ====
/- The call of the gradient of the input through the input projection and the residual: what the arrays that it writes hold is what the reference computes of the whole arguments. -/
module

public import proofs.«01_k».proof.Defs
public import proofs.«01_k».proof.Proof.Gen.DXIdeal
public import proofs.«01_k».proof.Proof.Gen.DXRefIdeal
public import proofs.«01_k».proof.Proof.Gen.DXIdeal.Value
public import proofs.«01_k».proof.Proof.Gen.DXRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DXIdeal.Whole

open Cert.DXIdeal Cert.DXIdeal.Gen

variable (m : (ℓ : Loc nD τ sig) → Buf (Elt Ideal) ℓ)

/-- Result 0 of the reference, over whole arrays. -/
abbrev whole0 (x0 : FVec Ideal S4096x4608 .bf16) (x1 : FVec Ideal S4608x2048 .bf16) (x2 : FVec Ideal S4096x2048 .f32) : FVec Ideal S4096x2048 .f32 :=
  addf (Host.dotGeneral Cert.DXRefIdeal.dot_S4096x4608_S2048x4608_S4096x2048_1_1_0_0_n_n none (extf .f32 x0 Cert.DXRefIdeal.Gen.bitsLt_bf16_f32) (transpose Cert.DXRefIdeal.S2048x4608 [1, 0] (extf .f32 x1 Cert.DXRefIdeal.Gen.bitsLt_bf16_f32) Cert.DXRefIdeal.Gen.transposes_S4608x2048_S2048x4608_1_0)) (mulf (broadcastInDim Cert.DXRefIdeal.S4096x2048 ![] Cert.DXRefIdeal.Gen.bcast_S_S4096x2048 (constant Cert.DXRefIdeal.S_ .f32 0x3F9837F0#32)) x2)

/-- Which block of its array each window holds at a grid point. -/
theorem places : ∀ t : Fin cfg0.N, win0_0.index t = ![(grid0.coords t 0).val, 0] ∧ win0_1.index t = ![0, (grid0.coords t 1).val] ∧ win0_2.index t = ![(grid0.coords t 0).val, (grid0.coords t 1).val] ∧ win0_3.index t = ![(grid0.coords t 0).val, (grid0.coords t 1).val] :=
  (by decide +kernel : ∀ t : Fin grid0.N, _)

/-- Result 0 of the call, tile by tile: each tile is what the reference has there. -/
theorem written0 (c : Dev nD) : (dats m 0 c).arrAt 3 (cfgs 0).N = whole0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, whole0]
  blk_point [iblk, V, places t]

/-- Call and reference leave the same arrays. -/
theorem same : Cert.algebraic_DXIdeal_DXRefIdeal := fun m g m' g' _ hm =>
  ⟨fun c => whole0 (m ((c : Thread nD τ).loc main_arg0)) (m ((c : Thread nD τ).loc main_arg1)) (m ((c : Thread nD τ).loc main_arg2)),
    (θ_run defs _ _).mono (fun r h c => ⟨((h c).1).trans (written0 m c), (h c).2⟩) (Value.run_blocks m g),
    (θ_run Cert.DXRefIdeal.defs _ _).mono (fun r h c => by
      obtain ⟨h0, h1, h2⟩ := hm c
      exact ⟨((h c).1).trans (by rw [h0, h1, h2]), (h c).2⟩) (Cert.DXRefIdeal.Value.run m' g')⟩

end Cert.DXIdeal.Whole

end
-- ==== Proof.DWInWhole.lean ====
/- The call of the gradient of the input projection: what the arrays that it writes hold is what the reference computes of the whole arguments. -/
module

public import proofs.«01_k».proof.Defs
public import proofs.«01_k».proof.Proof.Gen.DWInIdeal
public import proofs.«01_k».proof.Proof.Gen.DWInRefIdeal
public import proofs.«01_k».proof.Proof.Gen.DWInIdeal.Value
public import proofs.«01_k».proof.Proof.Gen.DWInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DWInIdeal.Whole

open Cert.DWInIdeal Cert.DWInIdeal.Gen

variable (m : (ℓ : Loc nD τ sig) → Buf (Elt Ideal) ℓ)

/-- Result 0 of the reference, over whole arrays. -/
abbrev whole0 (x0 : FVec Ideal S4096x4608 .bf16) (x1 : FVec Ideal S4096x2048 .bf16) : FVec Ideal S4608x2048 .bf16 :=
  truncf .bf16 (transpose Cert.DWInRefIdeal.S4608x2048 [1, 0] (transpose Cert.DWInRefIdeal.S2048x4608 [1, 0] (Host.dotGeneral Cert.DWInRefIdeal.dot_S4096x4608_S4096x2048_S4608x2048_0_0_1_1_n_n none (extf .f32 x0 Cert.DWInRefIdeal.Gen.bitsLt_bf16_f32) (extf .f32 x1 Cert.DWInRefIdeal.Gen.bitsLt_bf16_f32)) Cert.DWInRefIdeal.Gen.transposes_S4608x2048_S2048x4608_1_0) Cert.DWInRefIdeal.Gen.transposes_S2048x4608_S4608x2048_1_0) Cert.DWInRefIdeal.Gen.bitsLt_bf16_f32

/-- Which block of its array each window holds at a grid point. -/
theorem places : ∀ t : Fin cfg0.N, win0_0.index t = ![0, (grid0.coords t 1).val] ∧ win0_1.index t = ![0, (grid0.coords t 0).val] ∧ win0_2.index t = ![(grid0.coords t 1).val, (grid0.coords t 0).val] :=
  (by decide +kernel : ∀ t : Fin grid0.N, _)

/-- Result 0 of the call, tile by tile: each tile is what the reference has there. -/
theorem written0 (c : Dev nD) : (dats m 0 c).arrAt 2 (cfgs 0).N = whole0 (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, whole0]
  blk_point [iblk, V, places t]

/-- Call and reference leave the same arrays. -/
theorem same : Cert.algebraic_DWInIdeal_DWInRefIdeal := fun m g m' g' _ hm =>
  ⟨fun c => whole0 (m ((c : Thread nD τ).loc main_arg0)) (m ((c : Thread nD τ).loc main_arg1)),
    (θ_run defs _ _).mono (fun r h c => ⟨((h c).1).trans (written0 m c), (h c).2⟩) (Value.run_blocks m g),
    (θ_run Cert.DWInRefIdeal.defs _ _).mono (fun r h c => by
      obtain ⟨h0, h1⟩ := hm c
      exact ⟨((h c).1).trans (by rw [h0, h1]), (h c).2⟩) (Cert.DWInRefIdeal.Value.run m' g')⟩

end Cert.DWInIdeal.Whole

end
-- ==== Proof.AdamFFWhole.lean ====
/- The call of the optimiser on a shard of a feed-forward weight: what the arrays that it writes hold is what the reference computes of the whole arguments. -/
module

public import proofs.«01_k».proof.Defs
public import proofs.«01_k».proof.Proof.Gen.AdamFFIdeal
public import proofs.«01_k».proof.Proof.Gen.AdamFFRefIdeal
public import proofs.«01_k».proof.Proof.Gen.AdamFFIdeal.Value
public import proofs.«01_k».proof.Proof.Gen.AdamFFRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamFFIdeal.Whole

open Cert.AdamFFIdeal Cert.AdamFFIdeal.Gen

variable (m : (ℓ : Loc nD τ sig) → Buf (Elt Ideal) ℓ)

/-- Result 0 of the reference, over whole arrays. -/
abbrev whole0 (x0 : FVec Ideal S704x2048 .f32) (x1 : FVec Ideal S4x704x2048 .bf16) (x2 : FVec Ideal S704x2048 .f32) (x3 : FVec Ideal S704x2048 .f32) : FVec Ideal S704x2048 .f32 :=
  Host.reduceAdd (extf .f32 x1 Cert.AdamFFRefIdeal.Gen.bitsLt_bf16_f32) (constant Cert.AdamFFRefIdeal.S_ .f32 0x00000000#32) Cert.AdamFFRefIdeal.Gen.reducesTo_S4x704x2048_S704x2048_d0 Cert.AdamFFRefIdeal.Gen.h_S_

/-- Result 1 of the reference, over whole arrays. -/
abbrev whole1 (x0 : FVec Ideal S704x2048 .f32) (x1 : FVec Ideal S4x704x2048 .bf16) (x2 : FVec Ideal S704x2048 .f32) (x3 : FVec Ideal S704x2048 .f32) : FVec Ideal S704x2048 .f32 :=
  mulf (broadcastInDim Cert.AdamFFRefIdeal.S704x2048 ![] Cert.AdamFFRefIdeal.Gen.bcast_S_S704x2048 (constant Cert.AdamFFRefIdeal.S_ .f32 0xBA83126F#32)) (addf (Host.divf (Host.divf (addf (mulf (broadcastInDim Cert.AdamFFRefIdeal.S704x2048 ![] Cert.AdamFFRefIdeal.Gen.bcast_S_S704x2048 (constant Cert.AdamFFRefIdeal.S_ .f32 0x3F666666#32)) x2) (mulf (broadcastInDim Cert.AdamFFRefIdeal.S704x2048 ![] Cert.AdamFFRefIdeal.Gen.bcast_S_S704x2048 (constant Cert.AdamFFRefIdeal.S_ .f32 0x3DCCCCCD#32)) (Host.reduceAdd (extf .f32 x1 Cert.AdamFFRefIdeal.Gen.bitsLt_bf16_f32) (constant Cert.AdamFFRefIdeal.S_ .f32 0x00000000#32) Cert.AdamFFRefIdeal.Gen.reducesTo_S4x704x2048_S704x2048_d0 Cert.AdamFFRefIdeal.Gen.h_S_))) (broadcastInDim Cert.AdamFFRefIdeal.S704x2048 ![] Cert.AdamFFRefIdeal.Gen.bcast_S_S704x2048 (constant Cert.AdamFFRefIdeal.S_ .f32 0x3F26BD02#32))) (addf (Host.sqrt (Host.divf (addf (mulf (broadcastInDim Cert.AdamFFRefIdeal.S704x2048 ![] Cert.AdamFFRefIdeal.Gen.bcast_S_S704x2048 (constant Cert.AdamFFRefIdeal.S_ .f32 0x3F7FBE77#32)) x3) (mulf (broadcastInDim Cert.AdamFFRefIdeal.S704x2048 ![] Cert.AdamFFRefIdeal.Gen.bcast_S_S704x2048 (constant Cert.AdamFFRefIdeal.S_ .f32 0x3A83126F#32)) (mulf (Host.reduceAdd (extf .f32 x1 Cert.AdamFFRefIdeal.Gen.bitsLt_bf16_f32) (constant Cert.AdamFFRefIdeal.S_ .f32 0x00000000#32) Cert.AdamFFRefIdeal.Gen.reducesTo_S4x704x2048_S704x2048_d0 Cert.AdamFFRefIdeal.Gen.h_S_) (Host.reduceAdd (extf .f32 x1 Cert.AdamFFRefIdeal.Gen.bitsLt_bf16_f32) (constant Cert.AdamFFRefIdeal.S_ .f32 0x00000000#32) Cert.AdamFFRefIdeal.Gen.reducesTo_S4x704x2048_S704x2048_d0 Cert.AdamFFRefIdeal.Gen.h_S_)))) (broadcastInDim Cert.AdamFFRefIdeal.S704x2048 ![] Cert.AdamFFRefIdeal.Gen.bcast_S_S704x2048 (constant Cert.AdamFFRefIdeal.S_ .f32 0x3C231ACC#32)))) (broadcastInDim Cert.AdamFFRefIdeal.S704x2048 ![] Cert.AdamFFRefIdeal.Gen.bcast_S_S704x2048 (constant Cert.AdamFFRefIdeal.S_ .f32 0x322BCC77#32)))) (mulf (broadcastInDim Cert.AdamFFRefIdeal.S704x2048 ![] Cert.AdamFFRefIdeal.Gen.bcast_S_S704x2048 (constant Cert.AdamFFRefIdeal.S_ .f32 0x3C23D70A#32)) x0))

/-- Result 2 of the reference, over whole arrays. -/
abbrev whole2 (x0 : FVec Ideal S704x2048 .f32) (x1 : FVec Ideal S4x704x2048 .bf16) (x2 : FVec Ideal S704x2048 .f32) (x3 : FVec Ideal S704x2048 .f32) : FVec Ideal S704x2048 .f32 :=
  addf (mulf (broadcastInDim Cert.AdamFFRefIdeal.S704x2048 ![] Cert.AdamFFRefIdeal.Gen.bcast_S_S704x2048 (constant Cert.AdamFFRefIdeal.S_ .f32 0x3F666666#32)) x2) (mulf (broadcastInDim Cert.AdamFFRefIdeal.S704x2048 ![] Cert.AdamFFRefIdeal.Gen.bcast_S_S704x2048 (constant Cert.AdamFFRefIdeal.S_ .f32 0x3DCCCCCD#32)) (Host.reduceAdd (extf .f32 x1 Cert.AdamFFRefIdeal.Gen.bitsLt_bf16_f32) (constant Cert.AdamFFRefIdeal.S_ .f32 0x00000000#32) Cert.AdamFFRefIdeal.Gen.reducesTo_S4x704x2048_S704x2048_d0 Cert.AdamFFRefIdeal.Gen.h_S_))

/-- Result 3 of the reference, over whole arrays. -/
abbrev whole3 (x0 : FVec Ideal S704x2048 .f32) (x1 : FVec Ideal S4x704x2048 .bf16) (x2 : FVec Ideal S704x2048 .f32) (x3 : FVec Ideal S704x2048 .f32) : FVec Ideal S704x2048 .f32 :=
  addf (mulf (broadcastInDim Cert.AdamFFRefIdeal.S704x2048 ![] Cert.AdamFFRefIdeal.Gen.bcast_S_S704x2048 (constant Cert.AdamFFRefIdeal.S_ .f32 0x3F7FBE77#32)) x3) (mulf (broadcastInDim Cert.AdamFFRefIdeal.S704x2048 ![] Cert.AdamFFRefIdeal.Gen.bcast_S_S704x2048 (constant Cert.AdamFFRefIdeal.S_ .f32 0x3A83126F#32)) (mulf (Host.reduceAdd (extf .f32 x1 Cert.AdamFFRefIdeal.Gen.bitsLt_bf16_f32) (constant Cert.AdamFFRefIdeal.S_ .f32 0x00000000#32) Cert.AdamFFRefIdeal.Gen.reducesTo_S4x704x2048_S704x2048_d0 Cert.AdamFFRefIdeal.Gen.h_S_) (Host.reduceAdd (extf .f32 x1 Cert.AdamFFRefIdeal.Gen.bitsLt_bf16_f32) (constant Cert.AdamFFRefIdeal.S_ .f32 0x00000000#32) Cert.AdamFFRefIdeal.Gen.reducesTo_S4x704x2048_S704x2048_d0 Cert.AdamFFRefIdeal.Gen.h_S_)))

/-- Which block of its array each window holds at a grid point. -/
theorem places : ∀ t : Fin cfg0.N, win0_0.index t = ![(grid0.coords t 0).val, 0] ∧ win0_1.index t = ![0, (grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- Result 0 of the call, tile by tile: each tile is what the reference has there. -/
theorem written0 (c : Dev nD) : (dats m 0 c).arrAt 4 (cfgs 0).N = whole0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, k0_pay5, k0_pay6, whole0]
  simp only [Fin.sum_univ_four]
  blk_point [iblk, V, places t]

/-- Result 1 of the call, tile by tile: each tile is what the reference has there. -/
theorem written1 (c : Dev nD) : (dats m 0 c).arrAt 5 (cfgs 0).N = whole1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, whole1]
  simp only [Fin.sum_univ_four]
  blk_point [iblk, V, places t]

/-- Result 2 of the call, tile by tile: each tile is what the reference has there. -/
theorem written2 (c : Dev nD) : (dats m 0 c).arrAt 6 (cfgs 0).N = whole2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, whole2]
  simp only [Fin.sum_univ_four]
  blk_point [iblk, V, places t]

/-- Result 3 of the call, tile by tile: each tile is what the reference has there. -/
theorem written3 (c : Dev nD) : (dats m 0 c).arrAt 7 (cfgs 0).N = whole3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, whole3]
  simp only [Fin.sum_univ_four]
  blk_point [iblk, V, places t]

/-- Call and reference leave the same arrays. -/
theorem same : Cert.algebraic_AdamFFIdeal_AdamFFRefIdeal := fun m g m' g' _ hm =>
  ⟨fun c => whole0 (m ((c : Thread nD τ).loc main_arg0)) (m ((c : Thread nD τ).loc main_arg1)) (m ((c : Thread nD τ).loc main_arg2)) (m ((c : Thread nD τ).loc main_arg3)), fun c => whole1 (m ((c : Thread nD τ).loc main_arg0)) (m ((c : Thread nD τ).loc main_arg1)) (m ((c : Thread nD τ).loc main_arg2)) (m ((c : Thread nD τ).loc main_arg3)), fun c => whole2 (m ((c : Thread nD τ).loc main_arg0)) (m ((c : Thread nD τ).loc main_arg1)) (m ((c : Thread nD τ).loc main_arg2)) (m ((c : Thread nD τ).loc main_arg3)), fun c => whole3 (m ((c : Thread nD τ).loc main_arg0)) (m ((c : Thread nD τ).loc main_arg1)) (m ((c : Thread nD τ).loc main_arg2)) (m ((c : Thread nD τ).loc main_arg3)),
    (θ_run defs _ _).mono (fun r h c => ⟨((h c).1).trans (written0 m c), ((h c).2.1).trans (written1 m c), ((h c).2.2.1).trans (written2 m c), ((h c).2.2.2.1).trans (written3 m c), (h c).2.2.2.2⟩) (Value.run_blocks m g),
    (θ_run Cert.AdamFFRefIdeal.defs _ _).mono (fun r h c => by
      obtain ⟨h0, h1, h2, h3⟩ := hm c
      exact ⟨((h c).1).trans (by rw [h1]), ((h c).2.1).trans (by rw [h0, h1, h2, h3]), ((h c).2.2.1).trans (by rw [h1, h2]), ((h c).2.2.2.1).trans (by rw [h1, h3]), (h c).2.2.2.2⟩) (Cert.AdamFFRefIdeal.Value.run m' g')⟩

end Cert.AdamFFIdeal.Whole

end
-- ==== Proof.AdamInWhole.lean ====
/- The call of the optimiser on a shard of the input projection: what the arrays that it writes hold is what the reference computes of the whole arguments. -/
module

public import proofs.«01_k».proof.Defs
public import proofs.«01_k».proof.Proof.Gen.AdamInIdeal
public import proofs.«01_k».proof.Proof.Gen.AdamInRefIdeal
public import proofs.«01_k».proof.Proof.Gen.AdamInIdeal.Value
public import proofs.«01_k».proof.Proof.Gen.AdamInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamInIdeal.Whole

open Cert.AdamInIdeal Cert.AdamInIdeal.Gen

variable (m : (ℓ : Loc nD τ sig) → Buf (Elt Ideal) ℓ)

/-- Result 0 of the reference, over whole arrays. -/
abbrev whole0 (x0 : FVec Ideal S576x2048 .f32) (x1 : FVec Ideal S4x576x2048 .bf16) (x2 : FVec Ideal S576x2048 .f32) (x3 : FVec Ideal S576x2048 .f32) : FVec Ideal S576x2048 .f32 :=
  Host.reduceAdd (extf .f32 x1 Cert.AdamInRefIdeal.Gen.bitsLt_bf16_f32) (constant Cert.AdamInRefIdeal.S_ .f32 0x00000000#32) Cert.AdamInRefIdeal.Gen.reducesTo_S4x576x2048_S576x2048_d0 Cert.AdamInRefIdeal.Gen.h_S_

/-- Result 1 of the reference, over whole arrays. -/
abbrev whole1 (x0 : FVec Ideal S576x2048 .f32) (x1 : FVec Ideal S4x576x2048 .bf16) (x2 : FVec Ideal S576x2048 .f32) (x3 : FVec Ideal S576x2048 .f32) : FVec Ideal S576x2048 .f32 :=
  mulf (broadcastInDim Cert.AdamInRefIdeal.S576x2048 ![] Cert.AdamInRefIdeal.Gen.bcast_S_S576x2048 (constant Cert.AdamInRefIdeal.S_ .f32 0xBA83126F#32)) (addf (Host.divf (Host.divf (addf (mulf (broadcastInDim Cert.AdamInRefIdeal.S576x2048 ![] Cert.AdamInRefIdeal.Gen.bcast_S_S576x2048 (constant Cert.AdamInRefIdeal.S_ .f32 0x3F666666#32)) x2) (mulf (broadcastInDim Cert.AdamInRefIdeal.S576x2048 ![] Cert.AdamInRefIdeal.Gen.bcast_S_S576x2048 (constant Cert.AdamInRefIdeal.S_ .f32 0x3DCCCCCD#32)) (Host.reduceAdd (extf .f32 x1 Cert.AdamInRefIdeal.Gen.bitsLt_bf16_f32) (constant Cert.AdamInRefIdeal.S_ .f32 0x00000000#32) Cert.AdamInRefIdeal.Gen.reducesTo_S4x576x2048_S576x2048_d0 Cert.AdamInRefIdeal.Gen.h_S_))) (broadcastInDim Cert.AdamInRefIdeal.S576x2048 ![] Cert.AdamInRefIdeal.Gen.bcast_S_S576x2048 (constant Cert.AdamInRefIdeal.S_ .f32 0x3F26BD02#32))) (addf (Host.sqrt (Host.divf (addf (mulf (broadcastInDim Cert.AdamInRefIdeal.S576x2048 ![] Cert.AdamInRefIdeal.Gen.bcast_S_S576x2048 (constant Cert.AdamInRefIdeal.S_ .f32 0x3F7FBE77#32)) x3) (mulf (broadcastInDim Cert.AdamInRefIdeal.S576x2048 ![] Cert.AdamInRefIdeal.Gen.bcast_S_S576x2048 (constant Cert.AdamInRefIdeal.S_ .f32 0x3A83126F#32)) (mulf (Host.reduceAdd (extf .f32 x1 Cert.AdamInRefIdeal.Gen.bitsLt_bf16_f32) (constant Cert.AdamInRefIdeal.S_ .f32 0x00000000#32) Cert.AdamInRefIdeal.Gen.reducesTo_S4x576x2048_S576x2048_d0 Cert.AdamInRefIdeal.Gen.h_S_) (Host.reduceAdd (extf .f32 x1 Cert.AdamInRefIdeal.Gen.bitsLt_bf16_f32) (constant Cert.AdamInRefIdeal.S_ .f32 0x00000000#32) Cert.AdamInRefIdeal.Gen.reducesTo_S4x576x2048_S576x2048_d0 Cert.AdamInRefIdeal.Gen.h_S_)))) (broadcastInDim Cert.AdamInRefIdeal.S576x2048 ![] Cert.AdamInRefIdeal.Gen.bcast_S_S576x2048 (constant Cert.AdamInRefIdeal.S_ .f32 0x3C231ACC#32)))) (broadcastInDim Cert.AdamInRefIdeal.S576x2048 ![] Cert.AdamInRefIdeal.Gen.bcast_S_S576x2048 (constant Cert.AdamInRefIdeal.S_ .f32 0x322BCC77#32)))) (mulf (broadcastInDim Cert.AdamInRefIdeal.S576x2048 ![] Cert.AdamInRefIdeal.Gen.bcast_S_S576x2048 (constant Cert.AdamInRefIdeal.S_ .f32 0x3C23D70A#32)) x0))

/-- Result 2 of the reference, over whole arrays. -/
abbrev whole2 (x0 : FVec Ideal S576x2048 .f32) (x1 : FVec Ideal S4x576x2048 .bf16) (x2 : FVec Ideal S576x2048 .f32) (x3 : FVec Ideal S576x2048 .f32) : FVec Ideal S576x2048 .f32 :=
  addf (mulf (broadcastInDim Cert.AdamInRefIdeal.S576x2048 ![] Cert.AdamInRefIdeal.Gen.bcast_S_S576x2048 (constant Cert.AdamInRefIdeal.S_ .f32 0x3F666666#32)) x2) (mulf (broadcastInDim Cert.AdamInRefIdeal.S576x2048 ![] Cert.AdamInRefIdeal.Gen.bcast_S_S576x2048 (constant Cert.AdamInRefIdeal.S_ .f32 0x3DCCCCCD#32)) (Host.reduceAdd (extf .f32 x1 Cert.AdamInRefIdeal.Gen.bitsLt_bf16_f32) (constant Cert.AdamInRefIdeal.S_ .f32 0x00000000#32) Cert.AdamInRefIdeal.Gen.reducesTo_S4x576x2048_S576x2048_d0 Cert.AdamInRefIdeal.Gen.h_S_))

/-- Result 3 of the reference, over whole arrays. -/
abbrev whole3 (x0 : FVec Ideal S576x2048 .f32) (x1 : FVec Ideal S4x576x2048 .bf16) (x2 : FVec Ideal S576x2048 .f32) (x3 : FVec Ideal S576x2048 .f32) : FVec Ideal S576x2048 .f32 :=
  addf (mulf (broadcastInDim Cert.AdamInRefIdeal.S576x2048 ![] Cert.AdamInRefIdeal.Gen.bcast_S_S576x2048 (constant Cert.AdamInRefIdeal.S_ .f32 0x3F7FBE77#32)) x3) (mulf (broadcastInDim Cert.AdamInRefIdeal.S576x2048 ![] Cert.AdamInRefIdeal.Gen.bcast_S_S576x2048 (constant Cert.AdamInRefIdeal.S_ .f32 0x3A83126F#32)) (mulf (Host.reduceAdd (extf .f32 x1 Cert.AdamInRefIdeal.Gen.bitsLt_bf16_f32) (constant Cert.AdamInRefIdeal.S_ .f32 0x00000000#32) Cert.AdamInRefIdeal.Gen.reducesTo_S4x576x2048_S576x2048_d0 Cert.AdamInRefIdeal.Gen.h_S_) (Host.reduceAdd (extf .f32 x1 Cert.AdamInRefIdeal.Gen.bitsLt_bf16_f32) (constant Cert.AdamInRefIdeal.S_ .f32 0x00000000#32) Cert.AdamInRefIdeal.Gen.reducesTo_S4x576x2048_S576x2048_d0 Cert.AdamInRefIdeal.Gen.h_S_)))

/-- Which block of its array each window holds at a grid point. -/
theorem places : ∀ t : Fin cfg0.N, win0_0.index t = ![(grid0.coords t 0).val, 0] ∧ win0_1.index t = ![0, (grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- Result 0 of the call, tile by tile: each tile is what the reference has there. -/
theorem written0 (c : Dev nD) : (dats m 0 c).arrAt 4 (cfgs 0).N = whole0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, k0_pay5, k0_pay6, whole0]
  simp only [Fin.sum_univ_four]
  blk_point [iblk, V, places t]

/-- Result 1 of the call, tile by tile: each tile is what the reference has there. -/
theorem written1 (c : Dev nD) : (dats m 0 c).arrAt 5 (cfgs 0).N = whole1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, whole1]
  simp only [Fin.sum_univ_four]
  blk_point [iblk, V, places t]

/-- Result 2 of the call, tile by tile: each tile is what the reference has there. -/
theorem written2 (c : Dev nD) : (dats m 0 c).arrAt 6 (cfgs 0).N = whole2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, whole2]
  simp only [Fin.sum_univ_four]
  blk_point [iblk, V, places t]

/-- Result 3 of the call, tile by tile: each tile is what the reference has there. -/
theorem written3 (c : Dev nD) : (dats m 0 c).arrAt 7 (cfgs 0).N = whole3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, whole3]
  simp only [Fin.sum_univ_four]
  blk_point [iblk, V, places t]

/-- Call and reference leave the same arrays. -/
theorem same : Cert.algebraic_AdamInIdeal_AdamInRefIdeal := fun m g m' g' _ hm =>
  ⟨fun c => whole0 (m ((c : Thread nD τ).loc main_arg0)) (m ((c : Thread nD τ).loc main_arg1)) (m ((c : Thread nD τ).loc main_arg2)) (m ((c : Thread nD τ).loc main_arg3)), fun c => whole1 (m ((c : Thread nD τ).loc main_arg0)) (m ((c : Thread nD τ).loc main_arg1)) (m ((c : Thread nD τ).loc main_arg2)) (m ((c : Thread nD τ).loc main_arg3)), fun c => whole2 (m ((c : Thread nD τ).loc main_arg0)) (m ((c : Thread nD τ).loc main_arg1)) (m ((c : Thread nD τ).loc main_arg2)) (m ((c : Thread nD τ).loc main_arg3)), fun c => whole3 (m ((c : Thread nD τ).loc main_arg0)) (m ((c : Thread nD τ).loc main_arg1)) (m ((c : Thread nD τ).loc main_arg2)) (m ((c : Thread nD τ).loc main_arg3)),
    (θ_run defs _ _).mono (fun r h c => ⟨((h c).1).trans (written0 m c), ((h c).2.1).trans (written1 m c), ((h c).2.2.1).trans (written2 m c), ((h c).2.2.2.1).trans (written3 m c), (h c).2.2.2.2⟩) (Value.run_blocks m g),
    (θ_run Cert.AdamInRefIdeal.defs _ _).mono (fun r h c => by
      obtain ⟨h0, h1, h2, h3⟩ := hm c
      exact ⟨((h c).1).trans (by rw [h1]), ((h c).2.1).trans (by rw [h0, h1, h2, h3]), ((h c).2.2.1).trans (by rw [h1, h2]), ((h c).2.2.2.1).trans (by rw [h1, h3]), (h c).2.2.2.2⟩) (Cert.AdamInRefIdeal.Value.run m' g')⟩

end Cert.AdamInIdeal.Whole

end
-- ==== Proof.AdamOutWhole.lean ====
/- The call of the optimiser on a shard of the output projection: what the arrays that it writes hold is what the reference computes of the whole arguments. -/
module

public import proofs.«01_k».proof.Defs
public import proofs.«01_k».proof.Proof.Gen.AdamOutIdeal
public import proofs.«01_k».proof.Proof.Gen.AdamOutRefIdeal
public import proofs.«01_k».proof.Proof.Gen.AdamOutIdeal.Value
public import proofs.«01_k».proof.Proof.Gen.AdamOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamOutIdeal.Whole

open Cert.AdamOutIdeal Cert.AdamOutIdeal.Gen

variable (m : (ℓ : Loc nD τ sig) → Buf (Elt Ideal) ℓ)

/-- Result 0 of the reference, over whole arrays. -/
abbrev whole0 (x0 : FVec Ideal S256x2048 .f32) (x1 : FVec Ideal S4x256x2048 .bf16) (x2 : FVec Ideal S256x2048 .f32) (x3 : FVec Ideal S256x2048 .f32) : FVec Ideal S256x2048 .f32 :=
  Host.reduceAdd (extf .f32 x1 Cert.AdamOutRefIdeal.Gen.bitsLt_bf16_f32) (constant Cert.AdamOutRefIdeal.S_ .f32 0x00000000#32) Cert.AdamOutRefIdeal.Gen.reducesTo_S4x256x2048_S256x2048_d0 Cert.AdamOutRefIdeal.Gen.h_S_

/-- Result 1 of the reference, over whole arrays. -/
abbrev whole1 (x0 : FVec Ideal S256x2048 .f32) (x1 : FVec Ideal S4x256x2048 .bf16) (x2 : FVec Ideal S256x2048 .f32) (x3 : FVec Ideal S256x2048 .f32) : FVec Ideal S256x2048 .f32 :=
  mulf (broadcastInDim Cert.AdamOutRefIdeal.S256x2048 ![] Cert.AdamOutRefIdeal.Gen.bcast_S_S256x2048 (constant Cert.AdamOutRefIdeal.S_ .f32 0xBA83126F#32)) (addf (Host.divf (Host.divf (addf (mulf (broadcastInDim Cert.AdamOutRefIdeal.S256x2048 ![] Cert.AdamOutRefIdeal.Gen.bcast_S_S256x2048 (constant Cert.AdamOutRefIdeal.S_ .f32 0x3F666666#32)) x2) (mulf (broadcastInDim Cert.AdamOutRefIdeal.S256x2048 ![] Cert.AdamOutRefIdeal.Gen.bcast_S_S256x2048 (constant Cert.AdamOutRefIdeal.S_ .f32 0x3DCCCCCD#32)) (Host.reduceAdd (extf .f32 x1 Cert.AdamOutRefIdeal.Gen.bitsLt_bf16_f32) (constant Cert.AdamOutRefIdeal.S_ .f32 0x00000000#32) Cert.AdamOutRefIdeal.Gen.reducesTo_S4x256x2048_S256x2048_d0 Cert.AdamOutRefIdeal.Gen.h_S_))) (broadcastInDim Cert.AdamOutRefIdeal.S256x2048 ![] Cert.AdamOutRefIdeal.Gen.bcast_S_S256x2048 (constant Cert.AdamOutRefIdeal.S_ .f32 0x3F26BD02#32))) (addf (Host.sqrt (Host.divf (addf (mulf (broadcastInDim Cert.AdamOutRefIdeal.S256x2048 ![] Cert.AdamOutRefIdeal.Gen.bcast_S_S256x2048 (constant Cert.AdamOutRefIdeal.S_ .f32 0x3F7FBE77#32)) x3) (mulf (broadcastInDim Cert.AdamOutRefIdeal.S256x2048 ![] Cert.AdamOutRefIdeal.Gen.bcast_S_S256x2048 (constant Cert.AdamOutRefIdeal.S_ .f32 0x3A83126F#32)) (mulf (Host.reduceAdd (extf .f32 x1 Cert.AdamOutRefIdeal.Gen.bitsLt_bf16_f32) (constant Cert.AdamOutRefIdeal.S_ .f32 0x00000000#32) Cert.AdamOutRefIdeal.Gen.reducesTo_S4x256x2048_S256x2048_d0 Cert.AdamOutRefIdeal.Gen.h_S_) (Host.reduceAdd (extf .f32 x1 Cert.AdamOutRefIdeal.Gen.bitsLt_bf16_f32) (constant Cert.AdamOutRefIdeal.S_ .f32 0x00000000#32) Cert.AdamOutRefIdeal.Gen.reducesTo_S4x256x2048_S256x2048_d0 Cert.AdamOutRefIdeal.Gen.h_S_)))) (broadcastInDim Cert.AdamOutRefIdeal.S256x2048 ![] Cert.AdamOutRefIdeal.Gen.bcast_S_S256x2048 (constant Cert.AdamOutRefIdeal.S_ .f32 0x3C231ACC#32)))) (broadcastInDim Cert.AdamOutRefIdeal.S256x2048 ![] Cert.AdamOutRefIdeal.Gen.bcast_S_S256x2048 (constant Cert.AdamOutRefIdeal.S_ .f32 0x322BCC77#32)))) (mulf (broadcastInDim Cert.AdamOutRefIdeal.S256x2048 ![] Cert.AdamOutRefIdeal.Gen.bcast_S_S256x2048 (constant Cert.AdamOutRefIdeal.S_ .f32 0x3C23D70A#32)) x0))

/-- Result 2 of the reference, over whole arrays. -/
abbrev whole2 (x0 : FVec Ideal S256x2048 .f32) (x1 : FVec Ideal S4x256x2048 .bf16) (x2 : FVec Ideal S256x2048 .f32) (x3 : FVec Ideal S256x2048 .f32) : FVec Ideal S256x2048 .f32 :=
  addf (mulf (broadcastInDim Cert.AdamOutRefIdeal.S256x2048 ![] Cert.AdamOutRefIdeal.Gen.bcast_S_S256x2048 (constant Cert.AdamOutRefIdeal.S_ .f32 0x3F666666#32)) x2) (mulf (broadcastInDim Cert.AdamOutRefIdeal.S256x2048 ![] Cert.AdamOutRefIdeal.Gen.bcast_S_S256x2048 (constant Cert.AdamOutRefIdeal.S_ .f32 0x3DCCCCCD#32)) (Host.reduceAdd (extf .f32 x1 Cert.AdamOutRefIdeal.Gen.bitsLt_bf16_f32) (constant Cert.AdamOutRefIdeal.S_ .f32 0x00000000#32) Cert.AdamOutRefIdeal.Gen.reducesTo_S4x256x2048_S256x2048_d0 Cert.AdamOutRefIdeal.Gen.h_S_))

/-- Result 3 of the reference, over whole arrays. -/
abbrev whole3 (x0 : FVec Ideal S256x2048 .f32) (x1 : FVec Ideal S4x256x2048 .bf16) (x2 : FVec Ideal S256x2048 .f32) (x3 : FVec Ideal S256x2048 .f32) : FVec Ideal S256x2048 .f32 :=
  addf (mulf (broadcastInDim Cert.AdamOutRefIdeal.S256x2048 ![] Cert.AdamOutRefIdeal.Gen.bcast_S_S256x2048 (constant Cert.AdamOutRefIdeal.S_ .f32 0x3F7FBE77#32)) x3) (mulf (broadcastInDim Cert.AdamOutRefIdeal.S256x2048 ![] Cert.AdamOutRefIdeal.Gen.bcast_S_S256x2048 (constant Cert.AdamOutRefIdeal.S_ .f32 0x3A83126F#32)) (mulf (Host.reduceAdd (extf .f32 x1 Cert.AdamOutRefIdeal.Gen.bitsLt_bf16_f32) (constant Cert.AdamOutRefIdeal.S_ .f32 0x00000000#32) Cert.AdamOutRefIdeal.Gen.reducesTo_S4x256x2048_S256x2048_d0 Cert.AdamOutRefIdeal.Gen.h_S_) (Host.reduceAdd (extf .f32 x1 Cert.AdamOutRefIdeal.Gen.bitsLt_bf16_f32) (constant Cert.AdamOutRefIdeal.S_ .f32 0x00000000#32) Cert.AdamOutRefIdeal.Gen.reducesTo_S4x256x2048_S256x2048_d0 Cert.AdamOutRefIdeal.Gen.h_S_)))

/-- Which block of its array each window holds at a grid point. -/
theorem places : ∀ t : Fin cfg0.N, win0_0.index t = ![(grid0.coords t 0).val, 0] ∧ win0_1.index t = ![0, (grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- Result 0 of the call, tile by tile: each tile is what the reference has there. -/
theorem written0 (c : Dev nD) : (dats m 0 c).arrAt 4 (cfgs 0).N = whole0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, k0_pay5, k0_pay6, whole0]
  simp only [Fin.sum_univ_four]
  blk_point [iblk, V, places t]

/-- Result 1 of the call, tile by tile: each tile is what the reference has there. -/
theorem written1 (c : Dev nD) : (dats m 0 c).arrAt 5 (cfgs 0).N = whole1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, k0_pay5, k0_pay6, whole1]
  simp only [Fin.sum_univ_four]
  blk_point [iblk, V, places t]

/-- Result 2 of the call, tile by tile: each tile is what the reference has there. -/
theorem written2 (c : Dev nD) : (dats m 0 c).arrAt 6 (cfgs 0).N = whole2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4, k0_pay5, k0_pay6, whole2]
  simp only [Fin.sum_univ_four]
  blk_point [iblk, V, places t]

/-- Result 3 of the call, tile by tile: each tile is what the reference has there. -/
theorem written3 (c : Dev nD) : (dats m 0 c).arrAt 7 (cfgs 0).N = whole3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, k0_pay5, k0_pay6, whole3]
  simp only [Fin.sum_univ_four]
  blk_point [iblk, V, places t]

/-- Call and reference leave the same arrays. -/
theorem same : Cert.algebraic_AdamOutIdeal_AdamOutRefIdeal := fun m g m' g' _ hm =>
  ⟨fun c => whole0 (m ((c : Thread nD τ).loc main_arg0)) (m ((c : Thread nD τ).loc main_arg1)) (m ((c : Thread nD τ).loc main_arg2)) (m ((c : Thread nD τ).loc main_arg3)), fun c => whole1 (m ((c : Thread nD τ).loc main_arg0)) (m ((c : Thread nD τ).loc main_arg1)) (m ((c : Thread nD τ).loc main_arg2)) (m ((c : Thread nD τ).loc main_arg3)), fun c => whole2 (m ((c : Thread nD τ).loc main_arg0)) (m ((c : Thread nD τ).loc main_arg1)) (m ((c : Thread nD τ).loc main_arg2)) (m ((c : Thread nD τ).loc main_arg3)), fun c => whole3 (m ((c : Thread nD τ).loc main_arg0)) (m ((c : Thread nD τ).loc main_arg1)) (m ((c : Thread nD τ).loc main_arg2)) (m ((c : Thread nD τ).loc main_arg3)),
    (θ_run defs _ _).mono (fun r h c => ⟨((h c).1).trans (written0 m c), ((h c).2.1).trans (written1 m c), ((h c).2.2.1).trans (written2 m c), ((h c).2.2.2.1).trans (written3 m c), (h c).2.2.2.2⟩) (Value.run_blocks m g),
    (θ_run Cert.AdamOutRefIdeal.defs _ _).mono (fun r h c => by
      obtain ⟨h0, h1, h2, h3⟩ := hm c
      exact ⟨((h c).1).trans (by rw [h1]), ((h c).2.1).trans (by rw [h0, h1, h2, h3]), ((h c).2.2.1).trans (by rw [h1, h2]), ((h c).2.2.2.1).trans (by rw [h1, h3]), (h c).2.2.2.2⟩) (Cert.AdamOutRefIdeal.Value.run m' g')⟩

end Cert.AdamOutIdeal.Whole

end
-- ==== Proof.AdamSmallWhole.lean ====
/- The call of the optimiser on the packed small weights: what the arrays that it writes hold is what the reference computes of the whole arguments. -/
module

public import proofs.«01_k».proof.Defs
public import proofs.«01_k».proof.Proof.Gen.AdamSmallIdeal
public import proofs.«01_k».proof.Proof.Gen.AdamSmallRefIdeal
public import proofs.«01_k».proof.Proof.Gen.AdamSmallIdeal.Value
public import proofs.«01_k».proof.Proof.Gen.AdamSmallRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamSmallIdeal.Whole

open Cert.AdamSmallIdeal Cert.AdamSmallIdeal.Gen

variable (m : (ℓ : Loc nD τ sig) → Buf (Elt Ideal) ℓ)

/-- Result 0 of the reference, over whole arrays. -/
abbrev whole0 (x0 : FVec Ideal S88x128 .f32) (x1 : FVec Ideal S1x88x128 .f32) (x2 : FVec Ideal S88x128 .f32) (x3 : FVec Ideal S88x128 .f32) : FVec Ideal S88x128 .f32 :=
  Host.reduceAdd x1 (constant Cert.AdamSmallRefIdeal.S_ .f32 0x00000000#32) Cert.AdamSmallRefIdeal.Gen.reducesTo_S1x88x128_S88x128_d0 Cert.AdamSmallRefIdeal.Gen.h_S_

/-- Result 1 of the reference, over whole arrays. -/
abbrev whole1 (x0 : FVec Ideal S88x128 .f32) (x1 : FVec Ideal S1x88x128 .f32) (x2 : FVec Ideal S88x128 .f32) (x3 : FVec Ideal S88x128 .f32) : FVec Ideal S88x128 .f32 :=
  mulf (broadcastInDim Cert.AdamSmallRefIdeal.S88x128 ![] Cert.AdamSmallRefIdeal.Gen.bcast_S_S88x128 (constant Cert.AdamSmallRefIdeal.S_ .f32 0xBA83126F#32)) (addf (Host.divf (Host.divf (addf (mulf (broadcastInDim Cert.AdamSmallRefIdeal.S88x128 ![] Cert.AdamSmallRefIdeal.Gen.bcast_S_S88x128 (constant Cert.AdamSmallRefIdeal.S_ .f32 0x3F666666#32)) x2) (mulf (broadcastInDim Cert.AdamSmallRefIdeal.S88x128 ![] Cert.AdamSmallRefIdeal.Gen.bcast_S_S88x128 (constant Cert.AdamSmallRefIdeal.S_ .f32 0x3DCCCCCD#32)) (Host.reduceAdd x1 (constant Cert.AdamSmallRefIdeal.S_ .f32 0x00000000#32) Cert.AdamSmallRefIdeal.Gen.reducesTo_S1x88x128_S88x128_d0 Cert.AdamSmallRefIdeal.Gen.h_S_))) (broadcastInDim Cert.AdamSmallRefIdeal.S88x128 ![] Cert.AdamSmallRefIdeal.Gen.bcast_S_S88x128 (constant Cert.AdamSmallRefIdeal.S_ .f32 0x3F26BD02#32))) (addf (Host.sqrt (Host.divf (addf (mulf (broadcastInDim Cert.AdamSmallRefIdeal.S88x128 ![] Cert.AdamSmallRefIdeal.Gen.bcast_S_S88x128 (constant Cert.AdamSmallRefIdeal.S_ .f32 0x3F7FBE77#32)) x3) (mulf (broadcastInDim Cert.AdamSmallRefIdeal.S88x128 ![] Cert.AdamSmallRefIdeal.Gen.bcast_S_S88x128 (constant Cert.AdamSmallRefIdeal.S_ .f32 0x3A83126F#32)) (mulf (Host.reduceAdd x1 (constant Cert.AdamSmallRefIdeal.S_ .f32 0x00000000#32) Cert.AdamSmallRefIdeal.Gen.reducesTo_S1x88x128_S88x128_d0 Cert.AdamSmallRefIdeal.Gen.h_S_) (Host.reduceAdd x1 (constant Cert.AdamSmallRefIdeal.S_ .f32 0x00000000#32) Cert.AdamSmallRefIdeal.Gen.reducesTo_S1x88x128_S88x128_d0 Cert.AdamSmallRefIdeal.Gen.h_S_)))) (broadcastInDim Cert.AdamSmallRefIdeal.S88x128 ![] Cert.AdamSmallRefIdeal.Gen.bcast_S_S88x128 (constant Cert.AdamSmallRefIdeal.S_ .f32 0x3C231ACC#32)))) (broadcastInDim Cert.AdamSmallRefIdeal.S88x128 ![] Cert.AdamSmallRefIdeal.Gen.bcast_S_S88x128 (constant Cert.AdamSmallRefIdeal.S_ .f32 0x322BCC77#32)))) (mulf (broadcastInDim Cert.AdamSmallRefIdeal.S88x128 ![] Cert.AdamSmallRefIdeal.Gen.bcast_S_S88x128 (constant Cert.AdamSmallRefIdeal.S_ .f32 0x3C23D70A#32)) x0))

/-- Result 2 of the reference, over whole arrays. -/
abbrev whole2 (x0 : FVec Ideal S88x128 .f32) (x1 : FVec Ideal S1x88x128 .f32) (x2 : FVec Ideal S88x128 .f32) (x3 : FVec Ideal S88x128 .f32) : FVec Ideal S88x128 .f32 :=
  addf (mulf (broadcastInDim Cert.AdamSmallRefIdeal.S88x128 ![] Cert.AdamSmallRefIdeal.Gen.bcast_S_S88x128 (constant Cert.AdamSmallRefIdeal.S_ .f32 0x3F666666#32)) x2) (mulf (broadcastInDim Cert.AdamSmallRefIdeal.S88x128 ![] Cert.AdamSmallRefIdeal.Gen.bcast_S_S88x128 (constant Cert.AdamSmallRefIdeal.S_ .f32 0x3DCCCCCD#32)) (Host.reduceAdd x1 (constant Cert.AdamSmallRefIdeal.S_ .f32 0x00000000#32) Cert.AdamSmallRefIdeal.Gen.reducesTo_S1x88x128_S88x128_d0 Cert.AdamSmallRefIdeal.Gen.h_S_))

/-- Result 3 of the reference, over whole arrays. -/
abbrev whole3 (x0 : FVec Ideal S88x128 .f32) (x1 : FVec Ideal S1x88x128 .f32) (x2 : FVec Ideal S88x128 .f32) (x3 : FVec Ideal S88x128 .f32) : FVec Ideal S88x128 .f32 :=
  addf (mulf (broadcastInDim Cert.AdamSmallRefIdeal.S88x128 ![] Cert.AdamSmallRefIdeal.Gen.bcast_S_S88x128 (constant Cert.AdamSmallRefIdeal.S_ .f32 0x3F7FBE77#32)) x3) (mulf (broadcastInDim Cert.AdamSmallRefIdeal.S88x128 ![] Cert.AdamSmallRefIdeal.Gen.bcast_S_S88x128 (constant Cert.AdamSmallRefIdeal.S_ .f32 0x3A83126F#32)) (mulf (Host.reduceAdd x1 (constant Cert.AdamSmallRefIdeal.S_ .f32 0x00000000#32) Cert.AdamSmallRefIdeal.Gen.reducesTo_S1x88x128_S88x128_d0 Cert.AdamSmallRefIdeal.Gen.h_S_) (Host.reduceAdd x1 (constant Cert.AdamSmallRefIdeal.S_ .f32 0x00000000#32) Cert.AdamSmallRefIdeal.Gen.reducesTo_S1x88x128_S88x128_d0 Cert.AdamSmallRefIdeal.Gen.h_S_)))

/-- Which block of its array each window holds at a grid point. -/
theorem places : ∀ t : Fin cfg0.N, win0_0.index t = ![(grid0.coords t 0).val, 0] ∧ win0_1.index t = ![0, (grid0.coords t 0).val, 0] ∧ win0_2.index t = ![(grid0.coords t 0).val, 0] ∧ win0_3.index t = ![(grid0.coords t 0).val, 0] ∧ win0_4.index t = ![(grid0.coords t 0).val, 0] ∧ win0_5.index t = ![(grid0.coords t 0).val, 0] ∧ win0_6.index t = ![(grid0.coords t 0).val, 0] ∧ win0_7.index t = ![(grid0.coords t 0).val, 0] :=
  (by decide +kernel : ∀ t : Fin grid0.N, _)

/-- Result 0 of the call, tile by tile: each tile is what the reference has there. -/
theorem written0 (c : Dev nD) : (dats m 0 c).arrAt 4 (cfgs 0).N = whole0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2, k0_pay3, k0_pay4, whole0]
  simp only [Fin.sum_univ_one]
  blk_point [iblk, V, places t]

/-- Result 1 of the call, tile by tile: each tile is what the reference has there. -/
theorem written1 (c : Dev nD) : (dats m 0 c).arrAt 5 (cfgs 0).N = whole1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay1, k0_pay2, k0_pay3, k0_pay4, whole1]
  simp only [Fin.sum_univ_one]
  blk_point [iblk, V, places t]

/-- Result 2 of the call, tile by tile: each tile is what the reference has there. -/
theorem written2 (c : Dev nD) : (dats m 0 c).arrAt 6 (cfgs 0).N = whole2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  frame_out
  pointwise [k0_pay1, k0_pay2, k0_pay3, k0_pay4, whole2]
  simp only [Fin.sum_univ_one]
  blk_point [iblk, V, places t]

/-- Result 3 of the call, tile by tile: each tile is what the reference has there. -/
theorem written3 (c : Dev nD) : (dats m 0 c).arrAt 7 (cfgs 0).N = whole3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay1, k0_pay2, k0_pay3, k0_pay4, whole3]
  simp only [Fin.sum_univ_one]
  blk_point [iblk, V, places t]

/-- Call and reference leave the same arrays. -/
theorem same : Cert.algebraic_AdamSmallIdeal_AdamSmallRefIdeal := fun m g m' g' _ hm =>
  ⟨fun c => whole0 (m ((c : Thread nD τ).loc main_arg0)) (m ((c : Thread nD τ).loc main_arg1)) (m ((c : Thread nD τ).loc main_arg2)) (m ((c : Thread nD τ).loc main_arg3)), fun c => whole1 (m ((c : Thread nD τ).loc main_arg0)) (m ((c : Thread nD τ).loc main_arg1)) (m ((c : Thread nD τ).loc main_arg2)) (m ((c : Thread nD τ).loc main_arg3)), fun c => whole2 (m ((c : Thread nD τ).loc main_arg0)) (m ((c : Thread nD τ).loc main_arg1)) (m ((c : Thread nD τ).loc main_arg2)) (m ((c : Thread nD τ).loc main_arg3)), fun c => whole3 (m ((c : Thread nD τ).loc main_arg0)) (m ((c : Thread nD τ).loc main_arg1)) (m ((c : Thread nD τ).loc main_arg2)) (m ((c : Thread nD τ).loc main_arg3)),
    (θ_run defs _ _).mono (fun r h c => ⟨((h c).1).trans (written0 m c), ((h c).2.1).trans (written1 m c), ((h c).2.2.1).trans (written2 m c), ((h c).2.2.2.1).trans (written3 m c), (h c).2.2.2.2⟩) (Value.run_blocks m g),
    (θ_run Cert.AdamSmallRefIdeal.defs _ _).mono (fun r h c => by
      obtain ⟨h0, h1, h2, h3⟩ := hm c
      exact ⟨((h c).1).trans (by rw [h1]), ((h c).2.1).trans (by rw [h0, h1, h2, h3]), ((h c).2.2.1).trans (by rw [h1, h2]), ((h c).2.2.2.1).trans (by rw [h1, h3]), (h c).2.2.2.2⟩) (Cert.AdamSmallRefIdeal.Value.run m' g')⟩

end Cert.AdamSmallIdeal.Whole

end
-- ==== Proof.LN1Whole.lean ====
/- The call of the first layer norm: what the arrays that it writes hold is what the reference computes of the whole arguments. -/
module

public import proofs.«01_k».proof.Defs
public import proofs.«01_k».proof.Proof.Gen.LN1Ideal
public import proofs.«01_k».proof.Proof.Gen.LN1RefIdeal
public import proofs.«01_k».proof.Proof.Gen.LN1Ideal.Value
public import proofs.«01_k».proof.Proof.Gen.LN1RefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LN1Ideal.Whole

open Cert.LN1Ideal Cert.LN1Ideal.Gen

variable (m : (ℓ : Loc nD τ sig) → Buf (Elt Ideal) ℓ)

/-- Result 0 of the reference, over whole arrays. -/
abbrev whole0 (x0 : FVec Ideal S4096x2048 .f32) (x1 : FVec Ideal S1x2048 .f32) (x2 : FVec Ideal S1x2048 .f32) : FVec Ideal S4096x2048 .f32 :=
  addf (mulf (mulf (subf x0 (broadcastInDim Cert.LN1RefIdeal.S4096x2048 ![0, 1] Cert.LN1RefIdeal.Gen.bcast_S4096x1_S4096x2048_0_1 (Host.divf (broadcastInDim Cert.LN1RefIdeal.S4096x1 ![0] Cert.LN1RefIdeal.Gen.bcast_S4096_S4096x1_0 (Host.reduceAdd x0 (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32))))) (broadcastInDim Cert.LN1RefIdeal.S4096x2048 ![0, 1] Cert.LN1RefIdeal.Gen.bcast_S4096x1_S4096x2048_0_1 (Host.rsqrt (addf (Host.divf (broadcastInDim Cert.LN1RefIdeal.S4096x1 ![0] Cert.LN1RefIdeal.Gen.bcast_S4096_S4096x1_0 (Host.reduceAdd (mulf (subf x0 (broadcastInDim Cert.LN1RefIdeal.S4096x2048 ![0, 1] Cert.LN1RefIdeal.Gen.bcast_S4096x1_S4096x2048_0_1 (Host.divf (broadcastInDim Cert.LN1RefIdeal.S4096x1 ![0] Cert.LN1RefIdeal.Gen.bcast_S4096_S4096x1_0 (Host.reduceAdd x0 (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32))))) (subf x0 (broadcastInDim Cert.LN1RefIdeal.S4096x2048 ![0, 1] Cert.LN1RefIdeal.Gen.bcast_S4096x1_S4096x2048_0_1 (Host.divf (broadcastInDim Cert.LN1RefIdeal.S4096x1 ![0] Cert.LN1RefIdeal.Gen.bcast_S4096_S4096x1_0 (Host.reduceAdd x0 (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32)))))) (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32))) (broadcastInDim Cert.LN1RefIdeal.S4096x1 ![] Cert.LN1RefIdeal.Gen.bcast_S_S4096x1 (constant Cert.LN1RefIdeal.S_ .f32 0x3727C5AC#32)))))) (broadcastInDim Cert.LN1RefIdeal.S4096x2048 ![0, 1] Cert.LN1RefIdeal.Gen.bcast_S1x2048_S4096x2048_0_1 x1)) (broadcastInDim Cert.LN1RefIdeal.S4096x2048 ![0, 1] Cert.LN1RefIdeal.Gen.bcast_S1x2048_S4096x2048_0_1 x2)

/-- Result 1 of the reference, over whole arrays. -/
abbrev whole1 (x0 : FVec Ideal S4096x2048 .f32) (x1 : FVec Ideal S1x2048 .f32) (x2 : FVec Ideal S1x2048 .f32) : FVec Ideal S4096x2048 .bf16 :=
  truncf .bf16 (addf (mulf (mulf (subf x0 (broadcastInDim Cert.LN1RefIdeal.S4096x2048 ![0, 1] Cert.LN1RefIdeal.Gen.bcast_S4096x1_S4096x2048_0_1 (Host.divf (broadcastInDim Cert.LN1RefIdeal.S4096x1 ![0] Cert.LN1RefIdeal.Gen.bcast_S4096_S4096x1_0 (Host.reduceAdd x0 (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32))))) (broadcastInDim Cert.LN1RefIdeal.S4096x2048 ![0, 1] Cert.LN1RefIdeal.Gen.bcast_S4096x1_S4096x2048_0_1 (Host.rsqrt (addf (Host.divf (broadcastInDim Cert.LN1RefIdeal.S4096x1 ![0] Cert.LN1RefIdeal.Gen.bcast_S4096_S4096x1_0 (Host.reduceAdd (mulf (subf x0 (broadcastInDim Cert.LN1RefIdeal.S4096x2048 ![0, 1] Cert.LN1RefIdeal.Gen.bcast_S4096x1_S4096x2048_0_1 (Host.divf (broadcastInDim Cert.LN1RefIdeal.S4096x1 ![0] Cert.LN1RefIdeal.Gen.bcast_S4096_S4096x1_0 (Host.reduceAdd x0 (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32))))) (subf x0 (broadcastInDim Cert.LN1RefIdeal.S4096x2048 ![0, 1] Cert.LN1RefIdeal.Gen.bcast_S4096x1_S4096x2048_0_1 (Host.divf (broadcastInDim Cert.LN1RefIdeal.S4096x1 ![0] Cert.LN1RefIdeal.Gen.bcast_S4096_S4096x1_0 (Host.reduceAdd x0 (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32)))))) (constant Cert.LN1RefIdeal.S_ .f32 0x00000000#32) Cert.LN1RefIdeal.Gen.reducesTo_S4096x2048_S4096_d1 Cert.LN1RefIdeal.Gen.h_S_)) (broadcastInDim Cert.LN1RefIdeal.S4096x1 ![] Cert.LN1RefIdeal.Gen.bcast_S_S4096x1 (constant Cert.LN1RefIdeal.S_ .f32 0x45000000#32))) (broadcastInDim Cert.LN1RefIdeal.S4096x1 ![] Cert.LN1RefIdeal.Gen.bcast_S_S4096x1 (constant Cert.LN1RefIdeal.S_ .f32 0x3727C5AC#32)))))) (broadcastInDim Cert.LN1RefIdeal.S4096x2048 ![0, 1] Cert.LN1RefIdeal.Gen.bcast_S1x2048_S4096x2048_0_1 x1)) (broadcastInDim Cert.LN1RefIdeal.S4096x2048 ![0, 1] Cert.LN1RefIdeal.Gen.bcast_S1x2048_S4096x2048_0_1 x2)) Cert.LN1RefIdeal.Gen.bitsLt_bf16_f32

/-- Which block of its array each window holds at a grid point. -/
theorem places : ∀ t : Fin cfg0.N, win0_0.index t = ![(grid0.coords t 0).val, 0] ∧ win0_1.index t = ![0, 0] ∧ win0_2.index t = ![0, 0] ∧ win0_3.index t = ![(grid0.coords t 0).val, 0] ∧ win0_4.index t = ![(grid0.coords t 0).val, 0] :=
  (by decide +kernel : ∀ t : Fin grid0.N, _)

/-- Result 0 of the call, tile by tile: each tile is what the reference has there. -/
theorem written0 (c : Dev nD) : (dats m 0 c).arrAt 3 (cfgs 0).N = whole0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, k0_pay2, whole0]
  blk_point [iblk, V, places t]

/-- Result 1 of the call, tile by tile: each tile is what the reference has there. -/
theorem written1 (c : Dev nD) : (dats m 0 c).arrAt 4 (cfgs 0).N = whole1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  pointwise [k0_pay1, k0_pay2, whole1]
  blk_point [iblk, V, places t]

/-- Call and reference leave the same arrays. -/
theorem same : Cert.algebraic_LN1Ideal_LN1RefIdeal := fun m g m' g' _ hm =>
  ⟨fun c => whole0 (m ((c : Thread nD τ).loc main_arg0)) (m ((c : Thread nD τ).loc main_arg1)) (m ((c : Thread nD τ).loc main_arg2)), fun c => whole1 (m ((c : Thread nD τ).loc main_arg0)) (m ((c : Thread nD τ).loc main_arg1)) (m ((c : Thread nD τ).loc main_arg2)),
    (θ_run defs _ _).mono (fun r h c => ⟨((h c).1).trans (written0 m c), ((h c).2.1).trans (written1 m c), (h c).2.2⟩) (Value.run_blocks m g),
    (θ_run Cert.LN1RefIdeal.defs _ _).mono (fun r h c => by
      obtain ⟨h0, h1, h2⟩ := hm c
      exact ⟨((h c).1).trans (by rw [h0, h1, h2]), ((h c).2.1).trans (by rw [h0, h1, h2]), (h c).2.2⟩) (Cert.LN1RefIdeal.Value.run m' g')⟩

end Cert.LN1Ideal.Whole

end
-- ==== Proof.LayerNorm.lean ====
/- The row of a layer norm at reals: its centred entries, its reciprocal deviation, and the gradient of its input in two forms, the one that the chain rule writes and the one with the terms collected. -/
module

public import Idealize.ShloMosaic.Lib.Pipeline.ValueKit
public import proofs.«01_k».proof.Proof.Finite

@[expose] public section

noncomputable section

namespace Cert.LayerNorm

open Idealize.ShloMosaic
open Cert.Reals (IsReal)

/-- The number of entries of a row, and the number added to the variance. -/
abbrev width : EReal := Ideal.ofBits .f32 1157627904#32
abbrev eps : EReal := Ideal.ofBits .f32 925353388#32

/-- A row's entry less the mean of the row. -/
def ctr (x : Fin 2048 → EReal) (j : Fin 2048) : EReal := x j - Ideal.div (∑ k, x k) width
/-- The variance of a row, with `eps`. -/
def spread (x : Fin 2048 → EReal) : EReal := Ideal.div (∑ k, ctr x k * ctr x k) width + eps
def rstd (x : Fin 2048 → EReal) : EReal := Ideal.rsqrt (spread x)

/-- The gradient of the row `x`, of the gradient `e` of the normalised row: the terms collected. -/
def collected (x e : Fin 2048 → EReal) (j : Fin 2048) : EReal :=
  rstd x * (e j - Ideal.div (∑ k, e k) width - ctr x j * rstd x * Ideal.div (∑ k, e k * (ctr x k * rstd x)) width)

/-- What the chain rule has of the variance. -/
def ofSpread (x e : Fin 2048 → EReal) : EReal :=
  ∑ _i : Fin 1, Ideal.div ((∑ k, ctr x k * e k) * (Ideal.ofBits .f32 3204448256#32 * Ideal.div (rstd x) (spread x))) width

/-- The gradient of the row `x`, of the gradient `e` of the normalised row: as the chain rule has it, through the entries, the variance and the mean. -/
def chained (x e : Fin 2048 → EReal) (j : Fin 2048) : EReal :=
  e j * rstd x + ofSpread x e * (Ideal.ofBits .f32 1073741824#32 * ctr x j)
    + ∑ _i : Fin 1, Ideal.div ((∑ k, -(e k * rstd x)) + ∑ k, -(ofSpread x e * (Ideal.ofBits .f32 1073741824#32 * ctr x k))) width

theorem bits_width : width = ((2048 : ℝ) : EReal) := by
  simp only [width, Ideal.ofBits, Ideal.ieee]; simp [← EReal.coe_mul]; norm_num
theorem bits_two : Ideal.ofBits .f32 1073741824#32 = ((2 : ℝ) : EReal) := by
  simp only [Ideal.ofBits, Ideal.ieee]; simp [← EReal.coe_mul]; norm_num
theorem bits_neg_half : Ideal.ofBits .f32 3204448256#32 = ((-(1 / 2) : ℝ) : EReal) := by
  simp only [Ideal.ofBits, Ideal.ieee]; simp [← EReal.coe_mul]; norm_num
theorem bits_eps : ∃ r : ℝ, 0 < r ∧ eps = (r : EReal) := by
  refine ⟨_, ?_, by simp only [eps, Ideal.ofBits, Ideal.ieee]; simp; rfl⟩
  positivity

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_div (a : ℝ) {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem coe_div_width (a : ℝ) : Ideal.div (a : EReal) width = ((a / 2048 : ℝ) : EReal) := by
  rw [bits_width, coe_div a (by norm_num)]

theorem coe_ctr (x : Fin 2048 → ℝ) (j : Fin 2048) : ctr (fun k => ((x k : ℝ) : EReal)) j = ((x j - (∑ k, x k) / 2048 : ℝ) : EReal) := by
  rw [ctr, coe_sum, coe_div_width, EReal.coe_sub]

theorem coe_spread (x : Fin 2048 → ℝ) : ∃ v : ℝ, 0 < v ∧ spread (fun k => ((x k : ℝ) : EReal)) = ((v : ℝ) : EReal) := by
  obtain ⟨r, hr, he⟩ := bits_eps
  refine ⟨(∑ k, (x k - (∑ k, x k) / 2048) * (x k - (∑ k, x k) / 2048)) / 2048 + r, ?_, ?_⟩
  · exact add_pos_of_nonneg_of_pos (div_nonneg (Finset.sum_nonneg fun k _ => mul_self_nonneg _) (by norm_num)) hr
  · simp only [spread, coe_ctr, ← EReal.coe_mul]
    rw [coe_sum, coe_div_width, he, EReal.coe_add]

theorem coe_rstd (x : Fin 2048 → ℝ) : ∃ v : ℝ, 0 < v ∧ spread (fun k => ((x k : ℝ) : EReal)) = ((v : ℝ) : EReal) ∧ rstd (fun k => ((x k : ℝ) : EReal)) = (((Real.sqrt v)⁻¹ : ℝ) : EReal) := by
  obtain ⟨v, hv, h⟩ := coe_spread x
  refine ⟨v, hv, h, ?_⟩
  rw [rstd, h]
  show (if v < 0 then (⊥ : EReal) else if v = 0 then ⊤ else (((Real.sqrt v)⁻¹ : ℝ) : EReal)) = _
  rw [if_neg hv.not_gt, if_neg hv.ne']

/-- The two forms agree at reals. -/
theorem collected_eq_chained_real {x e : Fin 2048 → EReal} (hx : ∀ k, IsReal (x k)) (he : ∀ k, IsReal (e k)) (j : Fin 2048) :
    collected x e j = chained x e j := by
  choose a ha using hx
  choose b hb using he
  obtain rfl : x = fun k => ((a k : ℝ) : EReal) := funext ha
  obtain rfl : e = fun k => ((b k : ℝ) : EReal) := funext hb
  obtain ⟨v, hv, hs, hr⟩ := coe_rstd a
  simp only [collected, chained, ofSpread, Finset.univ_unique, Finset.sum_singleton, coe_ctr, hr, hs, bits_two, bits_neg_half, coe_div _ hv.ne', coe_div_width, coe_sum,
    ← EReal.coe_mul, ← EReal.coe_sub, ← EReal.coe_add, ← EReal.coe_neg]
  congr 1
  set μ := (∑ k, a k) / 2048 with hμ
  set s := (Real.sqrt v)⁻¹ with hsv
  have hss : s / v = s * s * s := by
    have : v * (s * s) = 1 := by
      rw [hsv, ← mul_inv, Real.mul_self_sqrt hv.le, mul_inv_cancel₀ hv.ne']
    field_simp
    linear_combination (-s) * this
  have h0 : (∑ k, (a k - μ)) = 0 := by
    rw [Finset.sum_sub_distrib, Finset.sum_const, Finset.card_univ, Fintype.card_fin, nsmul_eq_mul, hμ]
    push_cast; ring
  have h1 : (∑ k, b k * ((a k - μ) * s)) = (∑ k, (a k - μ) * b k) * s := by
    rw [Finset.sum_mul]; exact Finset.sum_congr rfl fun k _ => by ring
  have h2 : (∑ k, -(b k * s)) = -((∑ k, b k) * s) := by
    rw [Finset.sum_neg_distrib, Finset.sum_mul]
  set C := (∑ k, (a k - μ) * b k) * (-(1 / 2) * (s / v)) / 2048 with hC
  have h3 : (∑ k, -(C * (2 * (a k - μ)))) = 0 := by
    rw [Finset.sum_neg_distrib, ← Finset.mul_sum, ← Finset.mul_sum, h0]; ring
  rw [h1, h2, h3, hC, hss]
  ring

/-- A sum is real only where every summand is. -/
theorem real_of_sum {n : ℕ} {f : Fin n → EReal} (h : IsReal (∑ k, f k)) (k : Fin n) : IsReal (f k) := by
  have add : ∀ {a b : EReal}, IsReal (a + b) → IsReal a ∧ IsReal b := by
    intro a b ⟨r, hr⟩
    induction a <;> induction b <;> simp_all [IsReal]
  rw [← Finset.add_sum_erase _ _ (Finset.mem_univ k)] at h
  exact (add h).1

theorem not_real {x : EReal} (h : ¬IsReal x) : x = ⊤ ∨ x = ⊥ := by
  induction x with
  | bot => exact .inr rfl
  | top => exact .inl rfl
  | coe r => exact absurd ⟨r, rfl⟩ h

theorem top_sum {n : ℕ} : (∑ _k : Fin (n + 1), (⊤ : EReal)) = ⊤ := by
  induction n with
  | zero => simp
  | succ n ih => rw [Fin.sum_univ_succ, ih]; rfl

theorem div_width (y : EReal) : Ideal.div y width = y * ((1 / 2048 : ℝ) : EReal) := by
  rw [bits_width, Ideal.div, if_neg (by norm_num), ← EReal.coe_inv, one_div]

/-- A row with an infinite entry has an infinite variance. -/
theorem spread_top {x : Fin 2048 → EReal} (h : ¬∀ k, IsReal (x k)) : spread x = ⊤ := by
  have hs : ¬IsReal (∑ k, x k) := fun hr => h (real_of_sum hr)
  have hc : ∀ k, ctr x k * ctr x k = ⊤ := fun k => by
    unfold ctr
    rw [div_width]
    have hp : (0 : ℝ) < 1 / 2048 := by norm_num
    generalize x k = y
    rcases not_real hs with h | h <;> rw [h]
    · rw [EReal.top_mul_coe_of_pos hp]; simp
    · rw [EReal.bot_mul_coe_of_pos hp]; induction y <;> simp
  obtain ⟨r, hr, he⟩ := bits_eps
  simp only [spread, hc, he, div_width, top_sum]
  rw [EReal.top_mul_coe_of_pos (by norm_num)]
  simp

/-- The two forms agree where the gradient is real: at reals, and at a row with an infinite entry, where both are zero. -/
theorem collected_eq_chained {x e : Fin 2048 → EReal} (he : ∀ k, IsReal (e k)) (j : Fin 2048) :
    collected x e j = chained x e j := by
  by_cases hx : ∀ k, IsReal (x k)
  · exact collected_eq_chained_real hx he j
  · have hs := spread_top hx
    have hr : rstd x = 0 := by rw [rstd, hs]; rfl
    have ho : ofSpread x e = 0 := by simp [ofSpread, hr, hs, Ideal.div, bits_width]
    simp [collected, chained, hr, ho, div_width]

/-- A row of the error of the normalised row `x`, with gain `g` and offset `b`, against `t`. -/
def err (x t g b : Fin 2048 → EReal) (k : Fin 2048) : EReal := ctr x k * rstd x * g k + b k - t k

theorem bits_half : Ideal.ofBits .f32 1056964608#32 = ((1 / 2 : ℝ) : EReal) := by
  simp only [Ideal.ofBits, Ideal.ieee]; simp [← EReal.coe_mul]; norm_num

theorem bits_share : Ideal.ofBits .f32 973078528#32 = ((1 / 2048 : ℝ) : EReal) := by
  simp only [Ideal.ofBits, Ideal.ieee]; simp [← EReal.coe_mul]; norm_num

/-- The derivative of half the mean of the squares: by one factor, and as the chain rule has it. -/
theorem halved (e : EReal) : e * Ideal.ofBits .f32 973078528#32
    = Ideal.div (Ideal.ofBits .f32 1056964608#32) width * (Ideal.ofBits .f32 1073741824#32 * e) := by
  rw [bits_share, bits_half, bits_two, coe_div_width, ← mul_assoc, ← EReal.coe_mul, mul_comm]
  congr 2
  norm_num

/-- A nonnegative real factor goes into a sum. -/
theorem scale {c : ℝ} (hc : 0 ≤ c) {n : ℕ} (f : Fin n → EReal) : (c : EReal) * ∑ r, f r = ∑ r, (c : EReal) * f r := by
  induction n with
  | zero => simp
  | succ n ih =>
    rw [Fin.sum_univ_succ, Fin.sum_univ_succ, EReal.left_distrib_of_nonneg_of_ne_top (by exact_mod_cast hc) (EReal.coe_ne_top c), ih]

/-- Half the sum of the rows' means of `q`: of the sum over the rows, or row by row. -/
theorem half_mean {n : ℕ} (q : Fin n → Fin 2048 → EReal) :
    Ideal.ofBits .f32 1056964608#32 * (∑ r, ∑ k, q r k) * Ideal.ofBits .f32 973078528#32 = ∑ r, Ideal.ofBits .f32 1056964608#32 * Ideal.div (∑ k, q r k) width := by
  simp only [div_width, bits_half, bits_share]
  rw [← scale (by norm_num), mul_assoc, mul_comm (∑ r, ∑ k, q r k), scale (by norm_num)]
  simp only [mul_comm]

theorem half_sum {n : ℕ} (f : Fin n → EReal) :
    Ideal.ofBits .f32 1056964608#32 * (∑ r, f r) = ∑ r, Ideal.ofBits .f32 1056964608#32 * f r := by
  rw [bits_half, scale (by norm_num)]

theorem sub {x y : EReal} (hx : IsReal x) (hy : IsReal y) : IsReal (x - y) := by
  obtain ⟨a, rfl⟩ := hx; obtain ⟨b, rfl⟩ := hy; exact ⟨a - b, (EReal.coe_sub a b).symm⟩

theorem add {x y : EReal} (hx : IsReal x) (hy : IsReal y) : IsReal (x + y) := by
  obtain ⟨a, rfl⟩ := hx; obtain ⟨b, rfl⟩ := hy; exact ⟨a + b, (EReal.coe_add a b).symm⟩

theorem real_ctr {x : Fin 2048 → EReal} (hx : ∀ k, IsReal (x k)) (j : Fin 2048) : IsReal (ctr x j) := by
  choose a ha using hx
  obtain rfl : x = fun k => ((a k : ℝ) : EReal) := funext ha
  exact ⟨_, coe_ctr a j⟩

theorem real_rstd {x : Fin 2048 → EReal} (hx : ∀ k, IsReal (x k)) : IsReal (rstd x) := by
  choose a ha using hx
  obtain rfl : x = fun k => ((a k : ℝ) : EReal) := funext ha
  obtain ⟨v, hv, hs, hr⟩ := coe_rstd a
  exact ⟨_, hr⟩

/-- The normalised row is real, zero where the row has an infinite entry. -/
theorem real_normed (x : Fin 2048 → EReal) (k : Fin 2048) : IsReal (ctr x k * rstd x) := by
  by_cases hx : ∀ k, IsReal (x k)
  · exact Cert.Reals.mul (real_ctr hx k) (real_rstd hx)
  · have : rstd x = 0 := by rw [rstd, spread_top hx]; rfl
    exact ⟨0, by rw [this, mul_zero, EReal.coe_zero]⟩

theorem real_err {x t g b : Fin 2048 → EReal} (ht : ∀ k, IsReal (t k)) (hg : ∀ k, IsReal (g k)) (hb : ∀ k, IsReal (b k)) (k : Fin 2048) :
    IsReal (err x t g b k) :=
  sub (add (Cert.Reals.mul (real_normed x k) (hg k)) (hb k)) (ht k)

theorem real_share : IsReal (Ideal.ofBits .f32 973078528#32) := ⟨_, bits_share⟩

/-- The two forms of the gradient of the row, for half the mean of the squared error. -/
theorem collected_err {x t g b : Fin 2048 → EReal} (ht : ∀ k, IsReal (t k)) (hg : ∀ k, IsReal (g k)) (hb : ∀ k, IsReal (b k)) (j : Fin 2048) :
    collected x (fun k => err x t g b k * Ideal.ofBits .f32 973078528#32 * g k) j
      = chained x (fun k => Ideal.div (Ideal.ofBits .f32 1056964608#32) width * (Ideal.ofBits .f32 1073741824#32 * err x t g b k) * g k) j :=
  (collected_eq_chained (fun k => Cert.Reals.mul (Cert.Reals.mul (real_err ht hg hb k) real_share) (hg k)) j).trans
    (congrArg (fun e => chained x e j) (funext fun k => by rw [halved]))

end Cert.LayerNorm

end
-- ==== Proof.LN1BwdWhole.lean ====
/- The call of the gradients of the first layer norm: what the arrays that it writes hold is what the reference computes of the whole arguments. -/
module

public import proofs.«01_k».proof.Defs
public import proofs.«01_k».proof.Proof.Gen.LN1BwdIdeal
public import proofs.«01_k».proof.Proof.Gen.LN1BwdRefIdeal
public import proofs.«01_k».proof.Proof.Gen.LN1BwdIdeal.Value
public import proofs.«01_k».proof.Proof.Gen.LN1BwdRefIdeal.Run
public import Idealize.ShloMosaic.Lib.Pipeline.ValueKit
public import proofs.«01_k».proof.Proof.Gen.Pre_ln1_bwd_finite
public import proofs.«01_k».proof.Proof.LayerNorm

@[expose] public section

set_option maxRecDepth 16384

noncomputable section

open Idealize.ShloMosaic Idealize.ShloMosaic.TcCoe Idealize.SL.Sem
open Idealize.ShloMosaic.Pipeline (Dat)

namespace Cert.LN1BwdIdeal.Whole

open Cert.LN1BwdIdeal Cert.LN1BwdIdeal.Gen
open Cert.Reals (IsReal)
open Cert.LayerNorm (ctr spread rstd collected chained ofSpread width eps)

variable (m : (ℓ : Loc nD τ sig) → Buf (Elt Ideal) ℓ)
variable (m' : (ℓ : Loc Cert.LN1BwdRefIdeal.nD Cert.LN1BwdRefIdeal.τ Cert.LN1BwdRefIdeal.sig) → Buf (Elt Ideal) ℓ)

/-- Which block of its array each window holds at a grid point. -/
theorem places : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] ∧ win0_6.index t = ![0, 0] :=
  (by decide +kernel : ∀ t : Fin grid0.N, _)

/-- The gradient and the gain are real wherever they are read. -/
theorem reals (hp : Cert.Pre_LN1BwdIdeal_ln1_bwd_finite m) (c : Dev nD) :
    (∀ i, IsReal (m ((c : Thread nD τ).loc main_arg0) i)) ∧ (∀ i, IsReal (m ((c : Thread nD τ).loc main_arg2) i)) :=
  ⟨fun i => Cert.Reals.of_test _ (congrFun (hp c).1 i), fun i => Cert.Reals.of_test _ (congrFun (hp c).2 i)⟩

/-- Kernel and reference are started on the same arguments. -/
abbrev Args (c : Dev nD) : Prop :=
  m' ((c.tc : Thread Cert.LN1BwdRefIdeal.nD Cert.LN1BwdRefIdeal.τ).loc Cert.LN1BwdRefIdeal.main_arg0) = m ((c.tc : Thread nD τ).loc main_arg0)
  ∧ m' ((c.tc : Thread Cert.LN1BwdRefIdeal.nD Cert.LN1BwdRefIdeal.τ).loc Cert.LN1BwdRefIdeal.main_arg1) = m ((c.tc : Thread nD τ).loc main_arg1)
  ∧ m' ((c.tc : Thread Cert.LN1BwdRefIdeal.nD Cert.LN1BwdRefIdeal.τ).loc Cert.LN1BwdRefIdeal.main_arg2) = m ((c.tc : Thread nD τ).loc main_arg2)

/-- A point after the first one starts no run. -/
theorem not_first (t : Fin cfg0.N) (h : 0 < t.val) : ¬t.val % 8 = 0 := by
  have := t.isLt; have : cfg0.N = 8 := N_0; omega

/-- What a point adds to the two sums over the rows. -/
theorem step5 (x d : FVec Ideal S512x2048 .f32) (acc : FVec Ideal S1x2048 .f32) (j : S1x2048.Idx) : k0_pay3 (F := Ideal) (k0_pay9 x d) acc j = acc j + k0_pay9 x d j := by
  pointwise [k0_pay3]
theorem step6 (d : FVec Ideal S512x2048 .f32) (acc : FVec Ideal S1x2048 .f32) (j : S1x2048.Idx) : k0_pay4 (F := Ideal) d acc j = acc j + k0_pay1 d j := by
  pointwise [k0_pay4]

/-- Result 0 of the call, tile by tile: each tile is what the reference has there. -/
theorem written0 (hp : Cert.Pre_LN1BwdIdeal_ln1_bwd_finite m) (c : Dev nD) (hm : Args m m' c) : (dats m 0 c).arrAt 3 (cfgs 0).N = (Cert.LN1BwdRefIdeal.Value.res_main_v59 m' c : FVec Ideal S4096x2048 .f32) := by
  obtain ⟨e0, e1, e2⟩ := hm
  obtain ⟨r0, r2⟩ := reals m hp c
  refine (dats m 0 c).arrAt_eq_of_covers 3 _ (by decide +kernel) fun t hf y => ?_
  blk_simp
  rw [after0_3]
  rcases Nat.eq_zero_or_pos t.val with h | h
  rw [outsAt0_A m c t (by omega) (by omega) (by omega) (by omega)]
  rotate_left
  rw [outsAt0_B m c t (not_first t h) h (not_first t h) h]
  all_goals
    frame_out
    pointwise [k0_pay1, k0_pay2, k0_pay3, k0_pay4, k0_pay5, k0_pay6, k0_pay7, k0_pay8, k0_pay9, Cert.LN1BwdRefIdeal.Value.res_main_v59, e0, e1, e2]
    refine Eq.trans ?_ ((Cert.LayerNorm.collected_eq_chained (x := fun k => m ((c : Thread nD τ).loc main_arg1) (ix2 (((View.whole main_v0_0).slice (win0_3.rect t)).emb y 0) k))
      (fun k => Cert.Reals.mul (r0 (ix2 (((View.whole main_v0_0).slice (win0_3.rect t)).emb y 0) k)) (r2 (ix2 0 k)))
      (((View.whole main_v0_0).slice (win0_3.rect t)).emb y 1)).trans ?_)
    · simp only [collected, ctr, rstd, spread]
      blk_point [iblk, V, places t]
    · simp only [chained, ofSpread, ctr, rstd, spread]
      blk_point [iblk, V, places t]

/-- Result 1 of the call, tile by tile: each tile is what the reference has there. -/
theorem written1 (hp : Cert.Pre_LN1BwdIdeal_ln1_bwd_finite m) (c : Dev nD) (hm : Args m m' c) : (dats m 0 c).arrAt 4 (cfgs 0).N = (Cert.LN1BwdRefIdeal.Value.res_main_v60 m' c : FVec Ideal S4096x2048 .bf16) := by
  obtain ⟨e0, e1, e2⟩ := hm
  obtain ⟨r0, r2⟩ := reals m hp c
  refine (dats m 0 c).arrAt_eq_of_covers 4 _ (by decide +kernel) fun t hf y => ?_
  blk_simp
  rw [after0_4]
  rcases Nat.eq_zero_or_pos t.val with h | h
  rw [outsAt0_A m c t (by omega) (by omega) (by omega) (by omega)]
  rotate_left
  rw [outsAt0_B m c t (not_first t h) h (not_first t h) h]
  all_goals
    frame_out
    pointwise [k0_pay1, k0_pay2, k0_pay3, k0_pay4, k0_pay5, k0_pay6, k0_pay7, k0_pay8, k0_pay9, Cert.LN1BwdRefIdeal.Value.res_main_v60, e0, e1, e2]
    refine Eq.trans ?_ ((Cert.LayerNorm.collected_eq_chained (x := fun k => m ((c : Thread nD τ).loc main_arg1) (ix2 (((View.whole main_v0_1).slice (win0_4.rect t)).emb y 0) k))
      (fun k => Cert.Reals.mul (r0 (ix2 (((View.whole main_v0_1).slice (win0_4.rect t)).emb y 0) k)) (r2 (ix2 0 k)))
      (((View.whole main_v0_1).slice (win0_4.rect t)).emb y 1)).trans ?_)
    · simp only [collected, ctr, rstd, spread]
      blk_point [iblk, V, places t]
    · simp only [chained, ofSpread, ctr, rstd, spread]
      blk_point [iblk, V, places t]

/-- Result 2 of the reference, over whole arrays. -/
abbrev whole2 (x0 : FVec Ideal S4096x2048 .f32) (x1 : FVec Ideal S4096x2048 .f32) : FVec Ideal S1x2048 .f32 :=
  shapeCast _ (Host.reduceAdd (mulf (mulf (subf x1 (broadcastInDim Cert.LN1BwdRefIdeal.S4096x2048 ![0, 1] Cert.LN1BwdRefIdeal.Gen.bcast_S4096x1_S4096x2048_0_1 (Host.divf (broadcastInDim Cert.LN1BwdRefIdeal.S4096x1 ![0] Cert.LN1BwdRefIdeal.Gen.bcast_S4096_S4096x1_0 (Host.reduceAdd x1 (constant Cert.LN1BwdRefIdeal.S_ .f32 0x00000000#32) Cert.LN1BwdRefIdeal.Gen.reducesTo_S4096x2048_S4096_d1 Cert.LN1BwdRefIdeal.Gen.h_S_)) (broadcastInDim Cert.LN1BwdRefIdeal.S4096x1 ![] Cert.LN1BwdRefIdeal.Gen.bcast_S_S4096x1 (constant Cert.LN1BwdRefIdeal.S_ .f32 0x45000000#32))))) (broadcastInDim Cert.LN1BwdRefIdeal.S4096x2048 ![0, 1] Cert.LN1BwdRefIdeal.Gen.bcast_S4096x1_S4096x2048_0_1 (Host.rsqrt (addf (Host.divf (broadcastInDim Cert.LN1BwdRefIdeal.S4096x1 ![0] Cert.LN1BwdRefIdeal.Gen.bcast_S4096_S4096x1_0 (Host.reduceAdd (mulf (subf x1 (broadcastInDim Cert.LN1BwdRefIdeal.S4096x2048 ![0, 1] Cert.LN1BwdRefIdeal.Gen.bcast_S4096x1_S4096x2048_0_1 (Host.divf (broadcastInDim Cert.LN1BwdRefIdeal.S4096x1 ![0] Cert.LN1BwdRefIdeal.Gen.bcast_S4096_S4096x1_0 (Host.reduceAdd x1 (constant Cert.LN1BwdRefIdeal.S_ .f32 0x00000000#32) Cert.LN1BwdRefIdeal.Gen.reducesTo_S4096x2048_S4096_d1 Cert.LN1BwdRefIdeal.Gen.h_S_)) (broadcastInDim Cert.LN1BwdRefIdeal.S4096x1 ![] Cert.LN1BwdRefIdeal.Gen.bcast_S_S4096x1 (constant Cert.LN1BwdRefIdeal.S_ .f32 0x45000000#32))))) (subf x1 (broadcastInDim Cert.LN1BwdRefIdeal.S4096x2048 ![0, 1] Cert.LN1BwdRefIdeal.Gen.bcast_S4096x1_S4096x2048_0_1 (Host.divf (broadcastInDim Cert.LN1BwdRefIdeal.S4096x1 ![0] Cert.LN1BwdRefIdeal.Gen.bcast_S4096_S4096x1_0 (Host.reduceAdd x1 (constant Cert.LN1BwdRefIdeal.S_ .f32 0x00000000#32) Cert.LN1BwdRefIdeal.Gen.reducesTo_S4096x2048_S4096_d1 Cert.LN1BwdRefIdeal.Gen.h_S_)) (broadcastInDim Cert.LN1BwdRefIdeal.S4096x1 ![] Cert.LN1BwdRefIdeal.Gen.bcast_S_S4096x1 (constant Cert.LN1BwdRefIdeal.S_ .f32 0x45000000#32)))))) (constant Cert.LN1BwdRefIdeal.S_ .f32 0x00000000#32) Cert.LN1BwdRefIdeal.Gen.reducesTo_S4096x2048_S4096_d1 Cert.LN1BwdRefIdeal.Gen.h_S_)) (broadcastInDim Cert.LN1BwdRefIdeal.S4096x1 ![] Cert.LN1BwdRefIdeal.Gen.bcast_S_S4096x1 (constant Cert.LN1BwdRefIdeal.S_ .f32 0x45000000#32))) (broadcastInDim Cert.LN1BwdRefIdeal.S4096x1 ![] Cert.LN1BwdRefIdeal.Gen.bcast_S_S4096x1 (constant Cert.LN1BwdRefIdeal.S_ .f32 0x3727C5AC#32)))))) (shapeCast _ x0 Cert.LN1BwdRefIdeal.Gen.shapeCasts_S4096x2048_S4096x2048)) (constant Cert.LN1BwdRefIdeal.S_ .f32 0x00000000#32) Cert.LN1BwdRefIdeal.Gen.reducesTo_S4096x2048_S2048_d0 Cert.LN1BwdRefIdeal.Gen.h_S_) Cert.LN1BwdRefIdeal.Gen.shapeCasts_S2048_S1x2048

/-- Result 3 of the reference, over whole arrays. -/
abbrev whole3 (x0 : FVec Ideal S4096x2048 .f32) : FVec Ideal S1x2048 .f32 :=
  shapeCast _ (Host.reduceAdd x0 (constant Cert.LN1BwdRefIdeal.S_ .f32 0x00000000#32) Cert.LN1BwdRefIdeal.Gen.reducesTo_S4096x2048_S2048_d0 Cert.LN1BwdRefIdeal.Gen.h_S_) Cert.LN1BwdRefIdeal.Gen.shapeCasts_S2048_S1x2048

/-- Result 2 of the call: the sum of the points' parts is the reference's sum over the rows. -/
theorem written2 (c : Dev nD) : (dats m 0 c).arrAt 5 (cfgs 0).N = whole2 (m ((c : Thread nD τ).loc main_arg0)) (m ((c : Thread nD τ).loc main_arg1)) := by
  refine (dats m 0 c).arrAt_eq_of_after_last 5 t0_7 (by decide +kernel) _ fun j => ?_
  blk_simp
  rw [after0_5, Pipeline.eq_sum_fin_of_reset_step_apply_last (fun n h => (outsAt0 m c n h).2.2.1) 8 (fun _ => 0) (fun t => k0_pay9 (iblk m c 1 t) (iblk m c 0 t))
    (fun t h j => by
      rw [outsAt0_A m c t h (by have := t.isLt; have : cfg0.N = 8 := N_0; omega) h (by have := t.isLt; have : cfg0.N = 8 := N_0; omega)]; frame_out; exact (zero_add _).symm)
    (fun t h j => by rw [outsAt0_B m c t h (by omega) h (by omega)]; frame_out; rw [step5])
    (le_of_eq N_0) t0_7 rfl j, zero_add]
  pointwise [k0_pay1, k0_pay2, k0_pay3, k0_pay4, k0_pay5, k0_pay6, k0_pay7, k0_pay8, k0_pay9, whole2]
  refine Fin.sum_mul_add_congr fun t k hl => ?_
  blk_point [iblk, V, places t]

/-- Result 3 of the call: the sum of the points' parts is the reference's sum over the rows. -/
theorem written3 (c : Dev nD) : (dats m 0 c).arrAt 6 (cfgs 0).N = whole3 (m ((c : Thread nD τ).loc main_arg0)) := by
  refine (dats m 0 c).arrAt_eq_of_after_last 6 t0_7 (by decide +kernel) _ fun j => ?_
  blk_simp
  rw [after0_6, Pipeline.eq_sum_fin_of_reset_step_apply_last (fun n h => (outsAt0 m c n h).2.2.2) 8 (fun _ => 0) (fun t => k0_pay1 (iblk m c 0 t))
    (fun t h j => by
      rw [outsAt0_A m c t h (by have := t.isLt; have : cfg0.N = 8 := N_0; omega) h (by have := t.isLt; have : cfg0.N = 8 := N_0; omega)]; frame_out; exact (zero_add _).symm)
    (fun t h j => by rw [outsAt0_B m c t h (by omega) h (by omega)]; frame_out; rw [step6])
    (le_of_eq N_0) t0_7 rfl j, zero_add]
  pointwise [k0_pay1, k0_pay2, k0_pay3, k0_pay4, k0_pay5, k0_pay6, k0_pay7, k0_pay8, k0_pay9, whole3]
  refine Fin.sum_mul_add_congr fun t k hl => ?_
  blk_point [iblk, V, places t]

/-- Call and reference leave the same arrays. -/
theorem same : Cert.algebraic_LN1BwdIdeal_LN1BwdRefIdeal_pre_ln1_bwd_finite := fun m g m' g' hp hm =>
  ⟨fun c => Cert.LN1BwdRefIdeal.Value.res_main_v59 m' c, fun c => Cert.LN1BwdRefIdeal.Value.res_main_v60 m' c,
    fun c => whole2 (m ((c : Thread nD τ).loc main_arg0)) (m ((c : Thread nD τ).loc main_arg1)), fun c => whole3 (m ((c : Thread nD τ).loc main_arg0)),
    (θ_run defs _ _).mono (fun r h c => ⟨((h c).1).trans (written0 m m' hp c (hm c)), ((h c).2.1).trans (written1 m m' hp c (hm c)),
      ((h c).2.2.1).trans (written2 m c), ((h c).2.2.2.1).trans (written3 m c), (h c).2.2.2.2⟩) (Value.run_blocks m g),
    (θ_run Cert.LN1BwdRefIdeal.defs _ _).mono (fun r h c => by
      obtain ⟨h0, h1, h2⟩ := hm c
      exact ⟨(h c).1, (h c).2.1, ((h c).2.2.1).trans (by rw [h0, h1]; rfl), ((h c).2.2.2.1).trans (by rw [h0]), (h c).2.2.2.2⟩) (Cert.LN1BwdRefIdeal.Value.run m' g')⟩

end Cert.LN1BwdIdeal.Whole

end
-- ==== Proof.LN2LossWhole.lean ====
/- The call of the second layer norm with the loss and their gradients: what the arrays that it writes hold is what the reference computes of the whole arguments. -/
module

public import proofs.«01_k».proof.Defs
public import proofs.«01_k».proof.Proof.Gen.LN2LossIdeal
public import proofs.«01_k».proof.Proof.Gen.LN2LossRefIdeal
public import proofs.«01_k».proof.Proof.Gen.LN2LossIdeal.Value
public import proofs.«01_k».proof.Proof.Gen.LN2LossRefIdeal.Run
public import Idealize.ShloMosaic.Lib.Pipeline.ValueKit
public import proofs.«01_k».proof.Proof.Gen.Pre_ln2_loss_finite
public import proofs.«01_k».proof.Proof.LayerNorm

@[expose] public section

set_option maxRecDepth 16384

noncomputable section

open Idealize.ShloMosaic Idealize.ShloMosaic.TcCoe Idealize.SL.Sem
open Idealize.ShloMosaic.Pipeline (Dat)

namespace Cert.LN2LossIdeal.Whole

open Cert.LN2LossIdeal Cert.LN2LossIdeal.Gen
open Cert.Reals (IsReal)
open Cert.LayerNorm (ctr spread rstd collected chained ofSpread width eps err)

variable (m : (ℓ : Loc nD τ sig) → Buf (Elt Ideal) ℓ)
variable (m' : (ℓ : Loc Cert.LN2LossRefIdeal.nD Cert.LN2LossRefIdeal.τ Cert.LN2LossRefIdeal.sig) → Buf (Elt Ideal) ℓ)

/-- Which block of its array each window holds at a grid point. -/
theorem places : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] ∧ win0_7.index t = ![0, 0] ∧ win0_8.index t = ![0, 0] :=
  (by decide +kernel : ∀ t : Fin grid0.N, _)

/-- The target, the gain and the bias are real wherever they are read. -/
theorem reals (hp : Cert.Pre_LN2LossIdeal_ln2_loss_finite m) (c : Dev nD) :
    (∀ i, IsReal (m ((c : Thread nD τ).loc main_arg1) i)) ∧ (∀ i, IsReal (m ((c : Thread nD τ).loc main_arg2) i))
      ∧ (∀ i, IsReal (m ((c : Thread nD τ).loc main_arg3) i)) :=
  ⟨fun i => Cert.Reals.of_test _ (congrFun (hp c).1 i), fun i => Cert.Reals.of_test _ (congrFun (hp c).2.1 i),
    fun i => Cert.Reals.of_test _ (congrFun (hp c).2.2 i)⟩

/-- Kernel and reference are started on the same arguments. -/
abbrev Args (c : Dev nD) : Prop :=
  m' ((c.tc : Thread Cert.LN2LossRefIdeal.nD Cert.LN2LossRefIdeal.τ).loc Cert.LN2LossRefIdeal.main_arg0) = m ((c.tc : Thread nD τ).loc main_arg0)
  ∧ m' ((c.tc : Thread Cert.LN2LossRefIdeal.nD Cert.LN2LossRefIdeal.τ).loc Cert.LN2LossRefIdeal.main_arg1) = m ((c.tc : Thread nD τ).loc main_arg1)
  ∧ m' ((c.tc : Thread Cert.LN2LossRefIdeal.nD Cert.LN2LossRefIdeal.τ).loc Cert.LN2LossRefIdeal.main_arg2) = m ((c.tc : Thread nD τ).loc main_arg2)
  ∧ m' ((c.tc : Thread Cert.LN2LossRefIdeal.nD Cert.LN2LossRefIdeal.τ).loc Cert.LN2LossRefIdeal.main_arg3) = m ((c.tc : Thread nD τ).loc main_arg3)

/-- A point after the first one starts no run. -/
theorem not_first (t : Fin cfg0.N) (h : 0 < t.val) : ¬t.val % 8 = 0 := by
  have := t.isLt; have : cfg0.N = 8 := N_0; omega

/-- What a point adds to the loss and to the two sums over the rows. -/
theorem step6 (e : FVec Ideal S512x2048 .f32) (acc : FVec Ideal S8x128 .f32) (j : S8x128.Idx) : k0_pay15 (F := Ideal) e acc j = acc j + k0_pay14 e j := by
  pointwise [k0_pay15]
theorem step7 (x d : FVec Ideal S512x2048 .f32) (acc : FVec Ideal S1x2048 .f32) (j : S1x2048.Idx) : k0_pay16 (F := Ideal) x d acc j = acc j + k0_pay11 x d j := by
  pointwise [k0_pay16]
theorem step8 (d acc : FVec Ideal S1x2048 .f32) (j : S1x2048.Idx) : k0_pay1 (F := Ideal) d acc j = acc j + d j := by
  pointwise [k0_pay1]

/-- Result 0 of the call, tile by tile: each tile is what the reference has there. -/
theorem written0 (hp : Cert.Pre_LN2LossIdeal_ln2_loss_finite m) (c : Dev nD) (hm : Args m m' c) : (dats m 0 c).arrAt 4 (cfgs 0).N = (Cert.LN2LossRefIdeal.Value.res_main_v72 m' c : FVec Ideal S4096x2048 .f32) := by
  obtain ⟨e0, e1, e2, e3⟩ := hm
  obtain ⟨r1, r2, r3⟩ := reals m hp c
  refine (dats m 0 c).arrAt_eq_of_covers 4 _ (by decide +kernel) fun t hf y => ?_
  blk_simp
  rw [after0_4]
  rcases Nat.eq_zero_or_pos t.val with h | h
  rw [outsAt0_A m c t (by omega) (by omega) (by omega) (by omega) (by omega) (by omega)]
  rotate_left
  rw [outsAt0_B m c t (not_first t h) h (not_first t h) h (not_first t h) h]
  all_goals
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, Cert.LN2LossRefIdeal.Value.res_main_v72, e0, e1, e2, e3]
    refine Eq.trans ?_ ((Cert.LayerNorm.collected_err (x := fun k => m ((c : Thread nD τ).loc main_arg0) (ix2 (((View.whole main_v0_0).slice (win0_4.rect t)).emb y 0) k)) (fun k => r1 (ix2 (((View.whole main_v0_0).slice (win0_4.rect t)).emb y 0) k))
      (fun k => r2 (ix2 0 k)) (fun k => r3 (ix2 0 k)) (((View.whole main_v0_0).slice (win0_4.rect t)).emb y 1)).trans ?_)
    · simp only [collected, err, ctr, rstd, spread]
      blk_point [iblk, V, places t]
    · simp only [chained, ofSpread, err, ctr, rstd, spread]
      blk_point [iblk, V, places t]

/-- Result 1 of the call, tile by tile: each tile is what the reference has there. -/
theorem written1 (hp : Cert.Pre_LN2LossIdeal_ln2_loss_finite m) (c : Dev nD) (hm : Args m m' c) : (dats m 0 c).arrAt 5 (cfgs 0).N = (Cert.LN2LossRefIdeal.Value.res_main_v73 m' c : FVec Ideal S4096x2048 .bf16) := by
  obtain ⟨e0, e1, e2, e3⟩ := hm
  obtain ⟨r1, r2, r3⟩ := reals m hp c
  refine (dats m 0 c).arrAt_eq_of_covers 5 _ (by decide +kernel) fun t hf y => ?_
  blk_simp
  rw [after0_5]
  rcases Nat.eq_zero_or_pos t.val with h | h
  rw [outsAt0_A m c t (by omega) (by omega) (by omega) (by omega) (by omega) (by omega)]
  rotate_left
  rw [outsAt0_B m c t (not_first t h) h (not_first t h) h (not_first t h) h]
  all_goals
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, Cert.LN2LossRefIdeal.Value.res_main_v73, e0, e1, e2, e3]
    refine Eq.trans ?_ ((Cert.LayerNorm.collected_err (x := fun k => m ((c : Thread nD τ).loc main_arg0) (ix2 (((View.whole main_v0_1).slice (win0_5.rect t)).emb y 0) k)) (fun k => r1 (ix2 (((View.whole main_v0_1).slice (win0_5.rect t)).emb y 0) k))
      (fun k => r2 (ix2 0 k)) (fun k => r3 (ix2 0 k)) (((View.whole main_v0_1).slice (win0_5.rect t)).emb y 1)).trans ?_)
    · simp only [collected, err, ctr, rstd, spread]
      blk_point [iblk, V, places t]
    · simp only [chained, ofSpread, err, ctr, rstd, spread]
      blk_point [iblk, V, places t]

/-- Result 2 of the reference, over whole arrays. -/
abbrev whole2 (x0 : FVec Ideal S4096x2048 .f32) (x1 : FVec Ideal S4096x2048 .f32) (x2 : FVec Ideal S1x2048 .f32) (x3 : FVec Ideal S1x2048 .f32) : FVec Ideal S8x128 .f32 :=
  broadcastInDim Cert.LN2LossRefIdeal.S8x128 ![] Cert.LN2LossRefIdeal.Gen.bcast_S_S8x128 (mulf (constant Cert.LN2LossRefIdeal.S_ .f32 0x3F000000#32) (Host.reduceAdd (Host.divf (Host.reduceAdd (mulf (subf (addf (mulf (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (broadcastInDim Cert.LN2LossRefIdeal.S4096x2048 ![0, 1] Cert.LN2LossRefIdeal.Gen.bcast_S4096x1_S4096x2048_0_1 (Host.rsqrt (addf (Host.divf (broadcastInDim Cert.LN2LossRefIdeal.S4096x1 ![0] Cert.LN2LossRefIdeal.Gen.bcast_S4096_S4096x1_0 (Host.reduceAdd (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32)))))) (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))) (broadcastInDim Cert.LN2LossRefIdeal.S4096x1 ![] Cert.LN2LossRefIdeal.Gen.bcast_S_S4096x1 (constant Cert.LN2LossRefIdeal.S_ .f32 0x3727C5AC#32)))))) (broadcastInDim Cert.LN2LossRefIdeal.S4096x2048 ![0, 1] Cert.LN2LossRefIdeal.Gen.bcast_S1x2048_S4096x2048_0_1 x2)) (broadcastInDim Cert.LN2LossRefIdeal.S4096x2048 ![0, 1] Cert.LN2LossRefIdeal.Gen.bcast_S1x2048_S4096x2048_0_1 x3)) x1) (subf (addf (mulf (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (broadcastInDim Cert.LN2LossRefIdeal.S4096x2048 ![0, 1] Cert.LN2LossRefIdeal.Gen.bcast_S4096x1_S4096x2048_0_1 (Host.rsqrt (addf (Host.divf (broadcastInDim Cert.LN2LossRefIdeal.S4096x1 ![0] Cert.LN2LossRefIdeal.Gen.bcast_S4096_S4096x1_0 (Host.reduceAdd (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32)))))) (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))) (broadcastInDim Cert.LN2LossRefIdeal.S4096x1 ![] Cert.LN2LossRefIdeal.Gen.bcast_S_S4096x1 (constant Cert.LN2LossRefIdeal.S_ .f32 0x3727C5AC#32)))))) (broadcastInDim Cert.LN2LossRefIdeal.S4096x2048 ![0, 1] Cert.LN2LossRefIdeal.Gen.bcast_S1x2048_S4096x2048_0_1 x2)) (broadcastInDim Cert.LN2LossRefIdeal.S4096x2048 ![0, 1] Cert.LN2LossRefIdeal.Gen.bcast_S1x2048_S4096x2048_0_1 x3)) x1)) (constant Cert.LN2LossRefIdeal.S_ .f32 0x00000000#32) Cert.LN2LossRefIdeal.Gen.reducesTo_S4096x2048_S4096_d1 Cert.LN2LossRefIdeal.Gen.h_S_) (broadcastInDim Cert.LN2LossRefIdeal.S4096 ![] Cert.LN2LossRefIdeal.Gen.bcast_S_S4096 (constant Cert.LN2LossRefIdeal.S_ .f32 0x45000000#32))) (constant Cert.LN2LossRefIdeal.S_ .f32 0x00000000#32) Cert.LN2LossRefIdeal.Gen.reducesTo_S4096_S_d0 Cert.LN2LossRefIdeal.Gen.h_S_))

/-- The squared error, entry by entry. -/
def sq (c : Dev nD) (r : Fin 4096) (k : Fin 2048) : EReal :=
  err (fun k => m ((c.tc : Thread nD τ).loc main_arg0) (ix2 (r) k)) (fun k => m ((c.tc : Thread nD τ).loc main_arg1) (ix2 (r) k)) (fun k => m ((c.tc : Thread nD τ).loc main_arg2) (ix2 (0 : Fin 1) k)) (fun k => m ((c.tc : Thread nD τ).loc main_arg3) (ix2 (0 : Fin 1) k)) k
    * err (fun k => m ((c.tc : Thread nD τ).loc main_arg0) (ix2 (r) k)) (fun k => m ((c.tc : Thread nD τ).loc main_arg1) (ix2 (r) k)) (fun k => m ((c.tc : Thread nD τ).loc main_arg2) (ix2 (0 : Fin 1) k)) (fun k => m ((c.tc : Thread nD τ).loc main_arg3) (ix2 (0 : Fin 1) k)) k

/-- Result 2 of the call: the sum of the points' parts is the reference's sum over the rows. -/
theorem written2 (c : Dev nD) : (dats m 0 c).arrAt 6 (cfgs 0).N = whole2 (m ((c : Thread nD τ).loc main_arg0)) (m ((c : Thread nD τ).loc main_arg1)) (m ((c : Thread nD τ).loc main_arg2)) (m ((c : Thread nD τ).loc main_arg3)) := by
  refine (dats m 0 c).arrAt_eq_of_after_last 6 t0_7 (by decide +kernel) _ fun j => ?_
  blk_simp
  rw [after0_6, Pipeline.eq_sum_fin_of_reset_step_apply_last (fun n h => (outsAt0 m c n h).2.2.1) 8 (fun _ => 0) (fun t => k0_pay14 (k0_pay5 (iblk m c 0 t) (iblk m c 2 t) (iblk m c 3 t) (iblk m c 1 t)))
    (fun t h j => by
      rw [outsAt0_A m c t h (by have := t.isLt; have : cfg0.N = 8 := N_0; omega) h (by have := t.isLt; have : cfg0.N = 8 := N_0; omega) h (by have := t.isLt; have : cfg0.N = 8 := N_0; omega)]; frame_out; exact (zero_add _).symm)
    (fun t h j => by rw [outsAt0_B m c t h (by omega) h (by omega) h (by omega)]; frame_out; rw [step6])
    (le_of_eq N_0) t0_7 rfl j, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, whole2]
  refine Eq.trans (α := EReal) ?_ ((Cert.LayerNorm.half_sum (n := 4096) fun r => Ideal.div (∑ k, sq m c r k) width).symm.trans ?_)
  · refine Eq.trans (α := EReal) ?_ (Fin.sum_mul_add_fin (M := EReal) 8 512 (fun r : Fin 4096 => Ideal.ofBits .f32 1056964608#32 * Ideal.div (∑ k, sq m c r k) width))
    refine Fin.sum_fin_congr fun t => ?_
    refine Eq.trans (α := EReal) ?_ (Cert.LayerNorm.half_mean fun r k => sq m c ⟨t.val * 512 + r.val, by have := t.isLt; have : cfg0.N = 8 := N_0; omega⟩ k)
    simp only [sq, err, ctr, rstd, spread]
    blk_point [iblk, V, places t]
  · simp only [sq, err, ctr, rstd, spread]

/-- Result 3 of the reference, over whole arrays. -/
abbrev whole3 (x0 : FVec Ideal S4096x2048 .f32) (x1 : FVec Ideal S4096x2048 .f32) (x2 : FVec Ideal S1x2048 .f32) (x3 : FVec Ideal S1x2048 .f32) : FVec Ideal S1x2048 .f32 :=
  shapeCast _ (Host.reduceAdd (mulf (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (broadcastInDim Cert.LN2LossRefIdeal.S4096x2048 ![0, 1] Cert.LN2LossRefIdeal.Gen.bcast_S4096x1_S4096x2048_0_1 (Host.rsqrt (addf (Host.divf (broadcastInDim Cert.LN2LossRefIdeal.S4096x1 ![0] Cert.LN2LossRefIdeal.Gen.bcast_S4096_S4096x1_0 (Host.reduceAdd (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32)))))) (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))) (broadcastInDim Cert.LN2LossRefIdeal.S4096x1 ![] Cert.LN2LossRefIdeal.Gen.bcast_S_S4096x1 (constant Cert.LN2LossRefIdeal.S_ .f32 0x3727C5AC#32)))))) (mulf (broadcastInDim Cert.LN2LossRefIdeal.S4096x2048 ![0] Cert.LN2LossRefIdeal.Gen.bcast_S4096_S4096x2048_0 (Host.divf (broadcastInDim Cert.LN2LossRefIdeal.S4096 ![] Cert.LN2LossRefIdeal.Gen.bcast_S_S4096 (mulf (constant Cert.LN2LossRefIdeal.S_ .f32 0x3F000000#32) (constant Cert.LN2LossRefIdeal.S_ .f32 0x3F800000#32))) (broadcastInDim Cert.LN2LossRefIdeal.S4096 ![] Cert.LN2LossRefIdeal.Gen.bcast_S_S4096 (constant Cert.LN2LossRefIdeal.S_ .f32 0x45000000#32)))) (mulf (broadcastInDim Cert.LN2LossRefIdeal.S4096x2048 ![] Cert.LN2LossRefIdeal.Gen.bcast_S_S4096x2048 (constant Cert.LN2LossRefIdeal.S_ .f32 0x40000000#32)) (subf (addf (mulf (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (broadcastInDim Cert.LN2LossRefIdeal.S4096x2048 ![0, 1] Cert.LN2LossRefIdeal.Gen.bcast_S4096x1_S4096x2048_0_1 (Host.rsqrt (addf (Host.divf (broadcastInDim Cert.LN2LossRefIdeal.S4096x1 ![0] Cert.LN2LossRefIdeal.Gen.bcast_S4096_S4096x1_0 (Host.reduceAdd (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32)))))) (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))) (broadcastInDim Cert.LN2LossRefIdeal.S4096x1 ![] Cert.LN2LossRefIdeal.Gen.bcast_S_S4096x1 (constant Cert.LN2LossRefIdeal.S_ .f32 0x3727C5AC#32)))))) (broadcastInDim Cert.LN2LossRefIdeal.S4096x2048 ![0, 1] Cert.LN2LossRefIdeal.Gen.bcast_S1x2048_S4096x2048_0_1 x2)) (broadcastInDim Cert.LN2LossRefIdeal.S4096x2048 ![0, 1] Cert.LN2LossRefIdeal.Gen.bcast_S1x2048_S4096x2048_0_1 x3)) x1)))) (constant Cert.LN2LossRefIdeal.S_ .f32 0x00000000#32) Cert.LN2LossRefIdeal.Gen.reducesTo_S4096x2048_S2048_d0 Cert.LN2LossRefIdeal.Gen.h_S_) Cert.LN2LossRefIdeal.Gen.shapeCasts_S2048_S1x2048

/-- Result 3 of the call: the sum of the points' parts is the reference's sum over the rows. -/
theorem written3 (c : Dev nD) : (dats m 0 c).arrAt 7 (cfgs 0).N = whole3 (m ((c : Thread nD τ).loc main_arg0)) (m ((c : Thread nD τ).loc main_arg1)) (m ((c : Thread nD τ).loc main_arg2)) (m ((c : Thread nD τ).loc main_arg3)) := by
  refine (dats m 0 c).arrAt_eq_of_after_last 7 t0_7 (by decide +kernel) _ fun j => ?_
  blk_simp
  rw [after0_7, Pipeline.eq_sum_fin_of_reset_step_apply_last (fun n h => (outsAt0 m c n h).2.2.2.1) 8 (fun _ => 0) (fun t => k0_pay11 (k0_pay4 (iblk m c 0 t)) (k0_pay6 (iblk m c 0 t) (iblk m c 2 t) (iblk m c 3 t) (iblk m c 1 t)))
    (fun t h j => by
      rw [outsAt0_A m c t h (by have := t.isLt; have : cfg0.N = 8 := N_0; omega) h (by have := t.isLt; have : cfg0.N = 8 := N_0; omega) h (by have := t.isLt; have : cfg0.N = 8 := N_0; omega)]; frame_out; exact (zero_add _).symm)
    (fun t h j => by rw [outsAt0_B m c t h (by omega) h (by omega) h (by omega)]; frame_out; rw [step7])
    (le_of_eq N_0) t0_7 rfl j, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, whole3]
  refine Fin.sum_mul_add_congr fun t k hl => ?_
  rw [Cert.LayerNorm.halved]
  refine (mul_comm (G := EReal) _ _).trans ?_
  blk_point [iblk, V, places t]

/-- Result 4 of the reference, over whole arrays. -/
abbrev whole4 (x0 : FVec Ideal S4096x2048 .f32) (x1 : FVec Ideal S4096x2048 .f32) (x2 : FVec Ideal S1x2048 .f32) (x3 : FVec Ideal S1x2048 .f32) : FVec Ideal S1x2048 .f32 :=
  shapeCast _ (Host.reduceAdd (mulf (broadcastInDim Cert.LN2LossRefIdeal.S4096x2048 ![0] Cert.LN2LossRefIdeal.Gen.bcast_S4096_S4096x2048_0 (Host.divf (broadcastInDim Cert.LN2LossRefIdeal.S4096 ![] Cert.LN2LossRefIdeal.Gen.bcast_S_S4096 (mulf (constant Cert.LN2LossRefIdeal.S_ .f32 0x3F000000#32) (constant Cert.LN2LossRefIdeal.S_ .f32 0x3F800000#32))) (broadcastInDim Cert.LN2LossRefIdeal.S4096 ![] Cert.LN2LossRefIdeal.Gen.bcast_S_S4096 (constant Cert.LN2LossRefIdeal.S_ .f32 0x45000000#32)))) (mulf (broadcastInDim Cert.LN2LossRefIdeal.S4096x2048 ![] Cert.LN2LossRefIdeal.Gen.bcast_S_S4096x2048 (constant Cert.LN2LossRefIdeal.S_ .f32 0x40000000#32)) (subf (addf (mulf (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (broadcastInDim Cert.LN2LossRefIdeal.S4096x2048 ![0, 1] Cert.LN2LossRefIdeal.Gen.bcast_S4096x1_S4096x2048_0_1 (Host.rsqrt (addf (Host.divf (broadcastInDim Cert.LN2LossRefIdeal.S4096x1 ![0] Cert.LN2LossRefIdeal.Gen.bcast_S4096_S4096x1_0 (Host.reduceAdd (mulf (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))))) (subf x0 (broadcastInDim Cert.LN2LossRefIdeal.S4096x2048 ![0, 1] Cert.LN2LossRefIdeal.Gen.bcast_S4096x1_S4096x2048_0_1 (Host.divf (broadcastInDim Cert.LN2LossRefIdeal.S4096x1 ![0] Cert.LN2LossRefIdeal.Gen.bcast_S4096_S4096x1_0 (Host.reduceAdd x0 (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32)))))) (constant Cert.LN2LossRefIdeal.S_ .f32 0x00000000#32) Cert.LN2LossRefIdeal.Gen.reducesTo_S4096x2048_S4096_d1 Cert.LN2LossRefIdeal.Gen.h_S_)) (broadcastInDim Cert.LN2LossRefIdeal.S4096x1 ![] Cert.LN2LossRefIdeal.Gen.bcast_S_S4096x1 (constant Cert.LN2LossRefIdeal.S_ .f32 0x45000000#32))) (broadcastInDim Cert.LN2LossRefIdeal.S4096x1 ![] Cert.LN2LossRefIdeal.Gen.bcast_S_S4096x1 (constant Cert.LN2LossRefIdeal.S_ .f32 0x3727C5AC#32)))))) (broadcastInDim Cert.LN2LossRefIdeal.S4096x2048 ![0, 1] Cert.LN2LossRefIdeal.Gen.bcast_S1x2048_S4096x2048_0_1 x2)) (broadcastInDim Cert.LN2LossRefIdeal.S4096x2048 ![0, 1] Cert.LN2LossRefIdeal.Gen.bcast_S1x2048_S4096x2048_0_1 x3)) x1))) (constant Cert.LN2LossRefIdeal.S_ .f32 0x00000000#32) Cert.LN2LossRefIdeal.Gen.reducesTo_S4096x2048_S2048_d0 Cert.LN2LossRefIdeal.Gen.h_S_) Cert.LN2LossRefIdeal.Gen.shapeCasts_S2048_S1x2048

/-- Result 4 of the call: the sum of the points' parts is the reference's sum over the rows. -/
theorem written4 (c : Dev nD) : (dats m 0 c).arrAt 8 (cfgs 0).N = whole4 (m ((c : Thread nD τ).loc main_arg0)) (m ((c : Thread nD τ).loc main_arg1)) (m ((c : Thread nD τ).loc main_arg2)) (m ((c : Thread nD τ).loc main_arg3)) := by
  refine (dats m 0 c).arrAt_eq_of_after_last 8 t0_7 (by decide +kernel) _ fun j => ?_
  blk_simp
  rw [after0_8, Pipeline.eq_sum_fin_of_reset_step_apply_last (fun n h => (outsAt0 m c n h).2.2.2.2) 8 (fun _ => 0) (fun t => k0_pay12 (k0_pay6 (iblk m c 0 t) (iblk m c 2 t) (iblk m c 3 t) (iblk m c 1 t)))
    (fun t h j => by
      rw [outsAt0_A m c t h (by have := t.isLt; have : cfg0.N = 8 := N_0; omega) h (by have := t.isLt; have : cfg0.N = 8 := N_0; omega) h (by have := t.isLt; have : cfg0.N = 8 := N_0; omega)]; frame_out; exact (zero_add _).symm)
    (fun t h j => by rw [outsAt0_B m c t h (by omega) h (by omega) h (by omega)]; frame_out; rw [step8])
    (le_of_eq N_0) t0_7 rfl j, zero_add]
  pointwise [k0_pay1, k0_pay2, k0_pay3, k0_pay4, k0_pay5, k0_pay6, k0_pay7, k0_pay8, k0_pay9, k0_pay10, k0_pay11, k0_pay12, k0_pay13, k0_pay14, k0_pay15, k0_pay16, whole4]
  refine Fin.sum_mul_add_congr fun t k hl => ?_
  rw [Cert.LayerNorm.halved]
  blk_point [iblk, V, places t]

/-- Call and reference leave the same arrays. -/
theorem same : Cert.algebraic_LN2LossIdeal_LN2LossRefIdeal_pre_ln2_loss_finite := fun m g m' g' hp hm =>
  ⟨fun c => Cert.LN2LossRefIdeal.Value.res_main_v72 m' c, fun c => Cert.LN2LossRefIdeal.Value.res_main_v73 m' c,
    fun c => whole2 (m ((c : Thread nD τ).loc main_arg0)) (m ((c : Thread nD τ).loc main_arg1)) (m ((c : Thread nD τ).loc main_arg2)) (m ((c : Thread nD τ).loc main_arg3)), fun c => whole3 (m ((c : Thread nD τ).loc main_arg0)) (m ((c : Thread nD τ).loc main_arg1)) (m ((c : Thread nD τ).loc main_arg2)) (m ((c : Thread nD τ).loc main_arg3)), fun c => whole4 (m ((c : Thread nD τ).loc main_arg0)) (m ((c : Thread nD τ).loc main_arg1)) (m ((c : Thread nD τ).loc main_arg2)) (m ((c : Thread nD τ).loc main_arg3)),
    (θ_run defs _ _).mono (fun r h c => ⟨((h c).1).trans (written0 m m' hp c (hm c)), ((h c).2.1).trans (written1 m m' hp c (hm c)),
      ((h c).2.2.1).trans (written2 m c), ((h c).2.2.2.1).trans (written3 m c), ((h c).2.2.2.2.1).trans (written4 m c), (h c).2.2.2.2.2⟩) (Value.run_blocks m g),
    (θ_run Cert.LN2LossRefIdeal.defs _ _).mono (fun r h c => by
      obtain ⟨h0, h1, h2, h3⟩ := hm c
      exact ⟨(h c).1, (h c).2.1, ((h c).2.2.1).trans (by rw [h0, h1, h2, h3]), ((h c).2.2.2.1).trans (by rw [h0, h1, h2, h3]),
        ((h c).2.2.2.2.1).trans (by rw [h0, h1, h2, h3]), (h c).2.2.2.2.2⟩) (Cert.LN2LossRefIdeal.Value.run m' g')⟩

end Cert.LN2LossIdeal.Whole

end
-- ==== Proof.MixerWhole.lean ====
/- The forward call of the mixer: what it leaves as the output of its causal convolution is what the reference computes of the whole arguments. -/
module

public import proofs.«01_k».proof.Defs
public import proofs.«01_k».proof.Proof.Gen.MixerIdeal
public import proofs.«01_k».proof.Proof.Gen.MixerRefIdeal
public import proofs.«01_k».proof.Proof.Gen.MixerIdeal.Value
public import proofs.«01_k».proof.Proof.Gen.MixerRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixerIdeal.Whole

open Cert.MixerIdeal Cert.MixerIdeal.Gen

variable (m : (ℓ : Loc nD τ sig) → Buf (Elt Ideal) ℓ)

/-- The reference's result, over whole arrays. -/
abbrev whole (x : FVec Ideal S4096x4608 .f32) (w : FVec Ideal S3x1024 .f32) : FVec Ideal S4096x1024 .f32 :=
  addf (addf (mulf (broadcastInDim Cert.MixerRefIdeal.S4096x1024 ![0, 1] Cert.MixerRefIdeal.Gen.bcast_S1x1024_S4096x1024_0_1 (broadcastInDim Cert.MixerRefIdeal.S1x1024 ![1] Cert.MixerRefIdeal.Gen.bcast_S1024_S1x1024_1 (shapeCast _ (extractStridedSlice Cert.MixerRefIdeal.S1x1024 ![0, 0] w Cert.MixerRefIdeal.Gen.slices_S3x1024_S1x1024_0_0) Cert.MixerRefIdeal.Gen.shapeCasts_S1x1024_S1024))) (extractStridedSlice Cert.MixerRefIdeal.S4096x1024 ![0, 0] (concatenate Cert.MixerRefIdeal.S4098x1024 0 [⟨Cert.MixerRefIdeal.S2x1024, (broadcastInDim Cert.MixerRefIdeal.S2x1024 ![] Cert.MixerRefIdeal.Gen.bcast_S_S2x1024 (constant Cert.MixerRefIdeal.S_ .f32 0x00000000#32))⟩, ⟨Cert.MixerRefIdeal.S4096x1024, (mulf (extractStridedSlice Cert.MixerRefIdeal.S4096x1024 ![0, 1536] x Cert.MixerRefIdeal.Gen.slices_S4096x4608_S4096x1024_0_1536) (extractStridedSlice Cert.MixerRefIdeal.S4096x1024 ![0, 3584] x Cert.MixerRefIdeal.Gen.slices_S4096x4608_S4096x1024_0_3584))⟩] Cert.MixerRefIdeal.Gen.concatenates_S2x1024_S4096x1024_S4098x1024_d0) Cert.MixerRefIdeal.Gen.slices_S4098x1024_S4096x1024_0_0)) (mulf (broadcastInDim Cert.MixerRefIdeal.S4096x1024 ![0, 1] Cert.MixerRefIdeal.Gen.bcast_S1x1024_S4096x1024_0_1 (broadcastInDim Cert.MixerRefIdeal.S1x1024 ![1] Cert.MixerRefIdeal.Gen.bcast_S1024_S1x1024_1 (shapeCast _ (extractStridedSlice Cert.MixerRefIdeal.S1x1024 ![1, 0] w Cert.MixerRefIdeal.Gen.slices_S3x1024_S1x1024_1_0) Cert.MixerRefIdeal.Gen.shapeCasts_S1x1024_S1024))) (extractStridedSlice Cert.MixerRefIdeal.S4096x1024 ![1, 0] (concatenate Cert.MixerRefIdeal.S4098x1024 0 [⟨Cert.MixerRefIdeal.S2x1024, (broadcastInDim Cert.MixerRefIdeal.S2x1024 ![] Cert.MixerRefIdeal.Gen.bcast_S_S2x1024 (constant Cert.MixerRefIdeal.S_ .f32 0x00000000#32))⟩, ⟨Cert.MixerRefIdeal.S4096x1024, (mulf (extractStridedSlice Cert.MixerRefIdeal.S4096x1024 ![0, 1536] x Cert.MixerRefIdeal.Gen.slices_S4096x4608_S4096x1024_0_1536) (extractStridedSlice Cert.MixerRefIdeal.S4096x1024 ![0, 3584] x Cert.MixerRefIdeal.Gen.slices_S4096x4608_S4096x1024_0_3584))⟩] Cert.MixerRefIdeal.Gen.concatenates_S2x1024_S4096x1024_S4098x1024_d0) Cert.MixerRefIdeal.Gen.slices_S4098x1024_S4096x1024_1_0))) (mulf (broadcastInDim Cert.MixerRefIdeal.S4096x1024 ![0, 1] Cert.MixerRefIdeal.Gen.bcast_S1x1024_S4096x1024_0_1 (broadcastInDim Cert.MixerRefIdeal.S1x1024 ![1] Cert.MixerRefIdeal.Gen.bcast_S1024_S1x1024_1 (shapeCast _ (extractStridedSlice Cert.MixerRefIdeal.S1x1024 ![2, 0] w Cert.MixerRefIdeal.Gen.slices_S3x1024_S1x1024_2_0) Cert.MixerRefIdeal.Gen.shapeCasts_S1x1024_S1024))) (extractStridedSlice Cert.MixerRefIdeal.S4096x1024 ![2, 0] (concatenate Cert.MixerRefIdeal.S4098x1024 0 [⟨Cert.MixerRefIdeal.S2x1024, (broadcastInDim Cert.MixerRefIdeal.S2x1024 ![] Cert.MixerRefIdeal.Gen.bcast_S_S2x1024 (constant Cert.MixerRefIdeal.S_ .f32 0x00000000#32))⟩, ⟨Cert.MixerRefIdeal.S4096x1024, (mulf (extractStridedSlice Cert.MixerRefIdeal.S4096x1024 ![0, 1536] x Cert.MixerRefIdeal.Gen.slices_S4096x4608_S4096x1024_0_1536) (extractStridedSlice Cert.MixerRefIdeal.S4096x1024 ![0, 3584] x Cert.MixerRefIdeal.Gen.slices_S4096x4608_S4096x1024_0_3584))⟩] Cert.MixerRefIdeal.Gen.concatenates_S2x1024_S4096x1024_S4098x1024_d0) Cert.MixerRefIdeal.Gen.slices_S4098x1024_S4096x1024_2_0))

/-- Which block of its array each window holds at a grid point: the one before, but the first at the first point; the one of the point. -/
theorem places : ∀ t : Fin cfg0.N, win0_0.index t = ![(grid0.coords t 0).val - 1, 0] ∧ win0_1.index t = ![(grid0.coords t 0).val, 0] ∧ win0_7.index t = ![0, 0] ∧ win0_11.index t = ![(grid0.coords t 0).val, 0] :=
  (by decide +kernel : ∀ t : Fin grid0.N, _)

/-- The gated input of the convolution, at a row given as a number and a column. -/
def gated (x : FVec Ideal S4096x4608 .f32) (r : ℕ) (b : Fin 1024) : EReal :=
  if h : r < 4096 then x (ix2 ⟨r, h⟩ ⟨1536 + b.val, by omega⟩) * x (ix2 ⟨r, h⟩ ⟨3584 + b.val, by omega⟩) else 0

theorem gated_of (x : FVec Ideal S4096x4608 .f32) (r : ℕ) (b : Fin 1024) (h : r < 4096) :
    gated x r b = x (ix2 ⟨r, h⟩ ⟨1536 + b.val, by omega⟩) * x (ix2 ⟨r, h⟩ ⟨3584 + b.val, by omega⟩) := dif_pos h

/-- The reference at an element: three taps, over this row and the two before it, none before the first row. -/
theorem whole_at (x : FVec Ideal S4096x4608 .f32) (w : FVec Ideal S3x1024 .f32) (r : Fin 4096) (b : Fin 1024) :
    whole x w (ix2 r b) = (w (ix2 0 b) * (if r.val < 2 then 0 else gated x (r.val - 2) b)
      + w (ix2 1 b) * (if r.val < 1 then 0 else gated x (r.val - 1) b)) + w (ix2 2 b) * gated x r.val b := by
  pointwise [whole]
  rw [gated_of x r.val b r.isLt]
  refine congrArg₂ (· + ·) (congrArg₂ (· + ·) (congrArg (_ * ·) ?_) (congrArg (_ * ·) ?_)) rfl
  · by_cases h : r.val < 2
    · rw [dif_pos h, if_pos h]
    · rw [dif_neg h, if_neg h, gated_of x (r.val - 2) b (by omega)]
  · by_cases h : r.val < 1
    · rw [dif_pos (by omega), if_pos h]
    · rw [dif_neg (by omega), if_neg h, gated_of x (r.val - 1) b (by omega)]
      have e : (⟨1 + r.val - 2, by omega⟩ : Fin 4096) = ⟨r.val - 1, by omega⟩ := Fin.ext (by show 1 + r.val - 2 = r.val - 1; omega)
      exact congrArg (fun k : Fin 4096 => x (ix2 k ⟨1536 + b.val, by omega⟩) * x (ix2 k ⟨3584 + b.val, by omega⟩)) e

/-- The gated input in the block of the point. -/
theorem read_cur (c : Dev nD) (t : Fin cfg0.N) (a : Fin 128) (k : Fin 4608) (h : (grid0.coords t 0).val * 128 + a.val < 4096) :
    iblk m c 1 t (ix2 a k) = m ((c : Thread nD τ).loc main_arg0) (ix2 ⟨(grid0.coords t 0).val * 128 + a.val, h⟩ k) := by
  refine Eq.trans ?_ (congrFun (V_main_arg0 m c) _)
  blk_point [iblk, places t]

/-- The gated input in the block before it. -/
theorem read_prev (c : Dev nD) (t : Fin cfg0.N) (a : Fin 128) (k : Fin 4608) (h : ((grid0.coords t 0).val - 1) * 128 + a.val < 4096) :
    iblk m c 0 t (ix2 a k) = m ((c : Thread nD τ).loc main_arg0) (ix2 ⟨((grid0.coords t 0).val - 1) * 128 + a.val, h⟩ k) := by
  refine Eq.trans ?_ (congrFun (V_main_arg0 m c) _)
  blk_point [iblk, places t]

/-- The taps, in the block of eight rows that the call reads them from. -/
theorem taps (c : Dev nD) (t : Fin cfg0.N) (k : Fin 3) (b : Fin 1024) :
    iblk m c 7 t (ix2 ⟨k.val, by omega⟩ b) = m ((c : Thread nD τ).loc main_arg5) (ix2 k b) := by
  have e : iblk m c 7 t (ix2 ⟨k.val, by omega⟩ b) = V m c main_v0 (ix2 ⟨k.val, by omega⟩ b) := by
    blk_point [iblk, places t]
  refine e.trans ?_
  have e' : V m c main_v0 = pad S8x1024 ![0, 0] ![5, 0] ![0, 0] (show FVec Ideal S3x1024 .f32 from m ((c : Thread nD τ).loc main_arg5)) (sitofp (F := Ideal) .f32 (constantI S_ 32 0#32)) pads_S3x1024_S8x1024_050_000 h_S_ := by
    unfold V
    simp only [hostOps0, hostOps0_1, List.flatten_cons, List.flatten_nil, List.append_nil, List.cons_append, List.nil_append]
    after_results <;> rfl
  rw [e']
  pointwise []

/-- The convolution's output, tile by tile: each tile is what the reference has there. -/
theorem written (c : Dev nD) : (dats m 0 c).arrAt 11 (cfgs 0).N = whole (m ((c : Thread nD τ).loc main_arg0)) (m ((c : Thread nD τ).loc main_arg5)) := by
  refine (dats m 0 c).arrAt_eq_of_covers 11 _ (by decide +kernel) fun t hf y => ?_
  have h0 : (y 0).val < 128 := (y 0).isLt
  have h1 : (y 1).val < 1024 := (y 1).isLt
  have hg : (grid0.coords t 0).val < 32 := (grid0.coords t 0).isLt
  have hr : (grid0.coords t 0).val * 128 + (y 0).val < 4096 := by omega
  have e : ((win0_11.blk t).view.emb y) = ix2 ⟨(grid0.coords t 0).val * 128 + (y 0).val, hr⟩ ⟨(y 1).val, h1⟩ := by
    blk_point [places t]
  blk_simp
  refine Eq.trans ?_ ((congrArg (whole _ _) e).trans (whole_at _ _ _ _)).symm
  rw [after0_11]
  frame_out
  pointwise [k0_pay1, k0_pay103, k0_pay104, k0_pay105]
  have hn : ∀ k < 32, (IntOp.cmpi CmpIPredicate.eq (BitVec.ofNat 32 k) 0#32) = if k = 0 then 1#1 else 0#1 := by decide
  have ha0 : ∀ k < 128, (IntOp.cmpi CmpIPredicate.eq (BitVec.ofNat 32 k) 0#32) = if k = 0 then 1#1 else 0#1 := by decide
  have ha1 : ∀ k < 128, (IntOp.cmpi CmpIPredicate.eq (BitVec.ofNat 32 k) 1#32) = if k = 1 then 1#1 else 0#1 := by decide
  rw [ha0 _ h0, ha1 _ h0]
  rw [show Scalar.cmpi CmpIPredicate.eq (BitVec.ofNat 32 ↑(grid0.coords t 0)) 0#32 = _ from hn _ hg]
  have t0 : (iblk m c 7 t (ix2 0 (y 1)) : EReal) = m ((c : Thread nD τ).loc main_arg5) (ix2 0 ⟨(y 1).val, h1⟩) := taps m c t 0 ⟨(y 1).val, h1⟩
  have t1 : (iblk m c 7 t (ix2 1 (y 1)) : EReal) = m ((c : Thread nD τ).loc main_arg5) (ix2 1 ⟨(y 1).val, h1⟩) := taps m c t 1 ⟨(y 1).val, h1⟩
  have t2 : (iblk m c 7 t (ix2 2 (y 1)) : EReal) = m ((c : Thread nD τ).loc main_arg5) (ix2 2 ⟨(y 1).val, h1⟩) := taps m c t 2 ⟨(y 1).val, h1⟩
  have cur : ∀ (a : Fin 128) (r : Nat), (grid0.coords t 0).val * 128 + a.val = r →
      (show EReal from iblk m c 1 t (ix2 a ⟨1536 + (y 1).val, by omega⟩)) * (show EReal from iblk m c 1 t (ix2 a ⟨3584 + (y 1).val, by omega⟩)) =
        gated (m ((c : Thread nD τ).loc main_arg0)) r (y 1) := by
    intro a r e
    subst e
    refine Eq.trans ?_ (gated_of _ _ ⟨(y 1).val, h1⟩ (show (grid0.coords t 0).val * 128 + a.val < 4096 by omega)).symm
    exact congrArg₂ (fun u v : EReal => u * v) (read_cur m c t a _ (by omega)) (read_cur m c t a _ (by omega))
  have prev : ∀ (a : Fin 128) (r : Nat), ((grid0.coords t 0).val - 1) * 128 + a.val = r →
      (show EReal from iblk m c 0 t (ix2 a ⟨1536 + (y 1).val, by omega⟩)) * (show EReal from iblk m c 0 t (ix2 a ⟨3584 + (y 1).val, by omega⟩)) =
        gated (m ((c : Thread nD τ).loc main_arg0)) r (y 1) := by
    intro a r e
    subst e
    refine Eq.trans ?_ (gated_of _ _ ⟨(y 1).val, h1⟩ (show ((grid0.coords t 0).val - 1) * 128 + a.val < 4096 by omega)).symm
    exact congrArg₂ (fun u v : EReal => u * v) (read_prev m c t a _ (by omega)) (read_prev m c t a _ (by omega))
  refine congrArg₂ (fun u v : EReal => u + v) (congrArg₂ (fun u v : EReal => u + v) (congrArg₂ (fun u v : EReal => u * v) t0 ?_)
    (congrArg₂ (fun u v : EReal => u * v) t1 ?_)) (congrArg₂ (fun u v : EReal => u * v) t2 ?_)
  · by_cases y0 : (y 0).val = 0
    · by_cases hn0 : (grid0.coords t 0).val = 0
      · rw [if_neg (show ¬ (y 0).val = 1 by omega), if_pos y0, if_pos hn0, if_pos (show (grid0.coords t 0).val * 128 + (y 0).val < 2 by omega)]; rfl
      · rw [if_neg (show ¬ (y 0).val = 1 by omega), if_pos y0, if_neg hn0, if_neg (show ¬ (grid0.coords t 0).val * 128 + (y 0).val < 2 by omega)]
        exact prev 126 _ (by show _ * 128 + 126 = _; omega)
    · by_cases y1 : (y 0).val = 1
      · by_cases hn0 : (grid0.coords t 0).val = 0
        · rw [if_pos y1, if_pos hn0, if_pos (show (grid0.coords t 0).val * 128 + (y 0).val < 2 by omega)]; rfl
        · rw [if_pos y1, if_neg hn0, if_neg (show ¬ (grid0.coords t 0).val * 128 + (y 0).val < 2 by omega)]
          exact prev 127 _ (by show _ * 128 + 127 = _; omega)
      · rw [if_neg y1, if_neg y0, if_neg (show ¬ (grid0.coords t 0).val * 128 + (y 0).val < 2 by omega)]
        exact cur ⟨((y 0).val + 128 - 2) % 128, by omega⟩ _ (by show _ * 128 + ((y 0).val + 128 - 2) % 128 = _; omega)
  · by_cases y0 : (y 0).val = 0
    · by_cases hn0 : (grid0.coords t 0).val = 0
      · rw [if_pos y0, if_pos hn0, if_pos (show (grid0.coords t 0).val * 128 + (y 0).val < 1 by omega)]; rfl
      · rw [if_pos y0, if_neg hn0, if_neg (show ¬ (grid0.coords t 0).val * 128 + (y 0).val < 1 by omega)]
        exact prev 127 _ (by show _ * 128 + 127 = _; omega)
    · rw [if_neg y0, if_neg (show ¬ (grid0.coords t 0).val * 128 + (y 0).val < 1 by omega)]
      exact cur ⟨((y 0).val + 128 - 1) % 128, by omega⟩ _ (by show _ * 128 + ((y 0).val + 128 - 1) % 128 = _; omega)
  · exact cur ⟨(y 0).val, h0⟩ _ rfl

/-- Call and reference leave the same array. -/
theorem same : Cert.algebraic_MixerIdeal_MixerRefIdeal := fun m g m' g' hp hm =>
  ⟨fun c => whole (m ((c : Thread nD τ).loc main_arg0)) (m ((c : Thread nD τ).loc main_arg5)),
    (θ_run defs _ _).mono (fun r h c => ⟨((h c).2.2.2.1).trans (written m c), (h c).2.2.2.2.2⟩) (Value.run_blocks m g),
    (θ_run Cert.MixerRefIdeal.defs _ _).mono (fun r h c => by
      obtain ⟨h0, _, _, _, _, h1⟩ := hm c
      exact ⟨((h c).1).trans (by rw [h0, h1]), (h c).2⟩) (Cert.MixerRefIdeal.Value.run m' g')⟩

end Cert.MixerIdeal.Whole

end
-- ==== Proof.PatchWhole.lean ====
/- The call that puts the gradient of the keys and values into its columns of the projection's gradient: what the array holds afterwards is what the reference puts together. -/
module

public import proofs.«01_k».proof.Defs
public import proofs.«01_k».proof.Proof.Gen.PatchIdeal
public import proofs.«01_k».proof.Proof.Gen.PatchRefIdeal
public import proofs.«01_k».proof.Proof.Gen.PatchIdeal.Value
public import proofs.«01_k».proof.Proof.Gen.PatchRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PatchIdeal.Whole

open Cert.PatchIdeal Cert.PatchIdeal.Gen

variable (m : (ℓ : Loc nD τ sig) → Buf (Elt Ideal) ℓ)

/-- The reference's result, over whole arrays: the columns before, the part, the columns after. -/
abbrev whole (x0 : FVec Ideal S4096x4608 .bf16) (x1 : FVec Ideal S4096x512 .bf16) : FVec Ideal S4096x4608 .bf16 :=
  concatenate Cert.PatchRefIdeal.S4096x4608 1 [⟨Cert.PatchRefIdeal.S4096x1024, extractStridedSlice Cert.PatchRefIdeal.S4096x1024 ![0, 0] x0 Cert.PatchRefIdeal.Gen.slices_S4096x4608_S4096x1024_0_0⟩, ⟨Cert.PatchRefIdeal.S4096x512, x1⟩, ⟨Cert.PatchRefIdeal.S4096x3072, extractStridedSlice Cert.PatchRefIdeal.S4096x3072 ![0, 1536] x0 Cert.PatchRefIdeal.Gen.slices_S4096x4608_S4096x3072_0_1536⟩] Cert.PatchRefIdeal.Gen.concatenates_S4096x1024_S4096x512_S4096x3072_S4096x4608_d1

/-- Which block of its array each window holds at a grid point. -/
theorem places : ∀ t : Fin cfg0.N, win0_0.index t = ![(grid0.coords t 0).val, 0] ∧ win0_1.index t = ![(grid0.coords t 0).val, 2] :=
  (by decide +kernel : ∀ t : Fin grid0.N, _)

/-- In the columns from 1024 on, before 1536, the reference has the part. -/
theorem inside (x0 : FVec Ideal S4096x4608 .bf16) (x1 : FVec Ideal S4096x512 .bf16) (i : Fin 4096) (k : Fin 512) :
    whole x0 x1 (ix2 i ⟨1024 + k.val, by omega⟩) = x1 (ix2 i k) := by
  pointwise [whole]

/-- In the other columns the reference has the array as it came. -/
theorem outside (x0 : FVec Ideal S4096x4608 .bf16) (x1 : FVec Ideal S4096x512 .bf16) (i : Fin 4096) (k : Fin 4608)
    (h : ¬ k.val / 512 = 2) : whole x0 x1 (ix2 i k) = x0 (ix2 i k) := by
  pointwise [whole]
  split
  · rfl
  · split
    · exfalso
      have : ¬ k.val < 1024 := by assumption
      have : k.val - 1024 < 512 := by assumption
      omega
    · have : ¬ k.val < 1024 := by assumption
      have : ¬ k.val - 1024 < 512 := by assumption
      exact congrArg x0 (congrArg (ix2 i) (Fin.ext (by show 1536 + (k.val - 1024 - 512) = k.val; omega)))

/-- The result of the call: the written tiles hold the part, the others what the array came with. -/
theorem written (c : Dev nD) : (dats m 0 c).arrAt 1 (cfgs 0).N = whole (m ((c : Thread nD τ).loc main_arg0)) (m ((c : Thread nD τ).loc main_arg1)) := by
  refine (dats m 0 c).arrAt_eq_of_coversWhere_of_agree 1 _ (fun β => β (1 : Fin 2) = 2) (by decide +kernel) (fun t hf y => ?_) (fun j hj => ?_)
  · blk_simp
    rw [after0_1]
    have h0 : (y 0).val < 512 := (y 0).isLt
    have h1 : (y 1).val < 512 := (y 1).isLt
    have hg : (grid0.coords t 0).val < 8 := (grid0.coords t 0).isLt
    have hr : (grid0.coords t 0).val * 512 + (y 0).val < 4096 := by omega
    have hc : 1024 + (y 1).val < 4608 := by omega
    have e : ((win0_1.blk t).view.emb y) = ix2 ⟨(grid0.coords t 0).val * 512 + (y 0).val, hr⟩ ⟨1024 + (y 1).val, hc⟩ := by
      blk_point [places t]
    refine Eq.trans ?_ (congrArg (whole _ _) e).symm
    refine Eq.trans ?_ (inside _ _ _ ⟨(y 1).val, h1⟩).symm
    unfold outsAt0 out0_A_1 kernelRun0_A
    frame_out
    blk_point [iblk, V, places t]
  · blk_simp [Pipeline.Window.cell_apply] at hj
    rw [A_eq]
    rw [eq_ix2 j]
    refine Eq.trans ?_ (outside _ _ _ _ hj).symm
    show V m c main_v0 _ = _
    unfold V
    after_results <;> rfl

/-- Call and reference leave the same array. -/
theorem same : Cert.algebraic_PatchIdeal_PatchRefIdeal := fun m g m' g' hp hm =>
  ⟨fun c => whole (m ((c : Thread nD τ).loc main_arg0)) (m ((c : Thread nD τ).loc main_arg1)),
    (θ_run defs _ _).mono (fun r h c => ⟨((h c).1).trans (written m c), (h c).2⟩) (Value.run_blocks m g),
    (θ_run Cert.PatchRefIdeal.defs _ _).mono (fun r h c => by
      obtain ⟨h0, h1⟩ := hm c
      exact ⟨((h c).1).trans (by rw [h0, h1]), (h c).2⟩) (Cert.PatchRefIdeal.Value.run m' g')⟩

end Cert.PatchIdeal.Whole

end
-- ==== Proof.lean ====
/- The claims of the certificate: every call runs and leaves its arguments and counters, its idealised text is its text, and what it writes is what its reference computes. -/
module

public import proofs.«01_k».proof.Defs
public import proofs.«01_k».proof.Proof.Gen.DMixed.Frame
public import proofs.«01_k».proof.Proof.Gen.DMixedIdeal.Frame
public import proofs.«01_k».proof.Proof.Gen.DMixedRefIdeal.Run
public import proofs.«01_k».proof.Proof.Gen.DWOut.Frame
public import proofs.«01_k».proof.Proof.Gen.DWOutIdeal.Frame
public import proofs.«01_k».proof.Proof.Gen.DWOutRefIdeal.Run
public import proofs.«01_k».proof.Proof.Gen.DWDown.Frame
public import proofs.«01_k».proof.Proof.Gen.DWDownIdeal.Frame
public import proofs.«01_k».proof.Proof.Gen.DWDownRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.DAct.Frame
public import proofs.«01_k».proof.Proof.Gen.DActIdeal.Frame
public import proofs.«01_k».proof.Proof.Gen.DActRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.GateUp.Frame
public import proofs.«01_k».proof.Proof.Gen.GateUpIdeal.Frame
public import proofs.«01_k».proof.Proof.Gen.GateUpRefIdeal.Run
public import proofs.«01_k».proof.Proof.Gen.DH1.Frame
public import proofs.«01_k».proof.Proof.Gen.DH1Ideal.Frame
public import proofs.«01_k».proof.Proof.Gen.DH1RefIdeal.Run
public import proofs.«01_k».proof.Proof.Gen.DX.Frame
public import proofs.«01_k».proof.Proof.Gen.DXIdeal.Frame
public import proofs.«01_k».proof.Proof.Gen.DXRefIdeal.Run
public import proofs.«01_k».proof.Proof.Gen.DWIn.Frame
public import proofs.«01_k».proof.Proof.Gen.DWInIdeal.Frame
public import proofs.«01_k».proof.Proof.Gen.DWInRefIdeal.Run
public import proofs.«01_k».proof.Proof.Gen.AdamFF.Frame
public import proofs.«01_k».proof.Proof.Gen.AdamFFIdeal.Frame
public import proofs.«01_k».proof.Proof.Gen.AdamFFRefIdeal.Run
public import proofs.«01_k».proof.Proof.Gen.AdamIn.Frame
public import proofs.«01_k».proof.Proof.Gen.AdamInIdeal.Frame
public import proofs.«01_k».proof.Proof.Gen.AdamInRefIdeal.Run
public import proofs.«01_k».proof.Proof.Gen.AdamOut.Frame
public import proofs.«01_k».proof.Proof.Gen.AdamOutIdeal.Frame
public import proofs.«01_k».proof.Proof.Gen.AdamOutRefIdeal.Run
public import proofs.«01_k».proof.Proof.Gen.AdamSmall.Frame
public import proofs.«01_k».proof.Proof.Gen.AdamSmallIdeal.Frame
public import proofs.«01_k».proof.Proof.Gen.AdamSmallRefIdeal.Run
public import proofs.«01_k».proof.Proof.Gen.LN1.Frame
public import proofs.«01_k».proof.Proof.Gen.LN1Ideal.Frame
public import proofs.«01_k».proof.Proof.Gen.LN1RefIdeal.Run
public import proofs.«01_k».proof.Proof.Gen.LN1Bwd.Frame
public import proofs.«01_k».proof.Proof.Gen.LN1BwdIdeal.Frame
public import proofs.«01_k».proof.Proof.Gen.LN1BwdRefIdeal.Run
public import proofs.«01_k».proof.Proof.Gen.LN2Loss.Frame
public import proofs.«01_k».proof.Proof.Gen.LN2LossIdeal.Frame
public import proofs.«01_k».proof.Proof.Gen.LN2LossRefIdeal.Run
public import proofs.«01_k».proof.Proof.Gen.Mixer.Frame
public import proofs.«01_k».proof.Proof.Gen.MixerIdeal.Frame
public import proofs.«01_k».proof.Proof.Gen.MixerRefIdeal.Run
public import proofs.«01_k».proof.Proof.Gen.Patch.Frame
public import proofs.«01_k».proof.Proof.Gen.PatchIdeal.Frame
public import proofs.«01_k».proof.Proof.Gen.PatchRefIdeal.Run
public import proofs.«01_k».proof.Proof.DMixedWhole
public import proofs.«01_k».proof.Proof.DWOutWhole
public import proofs.«01_k».proof.Proof.DWDownWhole
public import proofs.«01_k».proof.Proof.DownWhole
public import proofs.«01_k».proof.Proof.DActWhole
public import proofs.«01_k».proof.Proof.ProjWhole
public import proofs.«01_k».proof.Proof.OutProjWhole
public import proofs.«01_k».proof.Proof.GateUpWhole
public import proofs.«01_k».proof.Proof.DH1Whole
public import proofs.«01_k».proof.Proof.DXWhole
public import proofs.«01_k».proof.Proof.DWInWhole
public import proofs.«01_k».proof.Proof.AdamFFWhole
public import proofs.«01_k».proof.Proof.AdamInWhole
public import proofs.«01_k».proof.Proof.AdamOutWhole
public import proofs.«01_k».proof.Proof.AdamSmallWhole
public import proofs.«01_k».proof.Proof.LN1Whole
public import proofs.«01_k».proof.Proof.LN1BwdWhole
public import proofs.«01_k».proof.Proof.LN2LossWhole
public import proofs.«01_k».proof.Proof.MixerWhole
public import proofs.«01_k».proof.Proof.PatchWhole
public import proofs.«01_k».proof.Proof.Gen.DMixedIdeal.Value
public import proofs.«01_k».proof.Proof.Gen.DWOutIdeal.Value
public import proofs.«01_k».proof.Proof.Gen.DWDownIdeal.Value
public import proofs.«01_k».proof.Proof.Gen.DownIdeal.Value
public import proofs.«01_k».proof.Proof.Gen.DActIdeal.Value
public import proofs.«01_k».proof.Proof.Gen.ProjIdeal.Value
public import proofs.«01_k».proof.Proof.Gen.OutProjIdeal.Value
public import proofs.«01_k».proof.Proof.Gen.GateUpIdeal.Value
public import proofs.«01_k».proof.Proof.Gen.DH1Ideal.Value
public import proofs.«01_k».proof.Proof.Gen.DXIdeal.Value
public import proofs.«01_k».proof.Proof.Gen.DWInIdeal.Value
public import proofs.«01_k».proof.Proof.Gen.AdamFFIdeal.Value
public import proofs.«01_k».proof.Proof.Gen.AdamInIdeal.Value
public import proofs.«01_k».proof.Proof.Gen.AdamOutIdeal.Value
public import proofs.«01_k».proof.Proof.Gen.AdamSmallIdeal.Value
public import proofs.«01_k».proof.Proof.Gen.LN1Ideal.Value
public import proofs.«01_k».proof.Proof.Gen.LN1BwdIdeal.Value
public import proofs.«01_k».proof.Proof.Gen.LN2LossIdeal.Value
public import proofs.«01_k».proof.Proof.Gen.MixerIdeal.Value
public import proofs.«01_k».proof.Proof.Gen.PatchIdeal.Value

@[expose] public section

namespace Cert.Proof

open Idealize.ShloMosaic Idealize.SL.Sem

theorem claim : Cert.Claim := ⟨Cert.DMixed.Gen.facts, Cert.DMixedIdeal.Gen.facts, Cert.DMixedRefIdeal.Gen.facts, Cert.DWOut.Gen.facts, Cert.DWOutIdeal.Gen.facts, Cert.DWOutRefIdeal.Gen.facts, Cert.DWDown.Gen.facts, Cert.DWDownIdeal.Gen.facts, Cert.DWDownRefIdeal.Gen.facts, Cert.Down.Gen.facts, Cert.DownIdeal.Gen.facts, Cert.DownRefIdeal.Gen.facts, Cert.DAct.Gen.facts, Cert.DActIdeal.Gen.facts, Cert.DActRefIdeal.Gen.facts, Cert.Proj.Gen.facts, Cert.ProjIdeal.Gen.facts, Cert.ProjRefIdeal.Gen.facts, Cert.OutProj.Gen.facts, Cert.OutProjIdeal.Gen.facts, Cert.OutProjRefIdeal.Gen.facts, Cert.GateUp.Gen.facts, Cert.GateUpIdeal.Gen.facts, Cert.GateUpRefIdeal.Gen.facts, Cert.DH1.Gen.facts, Cert.DH1Ideal.Gen.facts, Cert.DH1RefIdeal.Gen.facts, Cert.DX.Gen.facts, Cert.DXIdeal.Gen.facts, Cert.DXRefIdeal.Gen.facts, Cert.DWIn.Gen.facts, Cert.DWInIdeal.Gen.facts, Cert.DWInRefIdeal.Gen.facts, Cert.AdamFF.Gen.facts, Cert.AdamFFIdeal.Gen.facts, Cert.AdamFFRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.AdamSmall.Gen.facts, Cert.AdamSmallIdeal.Gen.facts, Cert.AdamSmallRefIdeal.Gen.facts, Cert.LN1.Gen.facts, Cert.LN1Ideal.Gen.facts, Cert.LN1RefIdeal.Gen.facts, Cert.LN1Bwd.Gen.facts, Cert.LN1BwdIdeal.Gen.facts, Cert.LN1BwdRefIdeal.Gen.facts, Cert.LN2Loss.Gen.facts, Cert.LN2LossIdeal.Gen.facts, Cert.LN2LossRefIdeal.Gen.facts, Cert.Mixer.Gen.facts, Cert.MixerIdeal.Gen.facts, Cert.MixerRefIdeal.Gen.facts, Cert.Patch.Gen.facts, Cert.PatchIdeal.Gen.facts, Cert.PatchRefIdeal.Gen.facts, Cert.Pre_dact_finite.Gen.facts, Cert.Pre_ln1_bwd_finite.Gen.facts, Cert.Pre_ln2_loss_finite.Gen.facts,
  fun m ρ _ => Cert.DMixed.Gen.frame m ρ,
  fun m ρ _ => Cert.DMixedIdeal.Gen.frame m ρ,
  fun m ρ _ => (θ_run Cert.DMixedRefIdeal.defs _ _).mono (fun r h => ⟨fun c => (h c).2, sem_eq_zero_of_no_sems (by decide) r.2⟩) (Cert.DMixedRefIdeal.Value.run m ρ),
  fun m ρ _ => Cert.DWOut.Gen.frame m ρ,
  fun m ρ _ => Cert.DWOutIdeal.Gen.frame m ρ,
  fun m ρ _ => (θ_run Cert.DWOutRefIdeal.defs _ _).mono (fun r h => ⟨fun c => (h c).2, sem_eq_zero_of_no_sems (by decide) r.2⟩) (Cert.DWOutRefIdeal.Value.run m ρ),
  fun m ρ _ => Cert.DWDown.Gen.frame m ρ,
  fun m ρ _ => Cert.DWDownIdeal.Gen.frame m ρ,
  fun m ρ _ => (θ_run Cert.DWDownRefIdeal.defs _ _).mono (fun r h => ⟨fun c => (h c).2, sem_eq_zero_of_no_sems (by decide) r.2⟩) (Cert.DWDownRefIdeal.Value.run m ρ),
  fun m ρ _ => Cert.Down.Gen.frame m ρ,
  fun m ρ _ => Cert.DownIdeal.Gen.frame m ρ,
  fun m ρ _ => (θ_run Cert.DownRefIdeal.defs _ _).mono (fun r h => ⟨fun c => (h c).2, sem_eq_zero_of_no_sems (by decide) r.2⟩) (Cert.DownRefIdeal.Value.run m ρ),
  fun m ρ _ => Cert.DAct.Gen.frame m ρ,
  fun m ρ _ => Cert.DActIdeal.Gen.frame m ρ,
  fun m ρ _ => Cert.DActIdeal.Gen.frame m ρ,
  fun m ρ _ => (θ_run Cert.DActRefIdeal.defs _ _).mono (fun r h => ⟨fun c => (h c).2.2, sem_eq_zero_of_no_sems (by decide) r.2⟩) (Cert.DActRefIdeal.Value.run m ρ),
  fun m ρ _ => (θ_run Cert.DActRefIdeal.defs _ _).mono (fun r h => ⟨fun c => (h c).2.2, sem_eq_zero_of_no_sems (by decide) r.2⟩) (Cert.DActRefIdeal.Value.run m ρ),
  fun m ρ _ => Cert.Proj.Gen.frame m ρ,
  fun m ρ _ => Cert.ProjIdeal.Gen.frame m ρ,
  fun m ρ _ => (θ_run Cert.ProjRefIdeal.defs _ _).mono (fun r h => ⟨fun c => (h c).2, sem_eq_zero_of_no_sems (by decide) r.2⟩) (Cert.ProjRefIdeal.Value.run m ρ),
  fun m ρ _ => Cert.OutProj.Gen.frame m ρ,
  fun m ρ _ => Cert.OutProjIdeal.Gen.frame m ρ,
  fun m ρ _ => (θ_run Cert.OutProjRefIdeal.defs _ _).mono (fun r h => ⟨fun c => (h c).2, sem_eq_zero_of_no_sems (by decide) r.2⟩) (Cert.OutProjRefIdeal.Value.run m ρ),
  fun m ρ _ => Cert.GateUp.Gen.frame m ρ,
  fun m ρ _ => Cert.GateUpIdeal.Gen.frame m ρ,
  fun m ρ _ => (θ_run Cert.GateUpRefIdeal.defs _ _).mono (fun r h => ⟨fun c => (h c).2.2.2, sem_eq_zero_of_no_sems (by decide) r.2⟩) (Cert.GateUpRefIdeal.Value.run m ρ),
  fun m ρ _ => Cert.DH1.Gen.frame m ρ,
  fun m ρ _ => Cert.DH1Ideal.Gen.frame m ρ,
  fun m ρ _ => (θ_run Cert.DH1RefIdeal.defs _ _).mono (fun r h => ⟨fun c => (h c).2, sem_eq_zero_of_no_sems (by decide) r.2⟩) (Cert.DH1RefIdeal.Value.run m ρ),
  fun m ρ _ => Cert.DX.Gen.frame m ρ,
  fun m ρ _ => Cert.DXIdeal.Gen.frame m ρ,
  fun m ρ _ => (θ_run Cert.DXRefIdeal.defs _ _).mono (fun r h => ⟨fun c => (h c).2, sem_eq_zero_of_no_sems (by decide) r.2⟩) (Cert.DXRefIdeal.Value.run m ρ),
  fun m ρ _ => Cert.DWIn.Gen.frame m ρ,
  fun m ρ _ => Cert.DWInIdeal.Gen.frame m ρ,
  fun m ρ _ => (θ_run Cert.DWInRefIdeal.defs _ _).mono (fun r h => ⟨fun c => (h c).2, sem_eq_zero_of_no_sems (by decide) r.2⟩) (Cert.DWInRefIdeal.Value.run m ρ),
  fun m ρ _ => Cert.AdamFF.Gen.frame m ρ,
  fun m ρ _ => Cert.AdamFFIdeal.Gen.frame m ρ,
  fun m ρ _ => (θ_run Cert.AdamFFRefIdeal.defs _ _).mono (fun r h => ⟨fun c => (h c).2.2.2.2, sem_eq_zero_of_no_sems (by decide) r.2⟩) (Cert.AdamFFRefIdeal.Value.run m ρ),
  fun m ρ _ => Cert.AdamIn.Gen.frame m ρ,
  fun m ρ _ => Cert.AdamInIdeal.Gen.frame m ρ,
  fun m ρ _ => (θ_run Cert.AdamInRefIdeal.defs _ _).mono (fun r h => ⟨fun c => (h c).2.2.2.2, sem_eq_zero_of_no_sems (by decide) r.2⟩) (Cert.AdamInRefIdeal.Value.run m ρ),
  fun m ρ _ => Cert.AdamOut.Gen.frame m ρ,
  fun m ρ _ => Cert.AdamOutIdeal.Gen.frame m ρ,
  fun m ρ _ => (θ_run Cert.AdamOutRefIdeal.defs _ _).mono (fun r h => ⟨fun c => (h c).2.2.2.2, sem_eq_zero_of_no_sems (by decide) r.2⟩) (Cert.AdamOutRefIdeal.Value.run m ρ),
  fun m ρ _ => Cert.AdamSmall.Gen.frame m ρ,
  fun m ρ _ => Cert.AdamSmallIdeal.Gen.frame m ρ,
  fun m ρ _ => (θ_run Cert.AdamSmallRefIdeal.defs _ _).mono (fun r h => ⟨fun c => (h c).2.2.2.2, sem_eq_zero_of_no_sems (by decide) r.2⟩) (Cert.AdamSmallRefIdeal.Value.run m ρ),
  fun m ρ _ => Cert.LN1.Gen.frame m ρ,
  fun m ρ _ => Cert.LN1Ideal.Gen.frame m ρ,
  fun m ρ _ => (θ_run Cert.LN1RefIdeal.defs _ _).mono (fun r h => ⟨fun c => (h c).2.2, sem_eq_zero_of_no_sems (by decide) r.2⟩) (Cert.LN1RefIdeal.Value.run m ρ),
  fun m ρ _ => Cert.LN1Bwd.Gen.frame m ρ,
  fun m ρ _ => Cert.LN1BwdIdeal.Gen.frame m ρ,
  fun m ρ _ => Cert.LN1BwdIdeal.Gen.frame m ρ,
  fun m ρ _ => (θ_run Cert.LN1BwdRefIdeal.defs _ _).mono (fun r h => ⟨fun c => (h c).2.2.2.2, sem_eq_zero_of_no_sems (by decide) r.2⟩) (Cert.LN1BwdRefIdeal.Value.run m ρ),
  fun m ρ _ => (θ_run Cert.LN1BwdRefIdeal.defs _ _).mono (fun r h => ⟨fun c => (h c).2.2.2.2, sem_eq_zero_of_no_sems (by decide) r.2⟩) (Cert.LN1BwdRefIdeal.Value.run m ρ),
  fun m ρ _ => Cert.LN2Loss.Gen.frame m ρ,
  fun m ρ _ => Cert.LN2LossIdeal.Gen.frame m ρ,
  fun m ρ _ => Cert.LN2LossIdeal.Gen.frame m ρ,
  fun m ρ _ => (θ_run Cert.LN2LossRefIdeal.defs _ _).mono (fun r h => ⟨fun c => (h c).2.2.2.2.2, sem_eq_zero_of_no_sems (by decide) r.2⟩) (Cert.LN2LossRefIdeal.Value.run m ρ),
  fun m ρ _ => (θ_run Cert.LN2LossRefIdeal.defs _ _).mono (fun r h => ⟨fun c => (h c).2.2.2.2.2, sem_eq_zero_of_no_sems (by decide) r.2⟩) (Cert.LN2LossRefIdeal.Value.run m ρ),
  fun m ρ _ => Cert.Mixer.Gen.frame m ρ,
  fun m ρ _ => Cert.MixerIdeal.Gen.frame m ρ,
  fun m ρ _ => (θ_run Cert.MixerRefIdeal.defs _ _).mono (fun r h => ⟨fun c => (h c).2, sem_eq_zero_of_no_sems (by decide) r.2⟩) (Cert.MixerRefIdeal.Value.run m ρ),
  fun m ρ _ => Cert.Patch.Gen.frame m ρ,
  fun m ρ _ => Cert.PatchIdeal.Gen.frame m ρ,
  fun m ρ _ => (θ_run Cert.PatchRefIdeal.defs _ _).mono (fun r h => ⟨fun c => (h c).2, sem_eq_zero_of_no_sems (by decide) r.2⟩) (Cert.PatchRefIdeal.Value.run m ρ),
  trivial,
  Cert.DMixedIdeal.Whole.same,
  trivial,
  Cert.DWOutIdeal.Whole.same,
  trivial,
  Cert.DWDownIdeal.Whole.same,
  trivial,
  Cert.DownIdeal.Whole.same,
  trivial,
  Cert.DActIdeal.Whole.same,
  trivial,
  Cert.ProjIdeal.Whole.same,
  trivial,
  Cert.OutProjIdeal.Whole.same,
  trivial,
  Cert.GateUpIdeal.Whole.same,
  trivial,
  Cert.DH1Ideal.Whole.same,
  trivial,
  Cert.DXIdeal.Whole.same,
  trivial,
  Cert.DWInIdeal.Whole.same,
  trivial,
  Cert.AdamFFIdeal.Whole.same,
  trivial,
  Cert.AdamInIdeal.Whole.same,
  trivial,
  Cert.AdamOutIdeal.Whole.same,
  trivial,
  Cert.AdamSmallIdeal.Whole.same,
  trivial,
  Cert.LN1Ideal.Whole.same,
  trivial,
  Cert.LN1BwdIdeal.Whole.same,
  trivial,
  Cert.LN2LossIdeal.Whole.same,
  trivial,
  Cert.MixerIdeal.Whole.same,
  trivial,
  Cert.PatchIdeal.Whole.same⟩

end Cert.Proof

end
